-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "qscale" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v108) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  IdealRules.named_const.Statement Cert.Kernel3Ideal.κ "dscale" .f32 0x3E8293EE#32 (((Real.sqrt 32)⁻¹ * (Real.log 2)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S4x8192x4x96 : Shape := ⟨4, ![4, 8192, 4, 96]⟩
abbrev S4x8192x4x64 : Shape := ⟨4, ![4, 8192, 4, 64]⟩
abbrev S_ : Shape := ⟨0, ![]⟩

class Facts : Prop where
  bcast_S_S4x8192x4x96 : S_.BroadcastsInDim S4x8192x4x96 (![] : Fin 0 → Fin S4x8192x4x96.rank)
  reducesTo_S4x8192x4x96_S_d0_1_2_3 : S4x8192x4x96.ReducesTo [0, 1, 2, 3] S_
  h_S_ : 0 < S_.numel

variable [Facts]

def fn {F : FTy → Type} [FloatOps F] (main_arg0 : FVec F S4x8192x4x96 .f32) (main_arg1 : FVec F S4x8192x4x96 .f32) (main_arg2 : FVec F S4x8192x4x64 .f32) : IVec S_ 1 :=
  let main_v0 : FVec F S4x8192x4x96 .f32 := Host.absf main_arg0
  let main_cst : FVec F S_ .f32 := constant S_ .f32 0x7F800000#32
  let main_v1 : FVec F S4x8192x4x96 .f32 := broadcastInDim S4x8192x4x96 ![] bcast_S_S4x8192x4x96 main_cst
  let main_v2 : IVec S4x8192x4x96 1 := cmpf .olt main_v0 main_v1
  let main_c : IVec S_ 1 := constantI S_ 1 1#1
  let main_v3 : IVec S_ 1 := (fun x v => Host.reduce IntOp.andi x v reducesTo_S4x8192x4x96_S_d0_1_2_3 h_S_) main_v2 main_c
  let main_v4 : FVec F S4x8192x4x96 .f32 := Host.absf main_arg1
  let main_cst_0 : FVec F S_ .f32 := constant S_ .f32 0x7F800000#32
  let main_v5 : FVec F S4x8192x4x96 .f32 := broadcastInDim S4x8192x4x96 ![] bcast_S_S4x8192x4x96 main_cst_0
  let main_v6 : IVec S4x8192x4x96 1 := cmpf .olt main_v4 main_v5
  let main_c_1 : IVec S_ 1 := constantI S_ 1 1#1
  let main_v7 : IVec S_ 1 := (fun x v => Host.reduce IntOp.andi x v reducesTo_S4x8192x4x96_S_d0_1_2_3 h_S_) main_v6 main_c_1
  let main_v8 : IVec S_ 1 := andi main_v3 main_v7
  main_v8
-- ==== Pre_finite3.lean ====
abbrev S4x8192x8x32 : Shape := ⟨4, ![4, 8192, 8, 32]⟩
abbrev S4x8192x4x64 : Shape := ⟨4, ![4, 8192, 4, 64]⟩
abbrev S32 : Shape := ⟨1, ![32]⟩
abbrev S64 : Shape := ⟨1, ![64]⟩
abbrev S1 : Shape := ⟨1, ![1]⟩
abbrev S_ : Shape := ⟨0, ![]⟩

class Facts : Prop where
  bcast_S_S4x8192x8x32 : S_.BroadcastsInDim S4x8192x8x32 (![] : Fin 0 → Fin S4x8192x8x32.rank)
  reducesTo_S4x8192x8x32_S_d0_1_2_3 : S4x8192x8x32.ReducesTo [0, 1, 2, 3] S_
  h_S_ : 0 < S_.numel
  bcast_S_S4x8192x4x64 : S_.BroadcastsInDim S4x8192x4x64 (![] : Fin 0 → Fin S4x8192x4x64.rank)
  reducesTo_S4x8192x4x64_S_d0_1_2_3 : S4x8192x4x64.ReducesTo [0, 1, 2, 3] S_
  bcast_S_S32 : S_.BroadcastsInDim S32 (![] : Fin 0 → Fin S32.rank)
  reducesTo_S32_S_d0 : S32.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32 .f32) (main_arg5 : FVec F S32 .f32) (main_arg6 : FVec F S32 .f32) (main_arg8 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_v33

def fn {F : FTy → Type} [FloatOps F] (main_arg0 : FVec F S4x8192x8x32 .f32) (main_arg1 : FVec F S4x8192x8x32 .f32) (main_arg2 : FVec F S4x8192x4x64 .f32) (main_arg3 : FVec F S32 .f32) (main_arg4 : FVec F S32 .f32) (main_arg5 : FVec F S32 .f32) (main_arg6 : FVec F S32 .f32) (main_arg7 : FVec F S64 .f32) (main_arg8 : FVec F S1 .f32) : IVec S_ 1 :=
  let main_v0 : FVec F S4x8192x8x32 .f32 := Host.absf main_arg0
  let main_cst : FVec F S_ .f32 := constant S_ .f32 0x7F800000#32
  let main_v1 : FVec F S4x8192x8x32 .f32 := broadcastInDim S4x8192x8x32 ![] bcast_S_S4x8192x8x32 main_cst
  let main_v2 : IVec S4x8192x8x32 1 := cmpf .olt main_v0 main_v1
  let main_c : IVec S_ 1 := constantI S_ 1 1#1
  let main_v3 : IVec S_ 1 := (fun x v => Host.reduce IntOp.andi x v reducesTo_S4x8192x8x32_S_d0_1_2_3 h_S_) main_v2 main_c
  let main_v4 : FVec F S4x8192x8x32 .f32 := Host.absf main_arg1
  let main_cst_0 : FVec F S_ .f32 := constant S_ .f32 0x7F800000#32
  let main_v5 : FVec F S4x8192x8x32 .f32 := broadcastInDim S4x8192x8x32 ![] bcast_S_S4x8192x8x32 main_cst_0
  let main_v6 : IVec S4x8192x8x32 1 := cmpf .olt main_v4 main_v5
  let main_c_1 : IVec S_ 1 := constantI S_ 1 1#1
  let main_v7 : IVec S_ 1 := (fun x v => Host.reduce IntOp.andi x v reducesTo_S4x8192x8x32_S_d0_1_2_3 h_S_) main_v6 main_c_1
  let main_v8 : IVec S_ 1 := andi main_v3 main_v7
  let main_v9 : FVec F S4x8192x4x64 .f32 := Host.absf main_arg2
  let main_cst_2 : FVec F S_ .f32 := constant S_ .f32 0x7F800000#32
  let main_v10 : FVec F S4x8192x4x64 .f32 := broadcastInDim S4x8192x4x64 ![] bcast_S_S4x8192x4x64 main_cst_2
  let main_v11 : IVec S4x8192x4x64 1 := cmpf .olt main_v9 main_v10
  let main_c_3 : IVec S_ 1 := constantI S_ 1 1#1
  let main_v12 : IVec S_ 1 := (fun x v => Host.reduce IntOp.andi x v reducesTo_S4x8192x4x64_S_d0_1_2_3 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg8 main_v13 main_v16
-- ==== Kernel.lean ====
abbrev S4x8192x4x96 : Shape := ⟨4, ![4, 8192, 4, 96]⟩
abbrev S4x8192x4x64 : Shape := ⟨4, ![4, 8192, 4, 64]⟩
abbrev S_ : Shape := ⟨0, ![]⟩
abbrev S4x8192x4x128 : Shape := ⟨4, ![4, 8192, 4, 128]⟩
abbrev S4x8192x512 : Shape := ⟨3, ![4, 8192, 512]⟩
abbrev S4x8192x4x1 : Shape := ⟨4, ![4, 8192, 4, 1]⟩
abbrev S4x8192x4x65 : Shape := ⟨4, ![4, 8192, 4, 65]⟩
abbrev S4x8192x256 : Shape := ⟨3, ![4, 8192, 256]⟩
abbrev S1x512x512 : Shape := ⟨3, ![1, 512, 512]⟩
abbrev S1x8192x512 : Shape := ⟨3, ![1, 8192, 512]⟩
abbrev S1x512x256 : Shape := ⟨3, ![1, 512, 256]⟩
abbrev S4x128x512 : Shape := ⟨3, ![4, 128, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S256x512 : Shape := ⟨2, ![256, 512]⟩
abbrev S1x128x512 : Shape := ⟨3, ![1, 128, 512]⟩
abbrev S128x512 : Shape := ⟨2, ![128, 512]⟩
abbrev S64x512 : Shape := ⟨2, ![64, 512]⟩
abbrev S1x512 : Shape := ⟨2, ![1, 512]⟩
abbrev S512x64 : Shape := ⟨2, ![512, 64]⟩
abbrev S1x512x64 : Shape := ⟨3, ![1, 512, 64]⟩

abbrev nBuf : Space → Nat
  | .hbm => 21
  | .vmem => 9
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x96, .f32⟩
  | .hbm, ⟨2, _⟩ => ⟨S4x8192x4x64, .f32⟩
  | .hbm, ⟨3, _⟩ => ⟨S_, .i32⟩
  | .hbm, ⟨4, _⟩ => ⟨S_, .f32⟩
  | .hbm, ⟨5, _⟩ => ⟨S4x8192x4x128, .f32⟩
  | .hbm, ⟨6, _⟩ => ⟨S4x8192x512, .f32⟩
  | .hbm, ⟨7, _⟩ => ⟨S_, .i32⟩
  | .hbm, ⟨8, _⟩ => ⟨S_, .f32⟩
  | .hbm, ⟨9, _⟩ => ⟨S4x8192x4x128, .f32⟩
  | .hbm, ⟨10, _⟩ => ⟨S4x8192x512, .f32⟩
  | .hbm, ⟨11, _⟩ => ⟨S4x8192x512, .bf16⟩
  | .hbm, ⟨12, _⟩ => ⟨S_, .f32⟩
  | .hbm, ⟨13, _⟩ => ⟨S4x8192x4x1, .f32⟩
  | .hbm, ⟨14, _⟩ => ⟨S4x8192x4x65, .f32⟩
  | .hbm, ⟨15, _⟩ => ⟨S_, .i32⟩
  | .hbm, ⟨16, _⟩ => ⟨S_, .f32⟩
  | .hbm, ⟨17, _⟩ => ⟨S4x8192x4x128, .f32⟩
  | .hbm, ⟨18, _⟩ => ⟨S4x8192x512, .f32⟩
  | .hbm, ⟨19, _⟩ => ⟨S4x8192x512, .bf16⟩
  | .hbm, ⟨20, _⟩ => ⟨S4x8192x256, .bf16⟩
  | .local _ .vmem, ⟨0, _⟩ => ⟨S1x512x512, .f32⟩
  | .local _ .vmem, ⟨1, _⟩ => ⟨S1x512x512, .f32⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x512x256, .bf16⟩
  | .local _ .vmem, ⟨7, _⟩ => ⟨S1x512x256, .bf16⟩
  | .local _ .vmem, ⟨8, _⟩ => ⟨S4x128x512, .f32⟩
  | _, _ => ⟨S4x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  let c8192_i32 : BitVec 32 := 8192#32
  let v24 : BitVec 32 := Scalar.muli c0_i32 c8192_i32
  let c0_i32_15 : BitVec 32 := 0#32
  let v25 : BitVec 32 := Scalar.addi v24 c0_i32_15
  v25
def k0_off1 (c0_i32_15 : BitVec 32) : Fin 3 → Nat :=
  let c0_16 : Index := 0#32
  let c0_i32 : BitVec 32 := 0#32
  let c8192_i32 : BitVec 32 := 8192#32
  let v24 : BitVec 32 := Scalar.muli c0_i32 c8192_i32
  let v25 : BitVec 32 := Scalar.addi v24 c0_i32_15
  let v26 : BitVec 32 := v25
  let v27 : Index := Scalar.indexCast v26
  let c0_17 : Index := 0#32
  ![0, v27.toNat, 0]
def k0_mult2 : BitVec 32 :=
  let c0_i32 : BitVec 32 := 0#32
  let c8192_i32_19 : BitVec 32 := 8192#32
  let v31 : BitVec 32 := Scalar.muli c0_i32 c8192_i32_19
  let c0_i32_20 : BitVec 32 := 0#32
  let v32 : BitVec 32 := Scalar.addi v31 c0_i32_20
  v32
def k0_off2 (c0_i32_20 : BitVec 32) : Fin 3 → Nat :=
  let c0_21 : Index := 0#32
  let c0_i32 : BitVec 32 := 0#32
  let c8192_i32_19 : BitVec 32 := 8192#32
  let v31 : BitVec 32 := Scalar.muli c0_i32 c8192_i32_19
  let v32 : BitVec 32 := Scalar.addi v31 c0_i32_20
  let v33 : BitVec 32 := v32
  let v34 : Index := Scalar.indexCast v33
  let c128_22 : Index := 128#32
  ![0, v34.toNat, 128]
def k0_mult3 : BitVec 32 :=
  let c0_i32 : BitVec 32 := 0#32
  let c8192_i32_24 : BitVec 32 := 8192#32
  let v38 : BitVec 32 := Scalar.muli c0_i32 c8192_i32_24
  let c0_i32_25 : BitVec 32 := 0#32
  let v39 : BitVec 32 := Scalar.addi v38 c0_i32_25
  v39
def k0_off3 (c0_i32_25 : BitVec 32) : Fin 3 → Nat :=
  let c0_26 : Index := 0#32
  let c0_i32 : BitVec 32 := 0#32
  let c8192_i32_24 : BitVec 32 := 8192#32
  let v38 : BitVec 32 := Scalar.muli c0_i32 c8192_i32_24
  let v39 : BitVec 32 := Scalar.addi v38 c0_i32_25
  let v40 : BitVec 32 := v39
  let v41 : Index := Scalar.indexCast v40
  let c256_27 : Index := 256#32
  ![0, v41.toNat, 256]
def k0_mult4 : BitVec 32 :=
  let c0_i32 : BitVec 32 := 0#32
  let c8192_i32_29 : BitVec 32 := 8192#32
  let v45 : BitVec 32 := Scalar.muli c0_i32 c8192_i32_29
  let c0_i32_30 : BitVec 32 := 0#32
  let v46 : BitVec 32 := Scalar.addi v45 c0_i32_30
  v46
def k0_off4 (c0_i32_30 : BitVec 32) : Fin 3 → Nat :=
  let c0_31 : Index := 0#32
  let c0_i32 : BitVec 32 := 0#32
  let c8192_i32_29 : BitVec 32 := 8192#32
  let v45 : BitVec 32 := Scalar.muli c0_i32 c8192_i32_29
  let v46 : BitVec 32 := Scalar.addi v45 c0_i32_30
  let v47 : BitVec 32 := v46
  let v48 : Index := Scalar.indexCast v47
  let c384_32 : Index := 384#32
  ![0, v48.toNat, 384]
def k0_mult5 : BitVec 32 :=
  let c0_i32 : BitVec 32 := 0#32
  let c8192_i32_34 : BitVec 32 := 8192#32
  let v52 : BitVec 32 := Scalar.muli c0_i32 c8192_i32_34
  let c256_i32 : BitVec 32 := 256#32
  let v53 : BitVec 32 := Scalar.addi v52 c256_i32
  v53
def k0_mult6 : BitVec 32 :=
  let c0_i32 : BitVec 32 := 0#32
  let c8192_i32_38 : BitVec 32 := 8192#32
  let v59 : BitVec 32 := Scalar.muli c0_i32 c8192_i32_38
  let c256_i32_39 : BitVec 32 := 256#32
  let v60 : BitVec 32 := Scalar.addi v59 c256_i32_39
  v60
def k0_mult7 : BitVec 32 :=
  let c0_i32 : BitVec 32 := 0#32
  let c8192_i32_43 : BitVec 32 := 8192#32
  let v66 : BitVec 32 := Scalar.muli c0_i32 c8192_i32_43
  let c256_i32_44 : BitVec 32 := 256#32
  let v67 : BitVec 32 := Scalar.addi v66 c256_i32_44
  v67
def k0_mult8 : BitVec 32 :=
  let c0_i32 : BitVec 32 := 0#32
  let c8192_i32_48 : BitVec 32 := 8192#32
  let v73 : BitVec 32 := Scalar.muli c0_i32 c8192_i32_48
  let c256_i32_49 : BitVec 32 := 256#32
  let v74 : BitVec 32 := Scalar.addi v73 c256_i32_49
  v74
def k0_mult9 : BitVec 32 :=
  let c0_i32 : BitVec 32 := 0#32
  let c8192_i32_53 : BitVec 32 := 8192#32
  let v80 : BitVec 32 := Scalar.muli c0_i32 c8192_i32_53
  let c512_i32 : BitVec 32 := 512#32
  let v81 : BitVec 32 := Scalar.addi v80 c512_i32
  v81
def k0_mult10 : BitVec 32 :=
  let c0_i32 : BitVec 32 := 0#32
  let c8192_i32_57 : BitVec 32 := 8192#32
  let v87 : BitVec 32 := Scalar.muli c0_i32 c8192_i32_57
  let c512_i32_58 : BitVec 32 := 512#32
  let v88 : BitVec 32 := Scalar.addi v87 c512_i32_58
  v88
def k0_mult11 : BitVec 32 :=
  let c0_i32 : BitVec 32 := 0#32
  let c8192_i32_62 : BitVec 32 := 8192#32
  let v94 : BitVec 32 := Scalar.muli c0_i32 c8192_i32_62
  let c512_i32_63 : BitVec 32 := 512#32
  let v95 : BitVec 32 := Scalar.addi v94 c512_i32_63
  v95
def k0_mult12 : BitVec 32 :=
  let c0_i32 : BitVec 32 := 0#32
  let c8192_i32_67 : BitVec 32 := 8192#32
  let v101 : BitVec 32 := Scalar.muli c0_i32 c8192_i32_67
  let c512_i32_68 : BitVec 32 := 512#32
  let v102 : BitVec 32 := Scalar.addi v101 c512_i32_68
  v102
def k0_mult13 : BitVec 32 :=
  let c0_i32 : BitVec 32 := 0#32
  let c8192_i32_72 : BitVec 32 := 8192#32
  let v108 : BitVec 32 := Scalar.muli c0_i32 c8192_i32_72
  let c768_i32 : BitVec 32 := 768#32
  let v109 : BitVec 32 := Scalar.addi v108 c768_i32
  v109
def k0_mult14 : BitVec 32 :=
  let c0_i32 : BitVec 32 := 0#32
  let c8192_i32_76 : BitVec 32 := 8192#32
  let v115 : BitVec 32 := Scalar.muli c0_i32 c8192_i32_76
  let c768_i32_77 : BitVec 32 := 768#32
  let v116 : BitVec 32 := Scalar.addi v115 c768_i32_77
  v116
def k0_mult15 : BitVec 32 :=
  let c0_i32 : BitVec 32 := 0#32
  let c8192_i32_81 : BitVec 32 := 8192#32
  let v122 : BitVec 32 := Scalar.muli c0_i32 c8192_i32_81
  let c768_i32_82 : BitVec 32 := 768#32
  let v123 : BitVec 32 := Scalar.addi v122 c768_i32_82
  v123
def k0_mult16 : BitVec 32 :=
  let c0_i32 : BitVec 32 := 0#32
  let c8192_i32_86 : BitVec 32 := 8192#32
  let v129 : BitVec 32 := Scalar.muli c0_i32 c8192_i32_86
  let c768_i32_87 : BitVec 32 := 768#32
  let v130 : BitVec 32 := Scalar.addi v129 c768_i32_87
  v130
def k0_mult17 : BitVec 32 :=
  let c0_i32 : BitVec 32 := 0#32
  let c8192_i32_91 : BitVec 32 := 8192#32
  let v136 : BitVec 32 := Scalar.muli c0_i32 c8192_i32_91
  let c1024_i32 : BitVec 32 := 1024#32
  let v137 : BitVec 32 := Scalar.addi v136 c1024_i32
  v137
def k0_mult18 : BitVec 32 :=
  let c0_i32 : BitVec 32 := 0#32
  let c8192_i32_95 : BitVec 32 := 8192#32
  let v143 : BitVec 32 := Scalar.muli c0_i32 c8192_i32_95
  let c1024_i32_96 : BitVec 32 := 1024#32
  let v144 : BitVec 32 := Scalar.addi v143 c1024_i32_96
  v144
def k0_mult19 : BitVec 32 :=
  let c0_i32 : BitVec 32 := 0#32
  let c8192_i32_100 : BitVec 32 := 8192#32
  let v150 : BitVec 32 := Scalar.muli c0_i32 c8192_i32_100
  let c1024_i32_101 : BitVec 32 := 1024#32
  let v151 : BitVec 32 := Scalar.addi v150 c1024_i32_101
  v151
def k0_mult20 : BitVec 32 :=
  let c0_i32 : BitVec 32 := 0#32
  let c8192_i32_105 : BitVec 32 := 8192#32
  let v157 : BitVec 32 := Scalar.muli c0_i32 c8192_i32_105
  let c1024_i32_106 : BitVec 32 := 1024#32
  let v158 : BitVec 32 := Scalar.addi v157 c1024_i32_106
  v158
def k0_mult21 : BitVec 32 :=
  let c0_i32 : BitVec 32 := 0#32
  let c8192_i32_110 : BitVec 32 := 8192#32
  let v164 : BitVec 32 := Scalar.muli c0_i32 c8192_i32_110
  let c1280_i32 : BitVec 32 := 1280#32
  let v165 : BitVec 32 := Scalar.addi v164 c1280_i32
  v165
def k0_mult22 : BitVec 32 :=
  let c0_i32 : BitVec 32 := 0#32
  let c8192_i32_114 : BitVec 32 := 8192#32
  let v171 : BitVec 32 := Scalar.muli c0_i32 c8192_i32_114
  let c1280_i32_115 : BitVec 32 := 1280#32
  let v172 : BitVec 32 := Scalar.addi v171 c1280_i32_115
  v172
def k0_mult23 : BitVec 32 :=
  let c0_i32 : BitVec 32 := 0#32
  let c8192_i32_119 : BitVec 32 := 8192#32
  let v178 : BitVec 32 := Scalar.muli c0_i32 c8192_i32_119
  let c1280_i32_120 : BitVec 32 := 1280#32
  let v179 : BitVec 32 := Scalar.addi v178 c1280_i32_120
  v179
def k0_mult24 : BitVec 32 :=
  let c0_i32 : BitVec 32 := 0#32
  let c8192_i32_124 : BitVec 32 := 8192#32
  let v185 : BitVec 32 := Scalar.muli c0_i32 c8192_i32_124
  let c1280_i32_125 : BitVec 32 := 1280#32
  let v186 : BitVec 32 := Scalar.addi v185 c1280_i32_125
  v186
def k0_mult25 : BitVec 32 :=
  let c0_i32 : BitVec 32 := 0#32
  let c8192_i32_129 : BitVec 32 := 8192#32
  let v192 : BitVec 32 := Scalar.muli c0_i32 c8192_i32_129
  let c1536_i32 : BitVec 32 := 1536#32
  let v193 : BitVec 32 := Scalar.addi v192 c1536_i32
  v193
def k0_mult26 : BitVec 32 :=
  let c0_i32 : BitVec 32 := 0#32
  let c8192_i32_133 : BitVec 32 := 8192#32
  let v199 : BitVec 32 := Scalar.muli c0_i32 c8192_i32_133
  let c1536_i32_134 : BitVec 32 := 1536#32
  let v200 : BitVec 32 := Scalar.addi v199 c1536_i32_134
  v200
def k0_mult27 : BitVec 32 :=
  let c0_i32 : BitVec 32 := 0#32
  let c8192_i32_138 : BitVec 32 := 8192#32
  let v206 : BitVec 32 := Scalar.muli c0_i32 c8192_i32_138
  let c1536_i32_139 : BitVec 32 := 1536#32
  let v207 : BitVec 32 := Scalar.addi v206 c1536_i32_139
  v207
def k0_mult28 : BitVec 32 :=
  let c0_i32 : BitVec 32 := 0#32
  let c8192_i32_143 : BitVec 32 := 8192#32
  let v213 : BitVec 32 := Scalar.muli c0_i32 c8192_i32_143
  let c1536_i32_144 : BitVec 32 := 1536#32
  let v214 : BitVec 32 := Scalar.addi v213 c1536_i32_144
  v214
def k0_mult29 : BitVec 32 :=
  let c0_i32 : BitVec 32 := 0#32
  let c8192_i32_148 : BitVec 32 := 8192#32
  let v220 : BitVec 32 := Scalar.muli c0_i32 c8192_i32_148
  let c1792_i32 : BitVec 32 := 1792#32
  let v221 : BitVec 32 := Scalar.addi v220 c1792_i32
  v221
def k0_mult30 : BitVec 32 :=
  let c0_i32 : BitVec 32 := 0#32
  let c8192_i32_152 : BitVec 32 := 8192#32
  let v227 : BitVec 32 := Scalar.muli c0_i32 c8192_i32_152
  let c1792_i32_153 : BitVec 32 := 1792#32
  let v228 : BitVec 32 := Scalar.addi v227 c1792_i32_153
  v228
def k0_mult31 : BitVec 32 :=
  let c0_i32 : BitVec 32 := 0#32
  let c8192_i32_157 : BitVec 32 := 8192#32
  let v234 : BitVec 32 := Scalar.muli c0_i32 c8192_i32_157
  let c1792_i32_158 : BitVec 32 := 1792#32
  let v235 : BitVec 32 := Scalar.addi v234 c1792_i32_158
  v235
def k0_mult32 : BitVec 32 :=
  let c0_i32 : BitVec 32 := 0#32
  let c8192_i32_162 : BitVec 32 := 8192#32
  let v241 : BitVec 32 := Scalar.muli c0_i32 c8192_i32_162
  let c1792_i32_163 : BitVec 32 := 1792#32
  let v242 : BitVec 32 := Scalar.addi v241 c1792_i32_163
  v242
def k0_mult33 : BitVec 32 :=
  let c0_i32 : BitVec 32 := 0#32
  let c8192_i32_452 : BitVec 32 := 8192#32
  let v632 : BitVec 32 := Scalar.muli c0_i32 c8192_i32_452
  let c2048_i32 : BitVec 32 := 2048#32
  let v633 : BitVec 32 := Scalar.addi v632 c2048_i32
  v633
def k0_mult34 : BitVec 32 :=
  let c0_i32 : BitVec 32 := 0#32
  let c8192_i32_456 : BitVec 32 := 8192#32
  let v639 : BitVec 32 := Scalar.muli c0_i32 c8192_i32_456
  let c2048_i32_457 : BitVec 32 := 2048#32
  let v640 : BitVec 32 := Scalar.addi v639 c2048_i32_457
  v640
def k0_mult35 : BitVec 32 :=
  let c0_i32 : BitVec 32 := 0#32
  let c8192_i32_461 : BitVec 32 := 8192#32
  let v646 : BitVec 32 := Scalar.muli c0_i32 c8192_i32_461
  let c2048_i32_462 : BitVec 32 := 2048#32
  let v647 : BitVec 32 := Scalar.addi v646 c2048_i32_462
  v647
def k0_mult36 : BitVec 32 :=
  let c0_i32 : BitVec 32 := 0#32
  let c8192_i32_466 : BitVec 32 := 8192#32
  let v653 : BitVec 32 := Scalar.muli c0_i32 c8192_i32_466
  let c2048_i32_467 : BitVec 32 := 2048#32
  let v654 : BitVec 32 := Scalar.addi v653 c2048_i32_467
  v654
def k0_mult37 : BitVec 32 :=
  let c0_i32 : BitVec 32 := 0#32
  let c8192_i32_471 : BitVec 32 := 8192#32
  let v660 : BitVec 32 := Scalar.muli c0_i32 c8192_i32_471
  let c2304_i32 : BitVec 32 := 2304#32
  let v661 : BitVec 32 := Scalar.addi v660 c2304_i32
  v661
def k0_mult38 : BitVec 32 :=
  let c0_i32 : BitVec 32 := 0#32
  let c8192_i32_475 : BitVec 32 := 8192#32
  let v667 : BitVec 32 := Scalar.muli c0_i32 c8192_i32_475
  let c2304_i32_476 : BitVec 32 := 2304#32
  let v668 : BitVec 32 := Scalar.addi v667 c2304_i32_476
  v668
def k0_mult39 : BitVec 32 :=
  let c0_i32 : BitVec 32 := 0#32
  let c8192_i32_480 : BitVec 32 := 8192#32
  let v674 : BitVec 32 := Scalar.muli c0_i32 c8192_i32_480
  let c2304_i32_481 : BitVec 32 := 2304#32
  let v675 : BitVec 32 := Scalar.addi v674 c2304_i32_481
  v675
def k0_mult40 : BitVec 32 :=
  let c0_i32 : BitVec 32 := 0#32
  let c8192_i32_485 : BitVec 32 := 8192#32
  let v681 : BitVec 32 := Scalar.muli c0_i32 c8192_i32_485
  let c2304_i32_486 : BitVec 32 := 2304#32
  let v682 : BitVec 32 := Scalar.addi v681 c2304_i32_486
  v682
def k0_mult41 : BitVec 32 :=
  let c0_i32 : BitVec 32 := 0#32
  let c8192_i32_490 : BitVec 32 := 8192#32
  let v688 : BitVec 32 := Scalar.muli c0_i32 c8192_i32_490
  let c2560_i32 : BitVec 32 := 2560#32
  let v689 : BitVec 32 := Scalar.addi v688 c2560_i32
  v689
def k0_mult42 : BitVec 32 :=
  let c0_i32 : BitVec 32 := 0#32
  let c8192_i32_494 : BitVec 32 := 8192#32
  let v695 : BitVec 32 := Scalar.muli c0_i32 c8192_i32_494
  let c2560_i32_495 : BitVec 32 := 2560#32
  let v696 : BitVec 32 := Scalar.addi v695 c2560_i32_495
  v696
def k0_mult43 : BitVec 32 :=
  let c0_i32 : BitVec 32 := 0#32
  let c8192_i32_499 : BitVec 32 := 8192#32
  let v702 : BitVec 32 := Scalar.muli c0_i32 c8192_i32_499
  let c2560_i32_500 : BitVec 32 := 2560#32
  let v703 : BitVec 32 := Scalar.addi v702 c2560_i32_500
  v703
def k0_mult44 : BitVec 32 :=
  let c0_i32 : BitVec 32 := 0#32
  let c8192_i32_504 : BitVec 32 := 8192#32
  let v709 : BitVec 32 := Scalar.muli c0_i32 c8192_i32_504
  let c2560_i32_505 : BitVec 32 := 2560#32
  let v710 : BitVec 32 := Scalar.addi v709 c2560_i32_505
  v710
def k0_mult45 : BitVec 32 :=
  let c0_i32 : BitVec 32 := 0#32
  let c8192_i32_509 : BitVec 32 := 8192#32
  let v716 : BitVec 32 := Scalar.muli c0_i32 c8192_i32_509
  let c2816_i32 : BitVec 32 := 2816#32
  let v717 : BitVec 32 := Scalar.addi v716 c2816_i32
  v717
def k0_mult46 : BitVec 32 :=
  let c0_i32 : BitVec 32 := 0#32
  let c8192_i32_513 : BitVec 32 := 8192#32
  let v723 : BitVec 32 := Scalar.muli c0_i32 c8192_i32_513
  let c2816_i32_514 : BitVec 32 := 2816#32
  let v724 : BitVec 32 := Scalar.addi v723 c2816_i32_514
  v724
def k0_mult47 : BitVec 32 :=
  let c0_i32 : BitVec 32 := 0#32
  let c8192_i32_518 : BitVec 32 := 8192#32
  let v730 : BitVec 32 := Scalar.muli c0_i32 c8192_i32_518
  let c2816_i32_519 : BitVec 32 := 2816#32
  let v731 : BitVec 32 := Scalar.addi v730 c2816_i32_519
  v731
def k0_mult48 : BitVec 32 :=
  let c0_i32 : BitVec 32 := 0#32
  let c8192_i32_523 : BitVec 32 := 8192#32
  let v737 : BitVec 32 := Scalar.muli c0_i32 c8192_i32_523
  let c2816_i32_524 : BitVec 32 := 2816#32
  let v738 : BitVec 32 := Scalar.addi v737 c2816_i32_524
  v738
def k0_mult49 : BitVec 32 :=
  let c0_i32 : BitVec 32 := 0#32
  let c8192_i32_528 : BitVec 32 := 8192#32
  let v744 : BitVec 32 := Scalar.muli c0_i32 c8192_i32_528
  let c3072_i32 : BitVec 32 := 3072#32
  let v745 : BitVec 32 := Scalar.addi v744 c3072_i32
  v745
def k0_mult50 : BitVec 32 :=
  let c0_i32 : BitVec 32 := 0#32
  let c8192_i32_532 : BitVec 32 := 8192#32
  let v751 : BitVec 32 := Scalar.muli c0_i32 c8192_i32_532
  let c3072_i32_533 : BitVec 32 := 3072#32
  let v752 : BitVec 32 := Scalar.addi v751 c3072_i32_533
  v752
def k0_mult51 : BitVec 32 :=
  let c0_i32 : BitVec 32 := 0#32
  let c8192_i32_537 : BitVec 32 := 8192#32
  let v758 : BitVec 32 := Scalar.muli c0_i32 c8192_i32_537
  let c3072_i32_538 : BitVec 32 := 3072#32
  let v759 : BitVec 32 := Scalar.addi v758 c3072_i32_538
  v759
def k0_mult52 : BitVec 32 :=
  let c0_i32 : BitVec 32 := 0#32
  let c8192_i32_542 : BitVec 32 := 8192#32
  let v765 : BitVec 32 := Scalar.muli c0_i32 c8192_i32_542
  let c3072_i32_543 : BitVec 32 := 3072#32
  let v766 : BitVec 32 := Scalar.addi v765 c3072_i32_543
  v766
def k0_mult53 : BitVec 32 :=
  let c0_i32 : BitVec 32 := 0#32
  let c8192_i32_547 : BitVec 32 := 8192#32
  let v772 : BitVec 32 := Scalar.muli c0_i32 c8192_i32_547
  let c3328_i32 : BitVec 32 := 3328#32
  let v773 : BitVec 32 := Scalar.addi v772 c3328_i32
  v773
def k0_mult54 : BitVec 32 :=
  let c0_i32 : BitVec 32 := 0#32
  let c8192_i32_551 : BitVec 32 := 8192#32
  let v779 : BitVec 32 := Scalar.muli c0_i32 c8192_i32_551
  let c3328_i32_552 : BitVec 32 := 3328#32
  let v780 : BitVec 32 := Scalar.addi v779 c3328_i32_552
  v780
def k0_mult55 : BitVec 32 :=
  let c0_i32 : BitVec 32 := 0#32
  let c8192_i32_556 : BitVec 32 := 8192#32
  let v786 : BitVec 32 := Scalar.muli c0_i32 c8192_i32_556
  let c3328_i32_557 : BitVec 32 := 3328#32
  let v787 : BitVec 32 := Scalar.addi v786 c3328_i32_557
  v787
def k0_mult56 : BitVec 32 :=
  let c0_i32 : BitVec 32 := 0#32
  let c8192_i32_561 : BitVec 32 := 8192#32
  let v793 : BitVec 32 := Scalar.muli c0_i32 c8192_i32_561
  let c3328_i32_562 : BitVec 32 := 3328#32
  let v794 : BitVec 32 := Scalar.addi v793 c3328_i32_562
  v794
def k0_mult57 : BitVec 32 :=
  let c0_i32 : BitVec 32 := 0#32
  let c8192_i32_566 : BitVec 32 := 8192#32
  let v800 : BitVec 32 := Scalar.muli c0_i32 c8192_i32_566
  let c3584_i32 : BitVec 32 := 3584#32
  let v801 : BitVec 32 := Scalar.addi v800 c3584_i32
  v801
def k0_mult58 : BitVec 32 :=
  let c0_i32 : BitVec 32 := 0#32
  let c8192_i32_570 : BitVec 32 := 8192#32
  let v807 : BitVec 32 := Scalar.muli c0_i32 c8192_i32_570
  let c3584_i32_571 : BitVec 32 := 3584#32
  let v808 : BitVec 32 := Scalar.addi v807 c3584_i32_571
  v808
def k0_mult59 : BitVec 32 :=
  let c0_i32 : BitVec 32 := 0#32
  let c8192_i32_575 : BitVec 32 := 8192#32
  let v814 : BitVec 32 := Scalar.muli c0_i32 c8192_i32_575
  let c3584_i32_576 : BitVec 32 := 3584#32
  let v815 : BitVec 32 := Scalar.addi v814 c3584_i32_576
  v815
def k0_mult60 : BitVec 32 :=
  let c0_i32 : BitVec 32 := 0#32
  let c8192_i32_580 : BitVec 32 := 8192#32
  let v821 : BitVec 32 := Scalar.muli c0_i32 c8192_i32_580
  let c3584_i32_581 : BitVec 32 := 3584#32
  let v822 : BitVec 32 := Scalar.addi v821 c3584_i32_581
  v822
def k0_mult61 : BitVec 32 :=
  let c0_i32 : BitVec 32 := 0#32
  let c8192_i32_585 : BitVec 32 := 8192#32
  let v828 : BitVec 32 := Scalar.muli c0_i32 c8192_i32_585
  let c3840_i32 : BitVec 32 := 3840#32
  let v829 : BitVec 32 := Scalar.addi v828 c3840_i32
  v829
def k0_mult62 : BitVec 32 :=
  let c0_i32 : BitVec 32 := 0#32
  let c8192_i32_589 : BitVec 32 := 8192#32
  let v835 : BitVec 32 := Scalar.muli c0_i32 c8192_i32_589
  let c3840_i32_590 : BitVec 32 := 3840#32
  let v836 : BitVec 32 := Scalar.addi v835 c3840_i32_590
  v836
def k0_mult63 : BitVec 32 :=
  let c0_i32 : BitVec 32 := 0#32
  let c8192_i32_594 : BitVec 32 := 8192#32
  let v842 : BitVec 32 := Scalar.muli c0_i32 c8192_i32_594
  let c3840_i32_595 : BitVec 32 := 3840#32
  let v843 : BitVec 32 := Scalar.addi v842 c3840_i32_595
  v843
def k0_mult64 : BitVec 32 :=
  let c0_i32 : BitVec 32 := 0#32
  let c8192_i32_599 : BitVec 32 := 8192#32
  let v849 : BitVec 32 := Scalar.muli c0_i32 c8192_i32_599
  let c3840_i32_600 : BitVec 32 := 3840#32
  let v850 : BitVec 32 := Scalar.addi v849 c3840_i32_600
  v850
def k0_mult65 : BitVec 32 :=
  let c0_i32 : BitVec 32 := 0#32
  let c8192_i32_892 : BitVec 32 := 8192#32
  let v1240 : BitVec 32 := Scalar.muli c0_i32 c8192_i32_892
  let c4096_i32 : BitVec 32 := 4096#32
  let v1241 : BitVec 32 := Scalar.addi v1240 c4096_i32
  v1241
def k0_mult66 : BitVec 32 :=
  let c0_i32 : BitVec 32 := 0#32
  let c8192_i32_896 : BitVec 32 := 8192#32
  let v1247 : BitVec 32 := Scalar.muli c0_i32 c8192_i32_896
  let c4096_i32_897 : BitVec 32 := 4096#32
  let v1248 : BitVec 32 := Scalar.addi v1247 c4096_i32_897
  v1248
def k0_mult67 : BitVec 32 :=
  let c0_i32 : BitVec 32 := 0#32
  let c8192_i32_901 : BitVec 32 := 8192#32
  let v1254 : BitVec 32 := Scalar.muli c0_i32 c8192_i32_901
  let c4096_i32_902 : BitVec 32 := 4096#32
  let v1255 : BitVec 32 := Scalar.addi v1254 c4096_i32_902
  v1255
def k0_mult68 : BitVec 32 :=
  let c0_i32 : BitVec 32 := 0#32
  let c8192_i32_906 : BitVec 32 := 8192#32
  let v1261 : BitVec 32 := Scalar.muli c0_i32 c8192_i32_906
  let c4096_i32_907 : BitVec 32 := 4096#32
  let v1262 : BitVec 32 := Scalar.addi v1261 c4096_i32_907
  v1262
def k0_mult69 : BitVec 32 :=
  let c0_i32 : BitVec 32 := 0#32
  let c8192_i32_911 : BitVec 32 := 8192#32
  let v1268 : BitVec 32 := Scalar.muli c0_i32 c8192_i32_911
  let c4352_i32 : BitVec 32 := 4352#32
  let v1269 : BitVec 32 := Scalar.addi v1268 c4352_i32
  v1269
def k0_mult70 : BitVec 32 :=
  let c0_i32 : BitVec 32 := 0#32
  let c8192_i32_915 : BitVec 32 := 8192#32
  let v1275 : BitVec 32 := Scalar.muli c0_i32 c8192_i32_915
  let c4352_i32_916 : BitVec 32 := 4352#32
  let v1276 : BitVec 32 := Scalar.addi v1275 c4352_i32_916
  v1276
def k0_mult71 : BitVec 32 :=
  let c0_i32 : BitVec 32 := 0#32
  let c8192_i32_920 : BitVec 32 := 8192#32
  let v1282 : BitVec 32 := Scalar.muli c0_i32 c8192_i32_920
  let c4352_i32_921 : BitVec 32 := 4352#32
  let v1283 : BitVec 32 := Scalar.addi v1282 c4352_i32_921
  v1283
def k0_mult72 : BitVec 32 :=
  let c0_i32 : BitVec 32 := 0#32
  let c8192_i32_925 : BitVec 32 := 8192#32
  let v1289 : BitVec 32 := Scalar.muli c0_i32 c8192_i32_925
  let c4352_i32_926 : BitVec 32 := 4352#32
  let v1290 : BitVec 32 := Scalar.addi v1289 c4352_i32_926
  v1290
def k0_mult73 : BitVec 32 :=
  let c0_i32 : BitVec 32 := 0#32
  let c8192_i32_930 : BitVec 32 := 8192#32
  let v1296 : BitVec 32 := Scalar.muli c0_i32 c8192_i32_930
  let c4608_i32 : BitVec 32 := 4608#32
  let v1297 : BitVec 32 := Scalar.addi v1296 c4608_i32
  v1297
def k0_mult74 : BitVec 32 :=
  let c0_i32 : BitVec 32 := 0#32
  let c8192_i32_934 : BitVec 32 := 8192#32
  let v1303 : BitVec 32 := Scalar.muli c0_i32 c8192_i32_934
  let c4608_i32_935 : BitVec 32 := 4608#32
  let v1304 : BitVec 32 := Scalar.addi v1303 c4608_i32_935
  v1304
def k0_mult75 : BitVec 32 :=
  let c0_i32 : BitVec 32 := 0#32
  let c8192_i32_939 : BitVec 32 := 8192#32
  let v1310 : BitVec 32 := Scalar.muli c0_i32 c8192_i32_939
  let c4608_i32_940 : BitVec 32 := 4608#32
  let v1311 : BitVec 32 := Scalar.addi v1310 c4608_i32_940
  v1311
def k0_mult76 : BitVec 32 :=
  let c0_i32 : BitVec 32 := 0#32
  let c8192_i32_944 : BitVec 32 := 8192#32
  let v1317 : BitVec 32 := Scalar.muli c0_i32 c8192_i32_944
  let c4608_i32_945 : BitVec 32 := 4608#32
  let v1318 : BitVec 32 := Scalar.addi v1317 c4608_i32_945
  v1318
def k0_mult77 : BitVec 32 :=
  let c0_i32 : BitVec 32 := 0#32
  let c8192_i32_949 : BitVec 32 := 8192#32
  let v1324 : BitVec 32 := Scalar.muli c0_i32 c8192_i32_949
  let c4864_i32 : BitVec 32 := 4864#32
  let v1325 : BitVec 32 := Scalar.addi v1324 c4864_i32
  v1325
def k0_mult78 : BitVec 32 :=
  let c0_i32 : BitVec 32 := 0#32
  let c8192_i32_953 : BitVec 32 := 8192#32
  let v1331 : BitVec 32 := Scalar.muli c0_i32 c8192_i32_953
  let c4864_i32_954 : BitVec 32 := 4864#32
  let v1332 : BitVec 32 := Scalar.addi v1331 c4864_i32_954
  v1332
def k0_mult79 : BitVec 32 :=
  let c0_i32 : BitVec 32 := 0#32
  let c8192_i32_958 : BitVec 32 := 8192#32
  let v1338 : BitVec 32 := Scalar.muli c0_i32 c8192_i32_958
  let c4864_i32_959 : BitVec 32 := 4864#32
  let v1339 : BitVec 32 := Scalar.addi v1338 c4864_i32_959
  v1339
def k0_mult80 : BitVec 32 :=
  let c0_i32 : BitVec 32 := 0#32
  let c8192_i32_963 : BitVec 32 := 8192#32
  let v1345 : BitVec 32 := Scalar.muli c0_i32 c8192_i32_963
  let c4864_i32_964 : BitVec 32 := 4864#32
  let v1346 : BitVec 32 := Scalar.addi v1345 c4864_i32_964
  v1346
def k0_mult81 : BitVec 32 :=
  let c0_i32 : BitVec 32 := 0#32
  let c8192_i32_968 : BitVec 32 := 8192#32
  let v1352 : BitVec 32 := Scalar.muli c0_i32 c8192_i32_968
  let c5120_i32 : BitVec 32 := 5120#32
  let v1353 : BitVec 32 := Scalar.addi v1352 c5120_i32
  v1353
def k0_mult82 : BitVec 32 :=
  let c0_i32 : BitVec 32 := 0#32
  let c8192_i32_972 : BitVec 32 := 8192#32
  let v1359 : BitVec 32 := Scalar.muli c0_i32 c8192_i32_972
  let c5120_i32_973 : BitVec 32 := 5120#32
  let v1360 : BitVec 32 := Scalar.addi v1359 c5120_i32_973
  v1360
def k0_mult83 : BitVec 32 :=
  let c0_i32 : BitVec 32 := 0#32
  let c8192_i32_977 : BitVec 32 := 8192#32
  let v1366 : BitVec 32 := Scalar.muli c0_i32 c8192_i32_977
  let c5120_i32_978 : BitVec 32 := 5120#32
  let v1367 : BitVec 32 := Scalar.addi v1366 c5120_i32_978
  v1367
def k0_mult84 : BitVec 32 :=
  let c0_i32 : BitVec 32 := 0#32
  let c8192_i32_982 : BitVec 32 := 8192#32
  let v1373 : BitVec 32 := Scalar.muli c0_i32 c8192_i32_982
  let c5120_i32_983 : BitVec 32 := 5120#32
  let v1374 : BitVec 32 := Scalar.addi v1373 c5120_i32_983
  v1374
def k0_mult85 : BitVec 32 :=
  let c0_i32 : BitVec 32 := 0#32
  let c8192_i32_987 : BitVec 32 := 8192#32
  let v1380 : BitVec 32 := Scalar.muli c0_i32 c8192_i32_987
  let c5376_i32 : BitVec 32 := 5376#32
  let v1381 : BitVec 32 := Scalar.addi v1380 c5376_i32
  v1381
def k0_mult86 : BitVec 32 :=
  let c0_i32 : BitVec 32 := 0#32
  let c8192_i32_991 : BitVec 32 := 8192#32
  let v1387 : BitVec 32 := Scalar.muli c0_i32 c8192_i32_991
  let c5376_i32_992 : BitVec 32 := 5376#32
  let v1388 : BitVec 32 := Scalar.addi v1387 c5376_i32_992
  v1388
def k0_mult87 : BitVec 32 :=
  let c0_i32 : BitVec 32 := 0#32
  let c8192_i32_996 : BitVec 32 := 8192#32
  let v1394 : BitVec 32 := Scalar.muli c0_i32 c8192_i32_996
  let c5376_i32_997 : BitVec 32 := 5376#32
  let v1395 : BitVec 32 := Scalar.addi v1394 c5376_i32_997
  v1395
def k0_mult88 : BitVec 32 :=
  let c0_i32 : BitVec 32 := 0#32
  let c8192_i32_1001 : BitVec 32 := 8192#32
  let v1401 : BitVec 32 := Scalar.muli c0_i32 c8192_i32_1001
  let c5376_i32_1002 : BitVec 32 := 5376#32
  let v1402 : BitVec 32 := Scalar.addi v1401 c5376_i32_1002
  v1402
def k0_mult89 : BitVec 32 :=
  let c0_i32 : BitVec 32 := 0#32
  let c8192_i32_1006 : BitVec 32 := 8192#32
  let v1408 : BitVec 32 := Scalar.muli c0_i32 c8192_i32_1006
  let c5632_i32 : BitVec 32 := 5632#32
  let v1409 : BitVec 32 := Scalar.addi v1408 c5632_i32
  v1409
def k0_mult90 : BitVec 32 :=
  let c0_i32 : BitVec 32 := 0#32
  let c8192_i32_1010 : BitVec 32 := 8192#32
  let v1415 : BitVec 32 := Scalar.muli c0_i32 c8192_i32_1010
  let c5632_i32_1011 : BitVec 32 := 5632#32
  let v1416 : BitVec 32 := Scalar.addi v1415 c5632_i32_1011
  v1416
def k0_mult91 : BitVec 32 :=
  let c0_i32 : BitVec 32 := 0#32
  let c8192_i32_1015 : BitVec 32 := 8192#32
  let v1422 : BitVec 32 := Scalar.muli c0_i32 c8192_i32_1015
  let c5632_i32_1016 : BitVec 32 := 5632#32
  let v1423 : BitVec 32 := Scalar.addi v1422 c5632_i32_1016
  v1423
def k0_mult92 : BitVec 32 :=
  let c0_i32 : BitVec 32 := 0#32
  let c8192_i32_1020 : BitVec 32 := 8192#32
  let v1429 : BitVec 32 := Scalar.muli c0_i32 c8192_i32_1020
  let c5632_i32_1021 : BitVec 32 := 5632#32
  let v1430 : BitVec 32 := Scalar.addi v1429 c5632_i32_1021
  v1430
def k0_mult93 : BitVec 32 :=
  let c0_i32 : BitVec 32 := 0#32
  let c8192_i32_1025 : BitVec 32 := 8192#32
  let v1436 : BitVec 32 := Scalar.muli c0_i32 c8192_i32_1025
  let c5888_i32 : BitVec 32 := 5888#32
  let v1437 : BitVec 32 := Scalar.addi v1436 c5888_i32
  v1437
def k0_mult94 : BitVec 32 :=
  let c0_i32 : BitVec 32 := 0#32
  let c8192_i32_1029 : BitVec 32 := 8192#32
  let v1443 : BitVec 32 := Scalar.muli c0_i32 c8192_i32_1029
  let c5888_i32_1030 : BitVec 32 := 5888#32
  let v1444 : BitVec 32 := Scalar.addi v1443 c5888_i32_1030
  v1444
def k0_mult95 : BitVec 32 :=
  let c0_i32 : BitVec 32 := 0#32
  let c8192_i32_1034 : BitVec 32 := 8192#32
  let v1450 : BitVec 32 := Scalar.muli c0_i32 c8192_i32_1034
  let c5888_i32_1035 : BitVec 32 := 5888#32
  let v1451 : BitVec 32 := Scalar.addi v1450 c5888_i32_1035
  v1451
def k0_mult96 : BitVec 32 :=
  let c0_i32 : BitVec 32 := 0#32
  let c8192_i32_1039 : BitVec 32 := 8192#32
  let v1457 : BitVec 32 := Scalar.muli c0_i32 c8192_i32_1039
  let c5888_i32_1040 : BitVec 32 := 5888#32
  let v1458 : BitVec 32 := Scalar.addi v1457 c5888_i32_1040
  v1458
def k0_mult97 : BitVec 32 :=
  let c0_i32 : BitVec 32 := 0#32
  let c8192_i32_1332 : BitVec 32 := 8192#32
  let v1848 : BitVec 32 := Scalar.muli c0_i32 c8192_i32_1332
  let c6144_i32 : BitVec 32 := 6144#32
  let v1849 : BitVec 32 := Scalar.addi v1848 c6144_i32
  v1849
def k0_mult98 : BitVec 32 :=
  let c0_i32 : BitVec 32 := 0#32
  let c8192_i32_1336 : BitVec 32 := 8192#32
  let v1855 : BitVec 32 := Scalar.muli c0_i32 c8192_i32_1336
  let c6144_i32_1337 : BitVec 32 := 6144#32
  let v1856 : BitVec 32 := Scalar.addi v1855 c6144_i32_1337
  v1856
def k0_mult99 : BitVec 32 :=
  let c0_i32 : BitVec 32 := 0#32
  let c8192_i32_1341 : BitVec 32 := 8192#32
  let v1862 : BitVec 32 := Scalar.muli c0_i32 c8192_i32_1341
  let c6144_i32_1342 : BitVec 32 := 6144#32
  let v1863 : BitVec 32 := Scalar.addi v1862 c6144_i32_1342
  v1863
def k0_mult100 : BitVec 32 :=
  let c0_i32 : BitVec 32 := 0#32
  let c8192_i32_1346 : BitVec 32 := 8192#32
  let v1869 : BitVec 32 := Scalar.muli c0_i32 c8192_i32_1346
  let c6144_i32_1347 : BitVec 32 := 6144#32
  let v1870 : BitVec 32 := Scalar.addi v1869 c6144_i32_1347
  v1870
def k0_mult101 : BitVec 32 :=
  let c0_i32 : BitVec 32 := 0#32
  let c8192_i32_1351 : BitVec 32 := 8192#32
  let v1876 : BitVec 32 := Scalar.muli c0_i32 c8192_i32_1351
  let c6400_i32 : BitVec 32 := 6400#32
  let v1877 : BitVec 32 := Scalar.addi v1876 c6400_i32
  v1877
def k0_mult102 : BitVec 32 :=
  let c0_i32 : BitVec 32 := 0#32
  let c8192_i32_1355 : BitVec 32 := 8192#32
  let v1883 : BitVec 32 := Scalar.muli c0_i32 c8192_i32_1355
  let c6400_i32_1356 : BitVec 32 := 6400#32
  let v1884 : BitVec 32 := Scalar.addi v1883 c6400_i32_1356
  v1884
def k0_mult103 : BitVec 32 :=
  let c0_i32 : BitVec 32 := 0#32
  let c8192_i32_1360 : BitVec 32 := 8192#32
  let v1890 : BitVec 32 := Scalar.muli c0_i32 c8192_i32_1360
  let c6400_i32_1361 : BitVec 32 := 6400#32
  let v1891 : BitVec 32 := Scalar.addi v1890 c6400_i32_1361
  v1891
def k0_mult104 : BitVec 32 :=
  let c0_i32 : BitVec 32 := 0#32
  let c8192_i32_1365 : BitVec 32 := 8192#32
  let v1897 : BitVec 32 := Scalar.muli c0_i32 c8192_i32_1365
  let c6400_i32_1366 : BitVec 32 := 6400#32
  let v1898 : BitVec 32 := Scalar.addi v1897 c6400_i32_1366
  v1898
def k0_mult105 : BitVec 32 :=
  let c0_i32 : BitVec 32 := 0#32
  let c8192_i32_1370 : BitVec 32 := 8192#32
  let v1904 : BitVec 32 := Scalar.muli c0_i32 c8192_i32_1370
  let c6656_i32 : BitVec 32 := 6656#32
  let v1905 : BitVec 32 := Scalar.addi v1904 c6656_i32
  v1905
def k0_mult106 : BitVec 32 :=
  let c0_i32 : BitVec 32 := 0#32
  let c8192_i32_1374 : BitVec 32 := 8192#32
  let v1911 : BitVec 32 := Scalar.muli c0_i32 c8192_i32_1374
  let c6656_i32_1375 : BitVec 32 := 6656#32
  let v1912 : BitVec 32 := Scalar.addi v1911 c6656_i32_1375
  v1912
def k0_mult107 : BitVec 32 :=
  let c0_i32 : BitVec 32 := 0#32
  let c8192_i32_1379 : BitVec 32 := 8192#32
  let v1918 : BitVec 32 := Scalar.muli c0_i32 c8192_i32_1379
  let c6656_i32_1380 : BitVec 32 := 6656#32
  let v1919 : BitVec 32 := Scalar.addi v1918 c6656_i32_1380
  v1919
def k0_mult108 : BitVec 32 :=
  let c0_i32 : BitVec 32 := 0#32
  let c8192_i32_1384 : BitVec 32 := 8192#32
  let v1925 : BitVec 32 := Scalar.muli c0_i32 c8192_i32_1384
  let c6656_i32_1385 : BitVec 32 := 6656#32
  let v1926 : BitVec 32 := Scalar.addi v1925 c6656_i32_1385
  v1926
def k0_mult109 : BitVec 32 :=
  let c0_i32 : BitVec 32 := 0#32
  let c8192_i32_1389 : BitVec 32 := 8192#32
  let v1932 : BitVec 32 := Scalar.muli c0_i32 c8192_i32_1389
  let c6912_i32 : BitVec 32 := 6912#32
  let v1933 : BitVec 32 := Scalar.addi v1932 c6912_i32
  v1933
def k0_mult110 : BitVec 32 :=
  let c0_i32 : BitVec 32 := 0#32
  let c8192_i32_1393 : BitVec 32 := 8192#32
  let v1939 : BitVec 32 := Scalar.muli c0_i32 c8192_i32_1393
  let c6912_i32_1394 : BitVec 32 := 6912#32
  let v1940 : BitVec 32 := Scalar.addi v1939 c6912_i32_1394
  v1940
def k0_mult111 : BitVec 32 :=
  let c0_i32 : BitVec 32 := 0#32
  let c8192_i32_1398 : BitVec 32 := 8192#32
  let v1946 : BitVec 32 := Scalar.muli c0_i32 c8192_i32_1398
  let c6912_i32_1399 : BitVec 32 := 6912#32
  let v1947 : BitVec 32 := Scalar.addi v1946 c6912_i32_1399
  v1947
def k0_mult112 : BitVec 32 :=
  let c0_i32 : BitVec 32 := 0#32
  let c8192_i32_1403 : BitVec 32 := 8192#32
  let v1953 : BitVec 32 := Scalar.muli c0_i32 c8192_i32_1403
  let c6912_i32_1404 : BitVec 32 := 6912#32
  let v1954 : BitVec 32 := Scalar.addi v1953 c6912_i32_1404
  v1954
def k0_mult113 : BitVec 32 :=
  let c0_i32 : BitVec 32 := 0#32
  let c8192_i32_1408 : BitVec 32 := 8192#32
  let v1960 : BitVec 32 := Scalar.muli c0_i32 c8192_i32_1408
  let c7168_i32 : BitVec 32 := 7168#32
  let v1961 : BitVec 32 := Scalar.addi v1960 c7168_i32
  v1961
def k0_mult114 : BitVec 32 :=
  let c0_i32 : BitVec 32 := 0#32
  let c8192_i32_1412 : BitVec 32 := 8192#32
  let v1967 : BitVec 32 := Scalar.muli c0_i32 c8192_i32_1412
  let c7168_i32_1413 : BitVec 32 := 7168#32
  let v1968 : BitVec 32 := Scalar.addi v1967 c7168_i32_1413
  v1968
def k0_mult115 : BitVec 32 :=
  let c0_i32 : BitVec 32 := 0#32
  let c8192_i32_1417 : BitVec 32 := 8192#32
  let v1974 : BitVec 32 := Scalar.muli c0_i32 c8192_i32_1417
  let c7168_i32_1418 : BitVec 32 := 7168#32
  let v1975 : BitVec 32 := Scalar.addi v1974 c7168_i32_1418
  v1975
def k0_mult116 : BitVec 32 :=
  let c0_i32 : BitVec 32 := 0#32
  let c8192_i32_1422 : BitVec 32 := 8192#32
  let v1981 : BitVec 32 := Scalar.muli c0_i32 c8192_i32_1422
  let c7168_i32_1423 : BitVec 32 := 7168#32
  let v1982 : BitVec 32 := Scalar.addi v1981 c7168_i32_1423
  v1982
def k0_mult117 : BitVec 32 :=
  let c0_i32 : BitVec 32 := 0#32
  let c8192_i32_1427 : BitVec 32 := 8192#32
  let v1988 : BitVec 32 := Scalar.muli c0_i32 c8192_i32_1427
  let c7424_i32 : BitVec 32 := 7424#32
  let v1989 : BitVec 32 := Scalar.addi v1988 c7424_i32
  v1989
def k0_mult118 : BitVec 32 :=
  let c0_i32 : BitVec 32 := 0#32
  let c8192_i32_1431 : BitVec 32 := 8192#32
  let v1995 : BitVec 32 := Scalar.muli c0_i32 c8192_i32_1431
  let c7424_i32_1432 : BitVec 32 := 7424#32
  let v1996 : BitVec 32 := Scalar.addi v1995 c7424_i32_1432
  v1996
def k0_mult119 : BitVec 32 :=
  let c0_i32 : BitVec 32 := 0#32
  let c8192_i32_1436 : BitVec 32 := 8192#32
  let v2002 : BitVec 32 := Scalar.muli c0_i32 c8192_i32_1436
  let c7424_i32_1437 : BitVec 32 := 7424#32
  let v2003 : BitVec 32 := Scalar.addi v2002 c7424_i32_1437
  v2003
def k0_mult120 : BitVec 32 :=
  let c0_i32 : BitVec 32 := 0#32
  let c8192_i32_1441 : BitVec 32 := 8192#32
  let v2009 : BitVec 32 := Scalar.muli c0_i32 c8192_i32_1441
  let c7424_i32_1442 : BitVec 32 := 7424#32
  let v2010 : BitVec 32 := Scalar.addi v2009 c7424_i32_1442
  v2010
def k0_mult121 : BitVec 32 :=
  let c0_i32 : BitVec 32 := 0#32
  let c8192_i32_1446 : BitVec 32 := 8192#32
  let v2016 : BitVec 32 := Scalar.muli c0_i32 c8192_i32_1446
  let c7680_i32 : BitVec 32 := 7680#32
  let v2017 : BitVec 32 := Scalar.addi v2016 c7680_i32
  v2017
def k0_mult122 : BitVec 32 :=
  let c0_i32 : BitVec 32 := 0#32
  let c8192_i32_1450 : BitVec 32 := 8192#32
  let v2023 : BitVec 32 := Scalar.muli c0_i32 c8192_i32_1450
  let c7680_i32_1451 : BitVec 32 := 7680#32
  let v2024 : BitVec 32 := Scalar.addi v2023 c7680_i32_1451
  v2024
def k0_mult123 : BitVec 32 :=
  let c0_i32 : BitVec 32 := 0#32
  let c8192_i32_1455 : BitVec 32 := 8192#32
  let v2030 : BitVec 32 := Scalar.muli c0_i32 c8192_i32_1455
  let c7680_i32_1456 : BitVec 32 := 7680#32
  let v2031 : BitVec 32 := Scalar.addi v2030 c7680_i32_1456
  v2031
def k0_mult124 : BitVec 32 :=
  let c0_i32 : BitVec 32 := 0#32
  let c8192_i32_1460 : BitVec 32 := 8192#32
  let v2037 : BitVec 32 := Scalar.muli c0_i32 c8192_i32_1460
  let c7680_i32_1461 : BitVec 32 := 7680#32
  let v2038 : BitVec 32 := Scalar.addi v2037 c7680_i32_1461
  v2038
def k0_mult125 : BitVec 32 :=
  let c0_i32 : BitVec 32 := 0#32
  let c8192_i32_1465 : BitVec 32 := 8192#32
  let v2044 : BitVec 32 := Scalar.muli c0_i32 c8192_i32_1465
  let c7936_i32 : BitVec 32 := 7936#32
  let v2045 : BitVec 32 := Scalar.addi v2044 c7936_i32
  v2045
def k0_mult126 : BitVec 32 :=
  let c0_i32 : BitVec 32 := 0#32
  let c8192_i32_1469 : BitVec 32 := 8192#32
  let v2051 : BitVec 32 := Scalar.muli c0_i32 c8192_i32_1469
  let c7936_i32_1470 : BitVec 32 := 7936#32
  let v2052 : BitVec 32 := Scalar.addi v2051 c7936_i32_1470
  v2052
def k0_mult127 : BitVec 32 :=
  let c0_i32 : BitVec 32 := 0#32
  let c8192_i32_1474 : BitVec 32 := 8192#32
  let v2058 : BitVec 32 := Scalar.muli c0_i32 c8192_i32_1474
  let c7936_i32_1475 : BitVec 32 := 7936#32
  let v2059 : BitVec 32 := Scalar.addi v2058 c7936_i32_1475
  v2059
def k0_mult128 : BitVec 32 :=
  let c0_i32 : BitVec 32 := 0#32
  let c8192_i32_1479 : BitVec 32 := 8192#32
  let v2065 : BitVec 32 := Scalar.muli c0_i32 c8192_i32_1479
  let c7936_i32_1480 : BitVec 32 := 7936#32
  let v2066 : BitVec 32 := Scalar.addi v2065 c7936_i32_1480
  v2066
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "qscale" => some (((Real.sqrt 96)⁻¹ * (Real.log 2)⁻¹ : ℝ) : EReal)
  | _ => none
-- ==== ReferenceIdeal.lean ====
abbrev S4x8192x4x96 : Shape := ⟨4, ![4, 8192, 4, 96]⟩
abbrev S4x8192x4x64 : Shape := ⟨4, ![4, 8192, 4, 64]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192x256 : Shape := ⟨3, ![4, 8192, 256]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x96, .f32⟩
  | .hbm, ⟨2, _⟩ => ⟨S4x8192x4x64, .f32⟩
  | .hbm, ⟨3, _⟩ => ⟨S4x4x8192x8192, .f32⟩
  | .hbm, ⟨4, _⟩ => ⟨S_, .f32⟩
  | .hbm, ⟨5, _⟩ => ⟨S_, .f32⟩
  | .hbm, ⟨6, _⟩ => ⟨S4x4x8192x8192, .f32⟩
  | .hbm, ⟨7, _⟩ => ⟨S4x4x8192x8192, .f32⟩
  | .hbm, ⟨8, _⟩ => ⟨S_, .f32⟩
  | .hbm, ⟨9, _⟩ => ⟨S4x4x8192, .f32⟩
  | .hbm, ⟨10, _⟩ => ⟨S_, .f32⟩
  | .hbm, ⟨11, _⟩ => ⟨S4x4x8192, .f32⟩
  | .hbm, ⟨12, _⟩ => ⟨S4x4x8192, .f32⟩
  | .hbm, ⟨13, _⟩ => ⟨S4x4x8192x1, .f32⟩
  | .hbm, ⟨14, _⟩ => ⟨S4x4x8192x8192, .f32⟩
  | .hbm, ⟨15, _⟩ => ⟨S4x4x8192x8192, .f32⟩
  | .hbm, ⟨16, _⟩ => ⟨S4x4x8192x8192, .f32⟩
  | .hbm, ⟨17, _⟩ => ⟨S_, .f32⟩
  | .hbm, ⟨18, _⟩ => ⟨S4x4x8192, .f32⟩
  | .hbm, ⟨19, _⟩ => ⟨S4x4x8192x1, .f32⟩
  | .hbm, ⟨20, _⟩ => ⟨S4x4x8192x8192, .f32⟩
  | .hbm, ⟨21, _⟩ => ⟨S4x4x8192x8192, .f32⟩
  | .hbm, ⟨22, _⟩ => ⟨S4x4x64x8192, .f32⟩
  | .hbm, ⟨23, _⟩ => ⟨S4x8192x4x64, .f32⟩
  | .hbm, ⟨24, _⟩ => ⟨S4x8192x256, .f32⟩
  | .hbm, ⟨25, _⟩ => ⟨S4x8192x256, .bf16⟩
  | _, _ => ⟨S4x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x6944 : Shape := ⟨2, ![1024, 6944]⟩
abbrev S4x8192x256 : Shape := ⟨3, ![4, 8192, 256]⟩
abbrev S4x8192x4x64 : Shape := ⟨4, ![4, 8192, 4, 64]⟩
abbrev S64 : Shape := ⟨1, ![64]⟩
abbrev S4x256x1024 : Shape := ⟨3, ![4, 256, 1024]⟩
abbrev S1024x1024 : Shape := ⟨2, ![1024, 1024]⟩
abbrev S1024x5632 : Shape := ⟨2, ![1024, 5632]⟩
abbrev S2816x1024 : Shape := ⟨2, ![2816, 1024]⟩
abbrev S256x256 : Shape := ⟨2, ![256, 256]⟩
abbrev S1x1024 : Shape := ⟨2, ![1, 1024]⟩
abbrev S1024x4096 : Shape := ⟨2, ![1024, 4096]⟩
abbrev S1x256x1024 : Shape := ⟨3, ![1, 256, 1024]⟩
abbrev S256x1024 : Shape := ⟨2, ![256, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S11x256x1024 : Shape := ⟨3, ![11, 256, 1024]⟩
abbrev S1x512x1024 : Shape := ⟨3, ![1, 512, 1024]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩

abbrev nBuf : Space → Nat
  | .hbm => 50
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6944, .f32⟩
  | .hbm, ⟨3, _⟩ => ⟨S4x8192x256, .f32⟩
  | .hbm, ⟨4, _⟩ => ⟨S4x8192x256, .f32⟩
  | .hbm, ⟨5, _⟩ => ⟨S4x8192x256, .f32⟩
  | .hbm, ⟨6, _⟩ => ⟨S4x8192x4x64, .f32⟩
  | .hbm, ⟨7, _⟩ => ⟨S4x8192x4x64, .f32⟩
  | .hbm, ⟨8, _⟩ => ⟨S4x8192x256, .f32⟩
  | .hbm, ⟨9, _⟩ => ⟨S64, .f32⟩
  | .hbm, ⟨10, _⟩ => ⟨S4x256x1024, .f32⟩
  | .hbm, ⟨11, _⟩ => ⟨S1024x1024, .f32⟩
  | .hbm, ⟨12, _⟩ => ⟨S1024, .f32⟩
  | .hbm, ⟨13, _⟩ => ⟨S1024x5632, .f32⟩
  | .hbm, ⟨14, _⟩ => ⟨S2816x1024, .f32⟩
  | .hbm, ⟨15, _⟩ => ⟨S256x256, .f32⟩
  | .hbm, ⟨16, _⟩ => ⟨S1x1024, .f32⟩
  | .hbm, ⟨17, _⟩ => ⟨S1024x4096, .f32⟩
  | .hbm, ⟨18, _⟩ => ⟨S1024x4096, .bf16⟩
  | .hbm, ⟨19, _⟩ => ⟨S1x256x1024, .f32⟩
  | .hbm, ⟨20, _⟩ => ⟨S256x1024, .f32⟩
  | .hbm, ⟨21, _⟩ => ⟨S256x1024, .bf16⟩
  | .hbm, ⟨22, _⟩ => ⟨S1x256x1024, .f32⟩
  | .hbm, ⟨23, _⟩ => ⟨S256x1024, .f32⟩
  | .hbm, ⟨24, _⟩ => ⟨S256x1024, .bf16⟩
  | .hbm, ⟨25, _⟩ => ⟨S1x256x1024, .f32⟩
  | .hbm, ⟨26, _⟩ => ⟨S256x1024, .f32⟩
  | .hbm, ⟨27, _⟩ => ⟨S256x1024, .bf16⟩
  | .hbm, ⟨28, _⟩ => ⟨S1x256x1024, .f32⟩
  | .hbm, ⟨29, _⟩ => ⟨S256x1024, .f32⟩
  | .hbm, ⟨30, _⟩ => ⟨S256x1024, .bf16⟩
  | .hbm, ⟨31, _⟩ => ⟨S1024x1024, .bf16⟩
  | .hbm, ⟨32, _⟩ => ⟨S1x64, .f32⟩
  | .hbm, ⟨33, _⟩ => ⟨S4x64, .f32⟩
  | .hbm, ⟨34, _⟩ => ⟨S256, .f32⟩
  | .hbm, ⟨35, _⟩ => ⟨S1x256, .f32⟩
  | .hbm, ⟨36, _⟩ => ⟨S256x256, .bf16⟩
  | .hbm, ⟨37, _⟩ => ⟨S1x1024, .f32⟩
  | .hbm, ⟨38, _⟩ => ⟨S1024x5632, .bf16⟩
  | .hbm, ⟨39, _⟩ => ⟨S11x256x1024, .f32⟩
  | .hbm, ⟨40, _⟩ => ⟨S11x256x1024, .bf16⟩
  | .hbm, ⟨41, _⟩ => ⟨S4x8192x256, .bf16⟩
  | .hbm, ⟨42, _⟩ => ⟨S4x8192x256, .bf16⟩
  | .hbm, ⟨43, _⟩ => ⟨S4x8192x256, .bf16⟩
  | .hbm, ⟨44, _⟩ => ⟨S4x8192x256, .f32⟩
  | .hbm, ⟨45, _⟩ => ⟨S4x8192x256, .bf16⟩
  | .hbm, ⟨46, _⟩ => ⟨S4x8192x256, .f32⟩
  | .hbm, ⟨47, _⟩ => ⟨S4x8192x256, .bf16⟩
  | .hbm, ⟨48, _⟩ => ⟨S4x8192x256, .bf16⟩
  | .hbm, ⟨49, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x1024, .f32⟩
  | .local _ .vmem, ⟨15, _⟩ => ⟨S1024x4096, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1x256, .f32⟩
  | .local _ .vmem, ⟨22, _⟩ => ⟨S256x256, .bf16⟩
  | .local _ .vmem, ⟨23, _⟩ => ⟨S1x1024, .f32⟩
  | .local _ .vmem, ⟨24, _⟩ => ⟨S1024x5632, .bf16⟩
  | .local _ .vmem, ⟨25, _⟩ => ⟨S11x256x1024, .bf16⟩
  | .local _ .vmem, ⟨26, _⟩ => ⟨S1x512x1024, .f32⟩
  | .local _ .vmem, ⟨27, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x5632 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S11x256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference2Ideal.lean ====
abbrev S4x8192x1024 : Shape := ⟨3, ![4, 8192, 1024]⟩
abbrev S1024 : Shape := ⟨1, ![1024]⟩
abbrev S1024x6944 : Shape := ⟨2, ![1024, 6944]⟩
abbrev S4x8192x256 : Shape := ⟨3, ![4, 8192, 256]⟩
abbrev S4x8192x4x64 : Shape := ⟨4, ![4, 8192, 4, 64]⟩
abbrev S64 : Shape := ⟨1, ![64]⟩
abbrev S4x256x1024 : Shape := ⟨3, ![4, 256, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4x8192x4096 : Shape := ⟨3, ![4, 8192, 4096]⟩
abbrev S1x256x1024 : Shape := ⟨3, ![1, 256, 1024]⟩
abbrev S256x1024 : Shape := ⟨2, ![256, 1024]⟩
abbrev S4x8192x5632 : Shape := ⟨3, ![4, 8192, 5632]⟩
abbrev S4x8192x2816 : Shape := ⟨3, ![4, 8192, 2816]⟩

abbrev nBuf : Space → Nat
  | .hbm => 152
  | .vmem => 0
  | .smem => 0
  | _ => 0

abbrev hbmTy0_0 (i : Nat) : BufTy := match i % 128 with
  | 0 => ⟨S4x8192x1024, .f32⟩
  | 1 => ⟨S1024, .f32⟩
  | 2 => ⟨S1024x6944, .f32⟩
  | 3 => ⟨S4x8192x256, .f32⟩
  | 4 => ⟨S4x8192x256, .f32⟩
  | 5 => ⟨S4x8192x256, .f32⟩
  | 6 => ⟨S4x8192x4x64, .f32⟩
  | 7 => ⟨S4x8192x4x64, .f32⟩
  | 8 => ⟨S4x8192x256, .f32⟩
  | 9 => ⟨S64, .f32⟩
  | 10 => ⟨S4x256x1024, .f32⟩
  | 11 => ⟨S1024x1024, .f32⟩
  | 12 => ⟨S1024, .f32⟩
  | 13 => ⟨S1024x5632, .f32⟩
  | 14 => ⟨S2816x1024, .f32⟩
  | 15 => ⟨S4x8192x4x64, .f32⟩
  | 16 => ⟨S4x8192x4x64, .f32⟩
  | 17 => ⟨S_, .f32⟩
  | 18 => ⟨S4x8192x4, .f32⟩
  | 19 => ⟨S4x8192x4x1, .f32⟩
  | 20 => ⟨S_, .f32⟩
  | 21 => ⟨S4x8192x4x1, .f32⟩
  | 22 => ⟨S4x8192x4x1, .f32⟩
  | 23 => ⟨S_, .f32⟩
  | 24 => ⟨S4x8192x4x1, .f32⟩
  | 25 => ⟨S4x8192x4x1, .f32⟩
  | 26 => ⟨S4x8192x4x1, .f32⟩
  | 27 => ⟨S4x8192x4x64, .f32⟩
  | 28 => ⟨S4x8192x4x64, .f32⟩
  | 29 => ⟨S1x1x1x64, .f32⟩
  | 30 => ⟨S4x8192x4x64, .f32⟩
  | 31 => ⟨S4x8192x4x64, .f32⟩
  | 32 => ⟨S4x8192x4x64, .f32⟩
  | 33 => ⟨S4x8192x4x64, .f32⟩
  | 34 => ⟨S4x8192x4x64, .f32⟩
  | 35 => ⟨S_, .f32⟩
  | 36 => ⟨S4x8192x4x64, .f32⟩
  | 37 => ⟨S4x8192x4x64, .f32⟩
  | 38 => ⟨S_, .f32⟩
  | 39 => ⟨S4x8192x4x64, .f32⟩
  | 40 => ⟨S4x8192x4x64, .f32⟩
  | 41 => ⟨S4x8192x4x64, .f32⟩
  | 42 => ⟨S4x8192x256, .f32⟩
  | 43 => ⟨S4x8192x1024, .f32⟩
  | 44 => ⟨S_, .f32⟩
  | 45 => ⟨S4x8192, .f32⟩
  | 46 => ⟨S4x8192x1, .f32⟩
  | 47 => ⟨S_, .f32⟩
  | 48 => ⟨S4x8192x1, .f32⟩
  | 49 => ⟨S4x8192x1, .f32⟩
  | 50 => ⟨S_, .f32⟩
  | 51 => ⟨S4x8192x1, .f32⟩
  | 52 => ⟨S4x8192x1, .f32⟩
  | 53 => ⟨S4x8192x1, .f32⟩
  | 54 => ⟨S4x8192x1024, .f32⟩
  | 55 => ⟨S4x8192x1024, .f32⟩
  | 56 => ⟨S1x1x1024, .f32⟩
  | 57 => ⟨S4x8192x1024, .f32⟩
  | 58 => ⟨S4x8192x1024, .f32⟩
  | 59 => ⟨S1024x4096, .f32⟩
  | 60 => ⟨S4x8192x4096, .f32⟩
  | 61 => ⟨S_, .f32⟩
  | 62 => ⟨S4x8192x1024, .f32⟩
  | 63 => ⟨S4x8192x1024, .f32⟩
  | 64 => ⟨S4x8192x1024, .f32⟩
  | 65 => ⟨S4x8192x1024, .f32⟩
  | 66 => ⟨S_, .f32⟩
  | 67 => ⟨S4x8192x1024, .f32⟩
  | 68 => ⟨S4x8192x1024, .f32⟩
  | 69 => ⟨S_, .f32⟩
  | 70 => ⟨S4x8192x1024, .f32⟩
  | 71 => ⟨S4x8192x1024, .f32⟩
  | 72 => ⟨S1x256x1024, .f32⟩
  | 73 => ⟨S256x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S4x8192x1024, .f32⟩
  | 79 => ⟨S4x8192x1024, .f32⟩
  | 80 => ⟨S_, .f32⟩
  | 81 => ⟨S4x8192x1024, .f32⟩
  | 82 => ⟨S4x8192x1024, .f32⟩
  | 83 => ⟨S_, .f32⟩
  | 84 => ⟨S4x8192x1024, .f32⟩
  | 85 => ⟨S4x8192x1024, .f32⟩
  | 86 => ⟨S1x256x1024, .f32⟩
  | 87 => ⟨S256x1024, .f32⟩
  | 88 => ⟨S4x8192x1024, .f32⟩
  | 89 => ⟨S4x8192x1024, .f32⟩
  | 90 => ⟨S4x8192x1024, .f32⟩
  | 91 => ⟨S4x8192x1024, .f32⟩
  | 92 => ⟨S4x8192x1024, .f32⟩
  | 93 => ⟨S4x8192x1024, .f32⟩
  | 94 => ⟨S_, .f32⟩
  | 95 => ⟨S4x8192x1024, .f32⟩
  | 96 => ⟨S4x8192x1024, .f32⟩
  | 97 => ⟨S_, .f32⟩
  | 98 => ⟨S4x8192x1024, .f32⟩
  | 99 => ⟨S4x8192x1024, .f32⟩
  | 100 => ⟨S1x256x1024, .f32⟩
  | 101 => ⟨S256x1024, .f32⟩
  | 102 => ⟨S4x8192x1024, .f32⟩
  | 103 => ⟨S4x8192x1024, .f32⟩
  | 104 => ⟨S4x8192x1024, .f32⟩
  | 105 => ⟨S4x8192x1024, .f32⟩
  | 106 => ⟨S4x8192x1024, .f32⟩
  | 107 => ⟨S4x8192x1024, .f32⟩
  | 108 => ⟨S_, .f32⟩
  | 109 => ⟨S4x8192x1024, .f32⟩
  | 110 => ⟨S4x8192x1024, .f32⟩
  | 111 => ⟨S_, .f32⟩
  | 112 => ⟨S4x8192x1024, .f32⟩
  | 113 => ⟨S4x8192x1024, .f32⟩
  | 114 => ⟨S1x256x1024, .f32⟩
  | 115 => ⟨S256x1024, .f32⟩
  | 116 => ⟨S4x8192x1024, .f32⟩
  | 117 => ⟨S4x8192x1024, .f32⟩
  | 118 => ⟨S4x8192x1024, .f32⟩
  | 119 => ⟨S4x8192x1024, .f32⟩
  | 120 => ⟨S4x8192x1024, .f32⟩
  | 121 => ⟨S4x8192x1024, .f32⟩
  | 122 => ⟨S_, .f32⟩
  | 123 => ⟨S4x8192, .f32⟩
  | 124 => ⟨S4x8192x1, .f32⟩
  | 125 => ⟨S_, .f32⟩
  | 126 => ⟨S4x8192x1, .f32⟩
  | 127 => ⟨S4x8192x1, .f32⟩
  | _ => ⟨S4x8192x1024, .f32⟩

abbrev hbmTy0_1 (i : Nat) : BufTy := match i % 128 with
  | 0 => ⟨S_, .f32⟩
  | 1 => ⟨S4x8192x1, .f32⟩
  | 2 => ⟨S4x8192x1, .f32⟩
  | 3 => ⟨S4x8192x1, .f32⟩
  | 4 => ⟨S4x8192x1024, .f32⟩
  | 5 => ⟨S4x8192x1024, .f32⟩
  | 6 => ⟨S1x1x1024, .f32⟩
  | 7 => ⟨S4x8192x1024, .f32⟩
  | 8 => ⟨S4x8192x1024, .f32⟩
  | 9 => ⟨S4x8192x5632, .f32⟩
  | 10 => ⟨S4x8192x2816, .f32⟩
  | 11 => ⟨S4x8192x2816, .f32⟩
  | 12 => ⟨S4x8192x2816, .f32⟩
  | 13 => ⟨S4x8192x2816, .f32⟩
  | 14 => ⟨S_, .f32⟩
  | 15 => ⟨S4x8192x2816, .f32⟩
  | 16 => ⟨S4x8192x2816, .f32⟩
  | 17 => ⟨S_, .f32⟩
  | 18 => ⟨S4x8192x2816, .f32⟩
  | 19 => ⟨S4x8192x2816, .f32⟩
  | 20 => ⟨S4x8192x2816, .f32⟩
  | 21 => ⟨S4x8192x2816, .f32⟩
  | 22 => ⟨S4x8192x1024, .f32⟩
  | 23 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_16 : Ref sig .tc := ⟨.hbm, 122, rfl⟩
abbrev main_v90 : Ref sig .tc := ⟨.hbm, 123, rfl⟩
abbrev main_v91 : Ref sig .tc := ⟨.hbm, 124, rfl⟩
abbrev main_cst_17 : Ref sig .tc := ⟨.hbm, 125, rfl⟩
abbrev main_v92 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_call0_v0 : Ref sig .tc := ⟨.hbm, 140, rfl⟩
abbrev main_call0_v1 : Ref sig .tc := ⟨.hbm, 141, rfl⟩
abbrev main_call0_cst : Ref sig .tc := ⟨.hbm, 142, rfl⟩
abbrev main_call0_v2 : Ref sig .tc := ⟨.hbm, 143, rfl⟩
abbrev main_call0_v3 : Ref sig .tc := ⟨.hbm, 144, rfl⟩
abbrev main_call0_cst_0 : Ref sig .tc := ⟨.hbm, 145, rfl⟩
abbrev main_call0_v4 : Ref sig .tc := ⟨.hbm, 146, rfl⟩
abbrev main_call0_v5 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]
-- ==== Kernel3.lean ====
abbrev S4x8192x8x32 : Shape := ⟨4, ![4, 8192, 8, 32]⟩
abbrev S4x8192x4x64 : Shape := ⟨4, ![4, 8192, 4, 64]⟩
abbrev S32 : Shape := ⟨1, ![32]⟩
abbrev S64 : Shape := ⟨1, ![64]⟩
abbrev S1 : Shape := ⟨1, ![1]⟩
abbrev S_ : Shape := ⟨0, ![]⟩
abbrev S4x8192x4x1 : Shape := ⟨4, ![4, 8192, 4, 1]⟩
abbrev S4x8192x4x65 : Shape := ⟨4, ![4, 8192, 4, 65]⟩
abbrev S4x8192x4x128 : Shape := ⟨4, ![4, 8192, 4, 128]⟩
abbrev S4x8192x512 : Shape := ⟨3, ![4, 8192, 512]⟩
abbrev S1x64 : Shape := ⟨2, ![1, 64]⟩
abbrev S1x1 : Shape := ⟨2, ![1, 1]⟩
abbrev S4x8192x256 : Shape := ⟨3, ![4, 8192, 256]⟩
abbrev S1x512x256 : Shape := ⟨3, ![1, 512, 256]⟩
abbrev S1x8192x256 : Shape := ⟨3, ![1, 8192, 256]⟩
abbrev S1x8192x512 : Shape := ⟨3, ![1, 8192, 512]⟩
abbrev S8x128x512 : Shape := ⟨3, ![8, 128, 512]⟩
abbrev S512x256 : Shape := ⟨2, ![512, 256]⟩
abbrev S1x256 : Shape := ⟨2, ![1, 256]⟩
abbrev S1x256x256 : Shape := ⟨3, ![1, 256, 256]⟩
abbrev S256x256 : Shape := ⟨2, ![256, 256]⟩
abbrev S256x512 : Shape := ⟨2, ![256, 512]⟩
abbrev S1x128x512 : Shape := ⟨3, ![1, 128, 512]⟩
abbrev S128x512 : Shape := ⟨2, ![128, 512]⟩
abbrev S1x256x128 : Shape := ⟨3, ![1, 256, 128]⟩
abbrev S256x128 : Shape := ⟨2, ![256, 128]⟩
abbrev S64x512 : Shape := ⟨2, ![64, 512]⟩
abbrev S1x512 : Shape := ⟨2, ![1, 512]⟩
abbrev S512 : Shape := ⟨1, ![512]⟩
abbrev S512x64 : Shape := ⟨2, ![512, 64]⟩
abbrev S1x512x64 : Shape := ⟨3, ![1, 512, 64]⟩

abbrev nBuf : Space → Nat
  | .hbm => 39
  | .vmem => 10
  | .smem => 1
  | _ => 0

abbrev bufTy : (tb : Table) → Fin (tcTables nBuf tb) → BufTy
  | .hbm, ⟨0, _⟩ => ⟨S4x8192x8x32, .f32⟩
  | .hbm, ⟨1, _⟩ => ⟨S4x8192x8x32, .f32⟩
  | .hbm, ⟨2, _⟩ => ⟨S4x8192x4x64, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S1, .f32⟩
  | .hbm, ⟨9, _⟩ => ⟨S_, .f32⟩
  | .hbm, ⟨10, _⟩ => ⟨S4x8192x4x1, .f32⟩
  | .hbm, ⟨11, _⟩ => ⟨S4x8192x4x65, .f32⟩
  | .hbm, ⟨12, _⟩ => ⟨S_, .i32⟩
  | .hbm, ⟨13, _⟩ => ⟨S_, .f32⟩
  | .hbm, ⟨14, _⟩ => ⟨S4x8192x4x128, .f32⟩
  | .hbm, ⟨15, _⟩ => ⟨S4x8192x512, .f32⟩
  | .hbm, ⟨16, _⟩ => ⟨S4x8192x512, .bf16⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S1x64, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S1x1, .f32⟩
  | .hbm, ⟨33, _⟩ => ⟨S1x64, .f32⟩
  | .hbm, ⟨34, _⟩ => ⟨S1x64, .f32⟩
  | .hbm, ⟨35, _⟩ => ⟨S4x8192x256, .f32⟩
  | .hbm, ⟨36, _⟩ => ⟨S4x8192x256, .f32⟩
  | .hbm, ⟨37, _⟩ => ⟨S4x8192x256, .bf16⟩
  | .hbm, ⟨38, _⟩ => ⟨S4x8192x256, .bf16⟩
  | .local _ .vmem, ⟨0, _⟩ => ⟨S1x512x256, .f32⟩
  | .local _ .vmem, ⟨1, _⟩ => ⟨S1x512x256, .f32⟩
  | .local _ .vmem, ⟨2, _⟩ => ⟨S1x8192x256, .bf16⟩
  | .local _ .vmem, ⟨3, _⟩ => ⟨S1x8192x256, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x64, .f32⟩
  | .local _ .vmem, ⟨7, _⟩ => ⟨S1x512x256, .bf16⟩
  | .local _ .vmem, ⟨8, _⟩ => ⟨S1x512x256, .bf16⟩
  | .local _ .vmem, ⟨9, _⟩ => ⟨S8x128x512, .f32⟩
  | .local _ .smem, ⟨0, _⟩ => ⟨S1, .f32⟩
  | _, _ => ⟨S4x8192x8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32_20 : BitVec 32 := 0#32
  let c8192_i32 : BitVec 32 := 8192#32
  let v82 : BitVec 32 := Scalar.muli c0_i32_20 c8192_i32
  let c0_i32_21 : BitVec 32 := 0#32
  let v83 : BitVec 32 := Scalar.addi v82 c0_i32_21
  v83
def k0_off1 (c0_i32_21 : BitVec 32) : Fin 3 → Nat :=
  let c0_22 : Index := 0#32
  let c0_i32_20 : BitVec 32 := 0#32
  let c8192_i32 : BitVec 32 := 8192#32
  let v82 : BitVec 32 := Scalar.muli c0_i32_20 c8192_i32
  let v83 : BitVec 32 := Scalar.addi v82 c0_i32_21
  let v84 : BitVec 32 := v83
  let v85 : Index := Scalar.indexCast v84
  let c0_23 : Index := 0#32
  ![0, v85.toNat, 0]
def k0_mult2 : BitVec 32 :=
  let c0_i32_20 : BitVec 32 := 0#32
  let c8192_i32_25 : BitVec 32 := 8192#32
  let v89 : BitVec 32 := Scalar.muli c0_i32_20 c8192_i32_25
  let c0_i32_26 : BitVec 32 := 0#32
  let v90 : BitVec 32 := Scalar.addi v89 c0_i32_26
  v90
def k0_mult3 : BitVec 32 :=
  let c0_i32_20 : BitVec 32 := 0#32
  let c8192_i32_30 : BitVec 32 := 8192#32
  let v96 : BitVec 32 := Scalar.muli c0_i32_20 c8192_i32_30
  let c0_i32_31 : BitVec 32 := 0#32
  let v97 : BitVec 32 := Scalar.addi v96 c0_i32_31
  v97
def k0_mult4 : BitVec 32 :=
  let c0_i32_20 : BitVec 32 := 0#32
  let c8192_i32_35 : BitVec 32 := 8192#32
  let v103 : BitVec 32 := Scalar.muli c0_i32_20 c8192_i32_35
  let c0_i32_36 : BitVec 32 := 0#32
  let v104 : BitVec 32 := Scalar.addi v103 c0_i32_36
  v104
def k0_mult5 : BitVec 32 :=
  let c0_i32_20 : BitVec 32 := 0#32
  let c8192_i32_40 : BitVec 32 := 8192#32
  let v110 : BitVec 32 := Scalar.muli c0_i32_20 c8192_i32_40
  let c0_i32_41 : BitVec 32 := 0#32
  let v111 : BitVec 32 := Scalar.addi v110 c0_i32_41
  v111
def k0_mult6 : BitVec 32 :=
  let c0_i32_20 : BitVec 32 := 0#32
  let c8192_i32_45 : BitVec 32 := 8192#32
  let v117 : BitVec 32 := Scalar.muli c0_i32_20 c8192_i32_45
  let c0_i32_46 : BitVec 32 := 0#32
  let v118 : BitVec 32 := Scalar.addi v117 c0_i32_46
  v118
def k0_mult7 : BitVec 32 :=
  let c0_i32_20 : BitVec 32 := 0#32
  let c8192_i32_50 : BitVec 32 := 8192#32
  let v124 : BitVec 32 := Scalar.muli c0_i32_20 c8192_i32_50
  let c0_i32_51 : BitVec 32 := 0#32
  let v125 : BitVec 32 := Scalar.addi v124 c0_i32_51
  v125
def k0_mult8 : BitVec 32 :=
  let c0_i32_20 : BitVec 32 := 0#32
  let c8192_i32_55 : BitVec 32 := 8192#32
  let v131 : BitVec 32 := Scalar.muli c0_i32_20 c8192_i32_55
  let c0_i32_56 : BitVec 32 := 0#32
  let v132 : BitVec 32 := Scalar.addi v131 c0_i32_56
  v132
def k0_mult9 : BitVec 32 :=
  let c0_i32_20 : BitVec 32 := 0#32
  let c8192_i32_60 : BitVec 32 := 8192#32
  let v138 : BitVec 32 := Scalar.muli c0_i32_20 c8192_i32_60
  let c256_i32 : BitVec 32 := 256#32
  let v139 : BitVec 32 := Scalar.addi v138 c256_i32
  v139
def k0_mult10 : BitVec 32 :=
  let c0_i32_20 : BitVec 32 := 0#32
  let c8192_i32_64 : BitVec 32 := 8192#32
  let v145 : BitVec 32 := Scalar.muli c0_i32_20 c8192_i32_64
  let c256_i32_65 : BitVec 32 := 256#32
  let v146 : BitVec 32 := Scalar.addi v145 c256_i32_65
  v146
def k0_mult11 : BitVec 32 :=
  let c0_i32_20 : BitVec 32 := 0#32
  let c8192_i32_69 : BitVec 32 := 8192#32
  let v152 : BitVec 32 := Scalar.muli c0_i32_20 c8192_i32_69
  let c256_i32_70 : BitVec 32 := 256#32
  let v153 : BitVec 32 := Scalar.addi v152 c256_i32_70
  v153
def k0_mult12 : BitVec 32 :=
  let c0_i32_20 : BitVec 32 := 0#32
  let c8192_i32_74 : BitVec 32 := 8192#32
  let v159 : BitVec 32 := Scalar.muli c0_i32_20 c8192_i32_74
  let c256_i32_75 : BitVec 32 := 256#32
  let v160 : BitVec 32 := Scalar.addi v159 c256_i32_75
  v160
def k0_mult13 : BitVec 32 :=
  let c0_i32_20 : BitVec 32 := 0#32
  let c8192_i32_79 : BitVec 32 := 8192#32
  let v166 : BitVec 32 := Scalar.muli c0_i32_20 c8192_i32_79
  let c256_i32_80 : BitVec 32 := 256#32
  let v167 : BitVec 32 := Scalar.addi v166 c256_i32_80
  v167
def k0_mult14 : BitVec 32 :=
  let c0_i32_20 : BitVec 32 := 0#32
  let c8192_i32_84 : BitVec 32 := 8192#32
  let v173 : BitVec 32 := Scalar.muli c0_i32_20 c8192_i32_84
  let c256_i32_85 : BitVec 32 := 256#32
  let v174 : BitVec 32 := Scalar.addi v173 c256_i32_85
  v174
def k0_mult15 : BitVec 32 :=
  let c0_i32_20 : BitVec 32 := 0#32
  let c8192_i32_89 : BitVec 32 := 8192#32
  let v180 : BitVec 32 := Scalar.muli c0_i32_20 c8192_i32_89
  let c256_i32_90 : BitVec 32 := 256#32
  let v181 : BitVec 32 := Scalar.addi v180 c256_i32_90
  v181
def k0_mult16 : BitVec 32 :=
  let c0_i32_20 : BitVec 32 := 0#32
  let c8192_i32_94 : BitVec 32 := 8192#32
  let v187 : BitVec 32 := Scalar.muli c0_i32_20 c8192_i32_94
  let c256_i32_95 : BitVec 32 := 256#32
  let v188 : BitVec 32 := Scalar.addi v187 c256_i32_95
  v188
def k0_mult17 : BitVec 32 :=
  let c0_i32_20 : BitVec 32 := 0#32
  let c8192_i32_99 : BitVec 32 := 8192#32
  let v194 : BitVec 32 := Scalar.muli c0_i32_20 c8192_i32_99
  let c512_i32 : BitVec 32 := 512#32
  let v195 : BitVec 32 := Scalar.addi v194 c512_i32
  v195
def k0_mult18 : BitVec 32 :=
  let c0_i32_20 : BitVec 32 := 0#32
  let c8192_i32_103 : BitVec 32 := 8192#32
  let v201 : BitVec 32 := Scalar.muli c0_i32_20 c8192_i32_103
  let c512_i32_104 : BitVec 32 := 512#32
  let v202 : BitVec 32 := Scalar.addi v201 c512_i32_104
  v202
def k0_mult19 : BitVec 32 :=
  let c0_i32_20 : BitVec 32 := 0#32
  let c8192_i32_108 : BitVec 32 := 8192#32
  let v208 : BitVec 32 := Scalar.muli c0_i32_20 c8192_i32_108
  let c512_i32_109 : BitVec 32 := 512#32
  let v209 : BitVec 32 := Scalar.addi v208 c512_i32_109
  v209
def k0_mult20 : BitVec 32 :=
  let c0_i32_20 : BitVec 32 := 0#32
  let c8192_i32_113 : BitVec 32 := 8192#32
  let v215 : BitVec 32 := Scalar.muli c0_i32_20 c8192_i32_113
  let c512_i32_114 : BitVec 32 := 512#32
  let v216 : BitVec 32 := Scalar.addi v215 c512_i32_114
  v216
def k0_mult21 : BitVec 32 :=
  let c0_i32_20 : BitVec 32 := 0#32
  let c8192_i32_118 : BitVec 32 := 8192#32
  let v222 : BitVec 32 := Scalar.muli c0_i32_20 c8192_i32_118
  let c512_i32_119 : BitVec 32 := 512#32
  let v223 : BitVec 32 := Scalar.addi v222 c512_i32_119
  v223
def k0_mult22 : BitVec 32 :=
  let c0_i32_20 : BitVec 32 := 0#32
  let c8192_i32_123 : BitVec 32 := 8192#32
  let v229 : BitVec 32 := Scalar.muli c0_i32_20 c8192_i32_123
  let c512_i32_124 : BitVec 32 := 512#32
  let v230 : BitVec 32 := Scalar.addi v229 c512_i32_124
  v230
def k0_mult23 : BitVec 32 :=
  let c0_i32_20 : BitVec 32 := 0#32
  let c8192_i32_128 : BitVec 32 := 8192#32
  let v236 : BitVec 32 := Scalar.muli c0_i32_20 c8192_i32_128
  let c512_i32_129 : BitVec 32 := 512#32
  let v237 : BitVec 32 := Scalar.addi v236 c512_i32_129
  v237
def k0_mult24 : BitVec 32 :=
  let c0_i32_20 : BitVec 32 := 0#32
  let c8192_i32_133 : BitVec 32 := 8192#32
  let v243 : BitVec 32 := Scalar.muli c0_i32_20 c8192_i32_133
  let c512_i32_134 : BitVec 32 := 512#32
  let v244 : BitVec 32 := Scalar.addi v243 c512_i32_134
  v244
def k0_mult25 : BitVec 32 :=
  let c0_i32_20 : BitVec 32 := 0#32
  let c8192_i32_138 : BitVec 32 := 8192#32
  let v250 : BitVec 32 := Scalar.muli c0_i32_20 c8192_i32_138
  let c768_i32 : BitVec 32 := 768#32
  let v251 : BitVec 32 := Scalar.addi v250 c768_i32
  v251
def k0_mult26 : BitVec 32 :=
  let c0_i32_20 : BitVec 32 := 0#32
  let c8192_i32_142 : BitVec 32 := 8192#32
  let v257 : BitVec 32 := Scalar.muli c0_i32_20 c8192_i32_142
  let c768_i32_143 : BitVec 32 := 768#32
  let v258 : BitVec 32 := Scalar.addi v257 c768_i32_143
  v258
def k0_mult27 : BitVec 32 :=
  let c0_i32_20 : BitVec 32 := 0#32
  let c8192_i32_147 : BitVec 32 := 8192#32
  let v264 : BitVec 32 := Scalar.muli c0_i32_20 c8192_i32_147
  let c768_i32_148 : BitVec 32 := 768#32
  let v265 : BitVec 32 := Scalar.addi v264 c768_i32_148
  v265
def k0_mult28 : BitVec 32 :=
  let c0_i32_20 : BitVec 32 := 0#32
  let c8192_i32_152 : BitVec 32 := 8192#32
  let v271 : BitVec 32 := Scalar.muli c0_i32_20 c8192_i32_152
  let c768_i32_153 : BitVec 32 := 768#32
  let v272 : BitVec 32 := Scalar.addi v271 c768_i32_153
  v272
def k0_mult29 : BitVec 32 :=
  let c0_i32_20 : BitVec 32 := 0#32
  let c8192_i32_157 : BitVec 32 := 8192#32
  let v278 : BitVec 32 := Scalar.muli c0_i32_20 c8192_i32_157
  let c768_i32_158 : BitVec 32 := 768#32
  let v279 : BitVec 32 := Scalar.addi v278 c768_i32_158
  v279
def k0_mult30 : BitVec 32 :=
  let c0_i32_20 : BitVec 32 := 0#32
  let c8192_i32_162 : BitVec 32 := 8192#32
  let v285 : BitVec 32 := Scalar.muli c0_i32_20 c8192_i32_162
  let c768_i32_163 : BitVec 32 := 768#32
  let v286 : BitVec 32 := Scalar.addi v285 c768_i32_163
  v286
def k0_mult31 : BitVec 32 :=
  let c0_i32_20 : BitVec 32 := 0#32
  let c8192_i32_167 : BitVec 32 := 8192#32
  let v292 : BitVec 32 := Scalar.muli c0_i32_20 c8192_i32_167
  let c768_i32_168 : BitVec 32 := 768#32
  let v293 : BitVec 32 := Scalar.addi v292 c768_i32_168
  v293
def k0_mult32 : BitVec 32 :=
  let c0_i32_20 : BitVec 32 := 0#32
  let c8192_i32_172 : BitVec 32 := 8192#32
  let v299 : BitVec 32 := Scalar.muli c0_i32_20 c8192_i32_172
  let c768_i32_173 : BitVec 32 := 768#32
  let v300 : BitVec 32 := Scalar.addi v299 c768_i32_173
  v300
def k0_off2 (c0_i32_21 : BitVec 32) : Fin 3 → Nat :=
  let c0_180 : Index := 0#32
  let c0_i32_20 : BitVec 32 := 0#32
  let c8192_i32 : BitVec 32 := 8192#32
  let v82 : BitVec 32 := Scalar.muli c0_i32_20 c8192_i32
  let v83 : BitVec 32 := Scalar.addi v82 c0_i32_21
  let v84 : BitVec 32 := v83
  let v372 : Index := Scalar.indexCast v84
  let c0_181 : Index := 0#32
  ![0, v372.toNat, 0]
def k0_off3 (c0_i32_31 : BitVec 32) : Fin 3 → Nat :=
  let c0_196 : Index := 0#32
  let c0_i32_20 : BitVec 32 := 0#32
  let c8192_i32_30 : BitVec 32 := 8192#32
  let v96 : BitVec 32 := Scalar.muli c0_i32_20 c8192_i32_30
  let v97 : BitVec 32 := Scalar.addi v96 c0_i32_31
  let v98 : BitVec 32 := v97
  let v392 : Index := Scalar.indexCast v98
  let c128 : Index := 128#32
  ![0, v392.toNat, 128]
def k0_off4 (c0_i32_41 : BitVec 32) : Fin 3 → Nat :=
  let c0_211 : Index := 0#32
  let c0_i32_20 : BitVec 32 := 0#32
  let c8192_i32_40 : BitVec 32 := 8192#32
  let v110 : BitVec 32 := Scalar.muli c0_i32_20 c8192_i32_40
  let v111 : BitVec 32 := Scalar.addi v110 c0_i32_41
  let v112 : BitVec 32 := v111
  let v412 : Index := Scalar.indexCast v112
  let c256 : Index := 256#32
  ![0, v412.toNat, 256]
def k0_off5 (c0_i32_51 : BitVec 32) : Fin 3 → Nat :=
  let c0_226 : Index := 0#32
  let c0_i32_20 : BitVec 32 := 0#32
  let c8192_i32_50 : BitVec 32 := 8192#32
  let v124 : BitVec 32 := Scalar.muli c0_i32_20 c8192_i32_50
  let v125 : BitVec 32 := Scalar.addi v124 c0_i32_51
  let v126 : BitVec 32 := v125
  let v432 : Index := Scalar.indexCast v126
  let c384 : Index := 384#32
  ![0, v432.toNat, 384]
def k0_mult33 : BitVec 32 :=
  let c0_i32_20 : BitVec 32 := 0#32
  let c8192_i32_455 : BitVec 32 := 8192#32
  let v690 : BitVec 32 := Scalar.muli c0_i32_20 c8192_i32_455
  let c1024_i32 : BitVec 32 := 1024#32
  let v691 : BitVec 32 := Scalar.addi v690 c1024_i32
  v691
def k0_mult34 : BitVec 32 :=
  let c0_i32_20 : BitVec 32 := 0#32
  let c8192_i32_459 : BitVec 32 := 8192#32
  let v697 : BitVec 32 := Scalar.muli c0_i32_20 c8192_i32_459
  let c1024_i32_460 : BitVec 32 := 1024#32
  let v698 : BitVec 32 := Scalar.addi v697 c1024_i32_460
  v698
def k0_mult35 : BitVec 32 :=
  let c0_i32_20 : BitVec 32 := 0#32
  let c8192_i32_464 : BitVec 32 := 8192#32
  let v704 : BitVec 32 := Scalar.muli c0_i32_20 c8192_i32_464
  let c1024_i32_465 : BitVec 32 := 1024#32
  let v705 : BitVec 32 := Scalar.addi v704 c1024_i32_465
  v705
def k0_mult36 : BitVec 32 :=
  let c0_i32_20 : BitVec 32 := 0#32
  let c8192_i32_469 : BitVec 32 := 8192#32
  let v711 : BitVec 32 := Scalar.muli c0_i32_20 c8192_i32_469
  let c1024_i32_470 : BitVec 32 := 1024#32
  let v712 : BitVec 32 := Scalar.addi v711 c1024_i32_470
  v712
def k0_mult37 : BitVec 32 :=
  let c0_i32_20 : BitVec 32 := 0#32
  let c8192_i32_474 : BitVec 32 := 8192#32
  let v718 : BitVec 32 := Scalar.muli c0_i32_20 c8192_i32_474
  let c1024_i32_475 : BitVec 32 := 1024#32
  let v719 : BitVec 32 := Scalar.addi v718 c1024_i32_475
  v719
def k0_mult38 : BitVec 32 :=
  let c0_i32_20 : BitVec 32 := 0#32
  let c8192_i32_479 : BitVec 32 := 8192#32
  let v725 : BitVec 32 := Scalar.muli c0_i32_20 c8192_i32_479
  let c1024_i32_480 : BitVec 32 := 1024#32
  let v726 : BitVec 32 := Scalar.addi v725 c1024_i32_480
  v726
def k0_mult39 : BitVec 32 :=
  let c0_i32_20 : BitVec 32 := 0#32
  let c8192_i32_484 : BitVec 32 := 8192#32
  let v732 : BitVec 32 := Scalar.muli c0_i32_20 c8192_i32_484
  let c1024_i32_485 : BitVec 32 := 1024#32
  let v733 : BitVec 32 := Scalar.addi v732 c1024_i32_485
  v733
def k0_mult40 : BitVec 32 :=
  let c0_i32_20 : BitVec 32 := 0#32
  let c8192_i32_489 : BitVec 32 := 8192#32
  let v739 : BitVec 32 := Scalar.muli c0_i32_20 c8192_i32_489
  let c1024_i32_490 : BitVec 32 := 1024#32
  let v740 : BitVec 32 := Scalar.addi v739 c1024_i32_490
  v740
def k0_mult41 : BitVec 32 :=
  let c0_i32_20 : BitVec 32 := 0#32
  let c8192_i32_494 : BitVec 32 := 8192#32
  let v746 : BitVec 32 := Scalar.muli c0_i32_20 c8192_i32_494
  let c1280_i32 : BitVec 32 := 1280#32
  let v747 : BitVec 32 := Scalar.addi v746 c1280_i32
  v747
def k0_mult42 : BitVec 32 :=
  let c0_i32_20 : BitVec 32 := 0#32
  let c8192_i32_498 : BitVec 32 := 8192#32
  let v753 : BitVec 32 := Scalar.muli c0_i32_20 c8192_i32_498
  let c1280_i32_499 : BitVec 32 := 1280#32
  let v754 : BitVec 32 := Scalar.addi v753 c1280_i32_499
  v754
def k0_mult43 : BitVec 32 :=
  let c0_i32_20 : BitVec 32 := 0#32
  let c8192_i32_503 : BitVec 32 := 8192#32
  let v760 : BitVec 32 := Scalar.muli c0_i32_20 c8192_i32_503
  let c1280_i32_504 : BitVec 32 := 1280#32
  let v761 : BitVec 32 := Scalar.addi v760 c1280_i32_504
  v761
def k0_mult44 : BitVec 32 :=
  let c0_i32_20 : BitVec 32 := 0#32
  let c8192_i32_508 : BitVec 32 := 8192#32
  let v767 : BitVec 32 := Scalar.muli c0_i32_20 c8192_i32_508
  let c1280_i32_509 : BitVec 32 := 1280#32
  let v768 : BitVec 32 := Scalar.addi v767 c1280_i32_509
  v768
def k0_mult45 : BitVec 32 :=
  let c0_i32_20 : BitVec 32 := 0#32
  let c8192_i32_513 : BitVec 32 := 8192#32
  let v774 : BitVec 32 := Scalar.muli c0_i32_20 c8192_i32_513
  let c1280_i32_514 : BitVec 32 := 1280#32
  let v775 : BitVec 32 := Scalar.addi v774 c1280_i32_514
  v775
def k0_mult46 : BitVec 32 :=
  let c0_i32_20 : BitVec 32 := 0#32
  let c8192_i32_518 : BitVec 32 := 8192#32
  let v781 : BitVec 32 := Scalar.muli c0_i32_20 c8192_i32_518
  let c1280_i32_519 : BitVec 32 := 1280#32
  let v782 : BitVec 32 := Scalar.addi v781 c1280_i32_519
  v782
def k0_mult47 : BitVec 32 :=
  let c0_i32_20 : BitVec 32 := 0#32
  let c8192_i32_523 : BitVec 32 := 8192#32
  let v788 : BitVec 32 := Scalar.muli c0_i32_20 c8192_i32_523
  let c1280_i32_524 : BitVec 32 := 1280#32
  let v789 : BitVec 32 := Scalar.addi v788 c1280_i32_524
  v789
def k0_mult48 : BitVec 32 :=
  let c0_i32_20 : BitVec 32 := 0#32
  let c8192_i32_528 : BitVec 32 := 8192#32
  let v795 : BitVec 32 := Scalar.muli c0_i32_20 c8192_i32_528
  let c1280_i32_529 : BitVec 32 := 1280#32
  let v796 : BitVec 32 := Scalar.addi v795 c1280_i32_529
  v796
def k0_mult49 : BitVec 32 :=
  let c0_i32_20 : BitVec 32 := 0#32
  let c8192_i32_533 : BitVec 32 := 8192#32
  let v802 : BitVec 32 := Scalar.muli c0_i32_20 c8192_i32_533
  let c1536_i32 : BitVec 32 := 1536#32
  let v803 : BitVec 32 := Scalar.addi v802 c1536_i32
  v803
def k0_mult50 : BitVec 32 :=
  let c0_i32_20 : BitVec 32 := 0#32
  let c8192_i32_537 : BitVec 32 := 8192#32
  let v809 : BitVec 32 := Scalar.muli c0_i32_20 c8192_i32_537
  let c1536_i32_538 : BitVec 32 := 1536#32
  let v810 : BitVec 32 := Scalar.addi v809 c1536_i32_538
  v810
def k0_mult51 : BitVec 32 :=
  let c0_i32_20 : BitVec 32 := 0#32
  let c8192_i32_542 : BitVec 32 := 8192#32
  let v816 : BitVec 32 := Scalar.muli c0_i32_20 c8192_i32_542
  let c1536_i32_543 : BitVec 32 := 1536#32
  let v817 : BitVec 32 := Scalar.addi v816 c1536_i32_543
  v817
def k0_mult52 : BitVec 32 :=
  let c0_i32_20 : BitVec 32 := 0#32
  let c8192_i32_547 : BitVec 32 := 8192#32
  let v823 : BitVec 32 := Scalar.muli c0_i32_20 c8192_i32_547
  let c1536_i32_548 : BitVec 32 := 1536#32
  let v824 : BitVec 32 := Scalar.addi v823 c1536_i32_548
  v824
def k0_mult53 : BitVec 32 :=
  let c0_i32_20 : BitVec 32 := 0#32
  let c8192_i32_552 : BitVec 32 := 8192#32
  let v830 : BitVec 32 := Scalar.muli c0_i32_20 c8192_i32_552
  let c1536_i32_553 : BitVec 32 := 1536#32
  let v831 : BitVec 32 := Scalar.addi v830 c1536_i32_553
  v831
def k0_mult54 : BitVec 32 :=
  let c0_i32_20 : BitVec 32 := 0#32
  let c8192_i32_557 : BitVec 32 := 8192#32
  let v837 : BitVec 32 := Scalar.muli c0_i32_20 c8192_i32_557
  let c1536_i32_558 : BitVec 32 := 1536#32
  let v838 : BitVec 32 := Scalar.addi v837 c1536_i32_558
  v838
def k0_mult55 : BitVec 32 :=
  let c0_i32_20 : BitVec 32 := 0#32
  let c8192_i32_562 : BitVec 32 := 8192#32
  let v844 : BitVec 32 := Scalar.muli c0_i32_20 c8192_i32_562
  let c1536_i32_563 : BitVec 32 := 1536#32
  let v845 : BitVec 32 := Scalar.addi v844 c1536_i32_563
  v845
def k0_mult56 : BitVec 32 :=
  let c0_i32_20 : BitVec 32 := 0#32
  let c8192_i32_567 : BitVec 32 := 8192#32
  let v851 : BitVec 32 := Scalar.muli c0_i32_20 c8192_i32_567
  let c1536_i32_568 : BitVec 32 := 1536#32
  let v852 : BitVec 32 := Scalar.addi v851 c1536_i32_568
  v852
def k0_mult57 : BitVec 32 :=
  let c0_i32_20 : BitVec 32 := 0#32
  let c8192_i32_572 : BitVec 32 := 8192#32
  let v858 : BitVec 32 := Scalar.muli c0_i32_20 c8192_i32_572
  let c1792_i32 : BitVec 32 := 1792#32
  let v859 : BitVec 32 := Scalar.addi v858 c1792_i32
  v859
def k0_mult58 : BitVec 32 :=
  let c0_i32_20 : BitVec 32 := 0#32
  let c8192_i32_576 : BitVec 32 := 8192#32
  let v865 : BitVec 32 := Scalar.muli c0_i32_20 c8192_i32_576
  let c1792_i32_577 : BitVec 32 := 1792#32
  let v866 : BitVec 32 := Scalar.addi v865 c1792_i32_577
  v866
def k0_mult59 : BitVec 32 :=
  let c0_i32_20 : BitVec 32 := 0#32
  let c8192_i32_581 : BitVec 32 := 8192#32
  let v872 : BitVec 32 := Scalar.muli c0_i32_20 c8192_i32_581
  let c1792_i32_582 : BitVec 32 := 1792#32
  let v873 : BitVec 32 := Scalar.addi v872 c1792_i32_582
  v873
def k0_mult60 : BitVec 32 :=
  let c0_i32_20 : BitVec 32 := 0#32
  let c8192_i32_586 : BitVec 32 := 8192#32
  let v879 : BitVec 32 := Scalar.muli c0_i32_20 c8192_i32_586
  let c1792_i32_587 : BitVec 32 := 1792#32
  let v880 : BitVec 32 := Scalar.addi v879 c1792_i32_587
  v880
def k0_mult61 : BitVec 32 :=
  let c0_i32_20 : BitVec 32 := 0#32
  let c8192_i32_591 : BitVec 32 := 8192#32
  let v886 : BitVec 32 := Scalar.muli c0_i32_20 c8192_i32_591
  let c1792_i32_592 : BitVec 32 := 1792#32
  let v887 : BitVec 32 := Scalar.addi v886 c1792_i32_592
  v887
def k0_mult62 : BitVec 32 :=
  let c0_i32_20 : BitVec 32 := 0#32
  let c8192_i32_596 : BitVec 32 := 8192#32
  let v893 : BitVec 32 := Scalar.muli c0_i32_20 c8192_i32_596
  let c1792_i32_597 : BitVec 32 := 1792#32
  let v894 : BitVec 32 := Scalar.addi v893 c1792_i32_597
  v894
def k0_mult63 : BitVec 32 :=
  let c0_i32_20 : BitVec 32 := 0#32
  let c8192_i32_601 : BitVec 32 := 8192#32
  let v900 : BitVec 32 := Scalar.muli c0_i32_20 c8192_i32_601
  let c1792_i32_602 : BitVec 32 := 1792#32
  let v901 : BitVec 32 := Scalar.addi v900 c1792_i32_602
  v901
def k0_mult64 : BitVec 32 :=
  let c0_i32_20 : BitVec 32 := 0#32
  let c8192_i32_606 : BitVec 32 := 8192#32
  let v907 : BitVec 32 := Scalar.muli c0_i32_20 c8192_i32_606
  let c1792_i32_607 : BitVec 32 := 1792#32
  let v908 : BitVec 32 := Scalar.addi v907 c1792_i32_607
  v908
def k0_mult65 : BitVec 32 :=
  let c0_i32_20 : BitVec 32 := 0#32
  let c8192_i32_899 : BitVec 32 := 8192#32
  let v1298 : BitVec 32 := Scalar.muli c0_i32_20 c8192_i32_899
  let c2048_i32 : BitVec 32 := 2048#32
  let v1299 : BitVec 32 := Scalar.addi v1298 c2048_i32
  v1299
def k0_mult66 : BitVec 32 :=
  let c0_i32_20 : BitVec 32 := 0#32
  let c8192_i32_903 : BitVec 32 := 8192#32
  let v1305 : BitVec 32 := Scalar.muli c0_i32_20 c8192_i32_903
  let c2048_i32_904 : BitVec 32 := 2048#32
  let v1306 : BitVec 32 := Scalar.addi v1305 c2048_i32_904
  v1306
def k0_mult67 : BitVec 32 :=
  let c0_i32_20 : BitVec 32 := 0#32
  let c8192_i32_908 : BitVec 32 := 8192#32
  let v1312 : BitVec 32 := Scalar.muli c0_i32_20 c8192_i32_908
  let c2048_i32_909 : BitVec 32 := 2048#32
  let v1313 : BitVec 32 := Scalar.addi v1312 c2048_i32_909
  v1313
def k0_mult68 : BitVec 32 :=
  let c0_i32_20 : BitVec 32 := 0#32
  let c8192_i32_913 : BitVec 32 := 8192#32
  let v1319 : BitVec 32 := Scalar.muli c0_i32_20 c8192_i32_913
  let c2048_i32_914 : BitVec 32 := 2048#32
  let v1320 : BitVec 32 := Scalar.addi v1319 c2048_i32_914
  v1320
def k0_mult69 : BitVec 32 :=
  let c0_i32_20 : BitVec 32 := 0#32
  let c8192_i32_918 : BitVec 32 := 8192#32
  let v1326 : BitVec 32 := Scalar.muli c0_i32_20 c8192_i32_918
  let c2048_i32_919 : BitVec 32 := 2048#32
  let v1327 : BitVec 32 := Scalar.addi v1326 c2048_i32_919
  v1327
def k0_mult70 : BitVec 32 :=
  let c0_i32_20 : BitVec 32 := 0#32
  let c8192_i32_923 : BitVec 32 := 8192#32
  let v1333 : BitVec 32 := Scalar.muli c0_i32_20 c8192_i32_923
  let c2048_i32_924 : BitVec 32 := 2048#32
  let v1334 : BitVec 32 := Scalar.addi v1333 c2048_i32_924
  v1334
def k0_mult71 : BitVec 32 :=
  let c0_i32_20 : BitVec 32 := 0#32
  let c8192_i32_928 : BitVec 32 := 8192#32
  let v1340 : BitVec 32 := Scalar.muli c0_i32_20 c8192_i32_928
  let c2048_i32_929 : BitVec 32 := 2048#32
  let v1341 : BitVec 32 := Scalar.addi v1340 c2048_i32_929
  v1341
def k0_mult72 : BitVec 32 :=
  let c0_i32_20 : BitVec 32 := 0#32
  let c8192_i32_933 : BitVec 32 := 8192#32
  let v1347 : BitVec 32 := Scalar.muli c0_i32_20 c8192_i32_933
  let c2048_i32_934 : BitVec 32 := 2048#32
  let v1348 : BitVec 32 := Scalar.addi v1347 c2048_i32_934
  v1348
def k0_mult73 : BitVec 32 :=
  let c0_i32_20 : BitVec 32 := 0#32
  let c8192_i32_938 : BitVec 32 := 8192#32
  let v1354 : BitVec 32 := Scalar.muli c0_i32_20 c8192_i32_938
  let c2304_i32 : BitVec 32 := 2304#32
  let v1355 : BitVec 32 := Scalar.addi v1354 c2304_i32
  v1355
def k0_mult74 : BitVec 32 :=
  let c0_i32_20 : BitVec 32 := 0#32
  let c8192_i32_942 : BitVec 32 := 8192#32
  let v1361 : BitVec 32 := Scalar.muli c0_i32_20 c8192_i32_942
  let c2304_i32_943 : BitVec 32 := 2304#32
  let v1362 : BitVec 32 := Scalar.addi v1361 c2304_i32_943
  v1362
def k0_mult75 : BitVec 32 :=
  let c0_i32_20 : BitVec 32 := 0#32
  let c8192_i32_947 : BitVec 32 := 8192#32
  let v1368 : BitVec 32 := Scalar.muli c0_i32_20 c8192_i32_947
  let c2304_i32_948 : BitVec 32 := 2304#32
  let v1369 : BitVec 32 := Scalar.addi v1368 c2304_i32_948
  v1369
def k0_mult76 : BitVec 32 :=
  let c0_i32_20 : BitVec 32 := 0#32
  let c8192_i32_952 : BitVec 32 := 8192#32
  let v1375 : BitVec 32 := Scalar.muli c0_i32_20 c8192_i32_952
  let c2304_i32_953 : BitVec 32 := 2304#32
  let v1376 : BitVec 32 := Scalar.addi v1375 c2304_i32_953
  v1376
def k0_mult77 : BitVec 32 :=
  let c0_i32_20 : BitVec 32 := 0#32
  let c8192_i32_957 : BitVec 32 := 8192#32
  let v1382 : BitVec 32 := Scalar.muli c0_i32_20 c8192_i32_957
  let c2304_i32_958 : BitVec 32 := 2304#32
  let v1383 : BitVec 32 := Scalar.addi v1382 c2304_i32_958
  v1383
def k0_mult78 : BitVec 32 :=
  let c0_i32_20 : BitVec 32 := 0#32
  let c8192_i32_962 : BitVec 32 := 8192#32
  let v1389 : BitVec 32 := Scalar.muli c0_i32_20 c8192_i32_962
  let c2304_i32_963 : BitVec 32 := 2304#32
  let v1390 : BitVec 32 := Scalar.addi v1389 c2304_i32_963
  v1390
def k0_mult79 : BitVec 32 :=
  let c0_i32_20 : BitVec 32 := 0#32
  let c8192_i32_967 : BitVec 32 := 8192#32
  let v1396 : BitVec 32 := Scalar.muli c0_i32_20 c8192_i32_967
  let c2304_i32_968 : BitVec 32 := 2304#32
  let v1397 : BitVec 32 := Scalar.addi v1396 c2304_i32_968
  v1397
def k0_mult80 : BitVec 32 :=
  let c0_i32_20 : BitVec 32 := 0#32
  let c8192_i32_972 : BitVec 32 := 8192#32
  let v1403 : BitVec 32 := Scalar.muli c0_i32_20 c8192_i32_972
  let c2304_i32_973 : BitVec 32 := 2304#32
  let v1404 : BitVec 32 := Scalar.addi v1403 c2304_i32_973
  v1404
def k0_mult81 : BitVec 32 :=
  let c0_i32_20 : BitVec 32 := 0#32
  let c8192_i32_977 : BitVec 32 := 8192#32
  let v1410 : BitVec 32 := Scalar.muli c0_i32_20 c8192_i32_977
  let c2560_i32 : BitVec 32 := 2560#32
  let v1411 : BitVec 32 := Scalar.addi v1410 c2560_i32
  v1411
def k0_mult82 : BitVec 32 :=
  let c0_i32_20 : BitVec 32 := 0#32
  let c8192_i32_981 : BitVec 32 := 8192#32
  let v1417 : BitVec 32 := Scalar.muli c0_i32_20 c8192_i32_981
  let c2560_i32_982 : BitVec 32 := 2560#32
  let v1418 : BitVec 32 := Scalar.addi v1417 c2560_i32_982
  v1418
def k0_mult83 : BitVec 32 :=
  let c0_i32_20 : BitVec 32 := 0#32
  let c8192_i32_986 : BitVec 32 := 8192#32
  let v1424 : BitVec 32 := Scalar.muli c0_i32_20 c8192_i32_986
  let c2560_i32_987 : BitVec 32 := 2560#32
  let v1425 : BitVec 32 := Scalar.addi v1424 c2560_i32_987
  v1425
def k0_mult84 : BitVec 32 :=
  let c0_i32_20 : BitVec 32 := 0#32
  let c8192_i32_991 : BitVec 32 := 8192#32
  let v1431 : BitVec 32 := Scalar.muli c0_i32_20 c8192_i32_991
  let c2560_i32_992 : BitVec 32 := 2560#32
  let v1432 : BitVec 32 := Scalar.addi v1431 c2560_i32_992
  v1432
def k0_mult85 : BitVec 32 :=
  let c0_i32_20 : BitVec 32 := 0#32
  let c8192_i32_996 : BitVec 32 := 8192#32
  let v1438 : BitVec 32 := Scalar.muli c0_i32_20 c8192_i32_996
  let c2560_i32_997 : BitVec 32 := 2560#32
  let v1439 : BitVec 32 := Scalar.addi v1438 c2560_i32_997
  v1439
def k0_mult86 : BitVec 32 :=
  let c0_i32_20 : BitVec 32 := 0#32
  let c8192_i32_1001 : BitVec 32 := 8192#32
  let v1445 : BitVec 32 := Scalar.muli c0_i32_20 c8192_i32_1001
  let c2560_i32_1002 : BitVec 32 := 2560#32
  let v1446 : BitVec 32 := Scalar.addi v1445 c2560_i32_1002
  v1446
def k0_mult87 : BitVec 32 :=
  let c0_i32_20 : BitVec 32 := 0#32
  let c8192_i32_1006 : BitVec 32 := 8192#32
  let v1452 : BitVec 32 := Scalar.muli c0_i32_20 c8192_i32_1006
  let c2560_i32_1007 : BitVec 32 := 2560#32
  let v1453 : BitVec 32 := Scalar.addi v1452 c2560_i32_1007
  v1453
def k0_mult88 : BitVec 32 :=
  let c0_i32_20 : BitVec 32 := 0#32
  let c8192_i32_1011 : BitVec 32 := 8192#32
  let v1459 : BitVec 32 := Scalar.muli c0_i32_20 c8192_i32_1011
  let c2560_i32_1012 : BitVec 32 := 2560#32
  let v1460 : BitVec 32 := Scalar.addi v1459 c2560_i32_1012
  v1460
def k0_mult89 : BitVec 32 :=
  let c0_i32_20 : BitVec 32 := 0#32
  let c8192_i32_1016 : BitVec 32 := 8192#32
  let v1466 : BitVec 32 := Scalar.muli c0_i32_20 c8192_i32_1016
  let c2816_i32 : BitVec 32 := 2816#32
  let v1467 : BitVec 32 := Scalar.addi v1466 c2816_i32
  v1467
def k0_mult90 : BitVec 32 :=
  let c0_i32_20 : BitVec 32 := 0#32
  let c8192_i32_1020 : BitVec 32 := 8192#32
  let v1473 : BitVec 32 := Scalar.muli c0_i32_20 c8192_i32_1020
  let c2816_i32_1021 : BitVec 32 := 2816#32
  let v1474 : BitVec 32 := Scalar.addi v1473 c2816_i32_1021
  v1474
def k0_mult91 : BitVec 32 :=
  let c0_i32_20 : BitVec 32 := 0#32
  let c8192_i32_1025 : BitVec 32 := 8192#32
  let v1480 : BitVec 32 := Scalar.muli c0_i32_20 c8192_i32_1025
  let c2816_i32_1026 : BitVec 32 := 2816#32
  let v1481 : BitVec 32 := Scalar.addi v1480 c2816_i32_1026
  v1481
def k0_mult92 : BitVec 32 :=
  let c0_i32_20 : BitVec 32 := 0#32
  let c8192_i32_1030 : BitVec 32 := 8192#32
  let v1487 : BitVec 32 := Scalar.muli c0_i32_20 c8192_i32_1030
  let c2816_i32_1031 : BitVec 32 := 2816#32
  let v1488 : BitVec 32 := Scalar.addi v1487 c2816_i32_1031
  v1488
def k0_mult93 : BitVec 32 :=
  let c0_i32_20 : BitVec 32 := 0#32
  let c8192_i32_1035 : BitVec 32 := 8192#32
  let v1494 : BitVec 32 := Scalar.muli c0_i32_20 c8192_i32_1035
  let c2816_i32_1036 : BitVec 32 := 2816#32
  let v1495 : BitVec 32 := Scalar.addi v1494 c2816_i32_1036
  v1495
def k0_mult94 : BitVec 32 :=
  let c0_i32_20 : BitVec 32 := 0#32
  let c8192_i32_1040 : BitVec 32 := 8192#32
  let v1501 : BitVec 32 := Scalar.muli c0_i32_20 c8192_i32_1040
  let c2816_i32_1041 : BitVec 32 := 2816#32
  let v1502 : BitVec 32 := Scalar.addi v1501 c2816_i32_1041
  v1502
def k0_mult95 : BitVec 32 :=
  let c0_i32_20 : BitVec 32 := 0#32
  let c8192_i32_1045 : BitVec 32 := 8192#32
  let v1508 : BitVec 32 := Scalar.muli c0_i32_20 c8192_i32_1045
  let c2816_i32_1046 : BitVec 32 := 2816#32
  let v1509 : BitVec 32 := Scalar.addi v1508 c2816_i32_1046
  v1509
def k0_mult96 : BitVec 32 :=
  let c0_i32_20 : BitVec 32 := 0#32
  let c8192_i32_1050 : BitVec 32 := 8192#32
  let v1515 : BitVec 32 := Scalar.muli c0_i32_20 c8192_i32_1050
  let c2816_i32_1051 : BitVec 32 := 2816#32
  let v1516 : BitVec 32 := Scalar.addi v1515 c2816_i32_1051
  v1516
def k0_mult97 : BitVec 32 :=
  let c0_i32_20 : BitVec 32 := 0#32
  let c8192_i32_1343 : BitVec 32 := 8192#32
  let v1906 : BitVec 32 := Scalar.muli c0_i32_20 c8192_i32_1343
  let c3072_i32 : BitVec 32 := 3072#32
  let v1907 : BitVec 32 := Scalar.addi v1906 c3072_i32
  v1907
def k0_mult98 : BitVec 32 :=
  let c0_i32_20 : BitVec 32 := 0#32
  let c8192_i32_1347 : BitVec 32 := 8192#32
  let v1913 : BitVec 32 := Scalar.muli c0_i32_20 c8192_i32_1347
  let c3072_i32_1348 : BitVec 32 := 3072#32
  let v1914 : BitVec 32 := Scalar.addi v1913 c3072_i32_1348
  v1914
def k0_mult99 : BitVec 32 :=
  let c0_i32_20 : BitVec 32 := 0#32
  let c8192_i32_1352 : BitVec 32 := 8192#32
  let v1920 : BitVec 32 := Scalar.muli c0_i32_20 c8192_i32_1352
  let c3072_i32_1353 : BitVec 32 := 3072#32
  let v1921 : BitVec 32 := Scalar.addi v1920 c3072_i32_1353
  v1921
def k0_mult100 : BitVec 32 :=
  let c0_i32_20 : BitVec 32 := 0#32
  let c8192_i32_1357 : BitVec 32 := 8192#32
  let v1927 : BitVec 32 := Scalar.muli c0_i32_20 c8192_i32_1357
  let c3072_i32_1358 : BitVec 32 := 3072#32
  let v1928 : BitVec 32 := Scalar.addi v1927 c3072_i32_1358
  v1928
def k0_mult101 : BitVec 32 :=
  let c0_i32_20 : BitVec 32 := 0#32
  let c8192_i32_1362 : BitVec 32 := 8192#32
  let v1934 : BitVec 32 := Scalar.muli c0_i32_20 c8192_i32_1362
  let c3072_i32_1363 : BitVec 32 := 3072#32
  let v1935 : BitVec 32 := Scalar.addi v1934 c3072_i32_1363
  v1935
def k0_mult102 : BitVec 32 :=
  let c0_i32_20 : BitVec 32 := 0#32
  let c8192_i32_1367 : BitVec 32 := 8192#32
  let v1941 : BitVec 32 := Scalar.muli c0_i32_20 c8192_i32_1367
  let c3072_i32_1368 : BitVec 32 := 3072#32
  let v1942 : BitVec 32 := Scalar.addi v1941 c3072_i32_1368
  v1942
def k0_mult103 : BitVec 32 :=
  let c0_i32_20 : BitVec 32 := 0#32
  let c8192_i32_1372 : BitVec 32 := 8192#32
  let v1948 : BitVec 32 := Scalar.muli c0_i32_20 c8192_i32_1372
  let c3072_i32_1373 : BitVec 32 := 3072#32
  let v1949 : BitVec 32 := Scalar.addi v1948 c3072_i32_1373
  v1949
def k0_mult104 : BitVec 32 :=
  let c0_i32_20 : BitVec 32 := 0#32
  let c8192_i32_1377 : BitVec 32 := 8192#32
  let v1955 : BitVec 32 := Scalar.muli c0_i32_20 c8192_i32_1377
  let c3072_i32_1378 : BitVec 32 := 3072#32
  let v1956 : BitVec 32 := Scalar.addi v1955 c3072_i32_1378
  v1956
def k0_mult105 : BitVec 32 :=
  let c0_i32_20 : BitVec 32 := 0#32
  let c8192_i32_1382 : BitVec 32 := 8192#32
  let v1962 : BitVec 32 := Scalar.muli c0_i32_20 c8192_i32_1382
  let c3328_i32 : BitVec 32 := 3328#32
  let v1963 : BitVec 32 := Scalar.addi v1962 c3328_i32
  v1963
def k0_mult106 : BitVec 32 :=
  let c0_i32_20 : BitVec 32 := 0#32
  let c8192_i32_1386 : BitVec 32 := 8192#32
  let v1969 : BitVec 32 := Scalar.muli c0_i32_20 c8192_i32_1386
  let c3328_i32_1387 : BitVec 32 := 3328#32
  let v1970 : BitVec 32 := Scalar.addi v1969 c3328_i32_1387
  v1970
def k0_mult107 : BitVec 32 :=
  let c0_i32_20 : BitVec 32 := 0#32
  let c8192_i32_1391 : BitVec 32 := 8192#32
  let v1976 : BitVec 32 := Scalar.muli c0_i32_20 c8192_i32_1391
  let c3328_i32_1392 : BitVec 32 := 3328#32
  let v1977 : BitVec 32 := Scalar.addi v1976 c3328_i32_1392
  v1977
def k0_mult108 : BitVec 32 :=
  let c0_i32_20 : BitVec 32 := 0#32
  let c8192_i32_1396 : BitVec 32 := 8192#32
  let v1983 : BitVec 32 := Scalar.muli c0_i32_20 c8192_i32_1396
  let c3328_i32_1397 : BitVec 32 := 3328#32
  let v1984 : BitVec 32 := Scalar.addi v1983 c3328_i32_1397
  v1984
def k0_mult109 : BitVec 32 :=
  let c0_i32_20 : BitVec 32 := 0#32
  let c8192_i32_1401 : BitVec 32 := 8192#32
  let v1990 : BitVec 32 := Scalar.muli c0_i32_20 c8192_i32_1401
  let c3328_i32_1402 : BitVec 32 := 3328#32
  let v1991 : BitVec 32 := Scalar.addi v1990 c3328_i32_1402
  v1991
def k0_mult110 : BitVec 32 :=
  let c0_i32_20 : BitVec 32 := 0#32
  let c8192_i32_1406 : BitVec 32 := 8192#32
  let v1997 : BitVec 32 := Scalar.muli c0_i32_20 c8192_i32_1406
  let c3328_i32_1407 : BitVec 32 := 3328#32
  let v1998 : BitVec 32 := Scalar.addi v1997 c3328_i32_1407
  v1998
def k0_mult111 : BitVec 32 :=
  let c0_i32_20 : BitVec 32 := 0#32
  let c8192_i32_1411 : BitVec 32 := 8192#32
  let v2004 : BitVec 32 := Scalar.muli c0_i32_20 c8192_i32_1411
  let c3328_i32_1412 : BitVec 32 := 3328#32
  let v2005 : BitVec 32 := Scalar.addi v2004 c3328_i32_1412
  v2005
def k0_mult112 : BitVec 32 :=
  let c0_i32_20 : BitVec 32 := 0#32
  let c8192_i32_1416 : BitVec 32 := 8192#32
  let v2011 : BitVec 32 := Scalar.muli c0_i32_20 c8192_i32_1416
  let c3328_i32_1417 : BitVec 32 := 3328#32
  let v2012 : BitVec 32 := Scalar.addi v2011 c3328_i32_1417
  v2012
def k0_mult113 : BitVec 32 :=
  let c0_i32_20 : BitVec 32 := 0#32
  let c8192_i32_1421 : BitVec 32 := 8192#32
  let v2018 : BitVec 32 := Scalar.muli c0_i32_20 c8192_i32_1421
  let c3584_i32 : BitVec 32 := 3584#32
  let v2019 : BitVec 32 := Scalar.addi v2018 c3584_i32
  v2019
def k0_mult114 : BitVec 32 :=
  let c0_i32_20 : BitVec 32 := 0#32
  let c8192_i32_1425 : BitVec 32 := 8192#32
  let v2025 : BitVec 32 := Scalar.muli c0_i32_20 c8192_i32_1425
  let c3584_i32_1426 : BitVec 32 := 3584#32
  let v2026 : BitVec 32 := Scalar.addi v2025 c3584_i32_1426
  v2026
def k0_mult115 : BitVec 32 :=
  let c0_i32_20 : BitVec 32 := 0#32
  let c8192_i32_1430 : BitVec 32 := 8192#32
  let v2032 : BitVec 32 := Scalar.muli c0_i32_20 c8192_i32_1430
  let c3584_i32_1431 : BitVec 32 := 3584#32
  let v2033 : BitVec 32 := Scalar.addi v2032 c3584_i32_1431
  v2033
def k0_mult116 : BitVec 32 :=
  let c0_i32_20 : BitVec 32 := 0#32
  let c8192_i32_1435 : BitVec 32 := 8192#32
  let v2039 : BitVec 32 := Scalar.muli c0_i32_20 c8192_i32_1435
  let c3584_i32_1436 : BitVec 32 := 3584#32
  let v2040 : BitVec 32 := Scalar.addi v2039 c3584_i32_1436
  v2040
def k0_mult117 : BitVec 32 :=
  let c0_i32_20 : BitVec 32 := 0#32
  let c8192_i32_1440 : BitVec 32 := 8192#32
  let v2046 : BitVec 32 := Scalar.muli c0_i32_20 c8192_i32_1440
  let c3584_i32_1441 : BitVec 32 := 3584#32
  let v2047 : BitVec 32 := Scalar.addi v2046 c3584_i32_1441
  v2047
def k0_mult118 : BitVec 32 :=
  let c0_i32_20 : BitVec 32 := 0#32
  let c8192_i32_1445 : BitVec 32 := 8192#32
  let v2053 : BitVec 32 := Scalar.muli c0_i32_20 c8192_i32_1445
  let c3584_i32_1446 : BitVec 32 := 3584#32
  let v2054 : BitVec 32 := Scalar.addi v2053 c3584_i32_1446
  v2054
def k0_mult119 : BitVec 32 :=
  let c0_i32_20 : BitVec 32 := 0#32
  let c8192_i32_1450 : BitVec 32 := 8192#32
  let v2060 : BitVec 32 := Scalar.muli c0_i32_20 c8192_i32_1450
  let c3584_i32_1451 : BitVec 32 := 3584#32
  let v2061 : BitVec 32 := Scalar.addi v2060 c3584_i32_1451
  v2061
def k0_mult120 : BitVec 32 :=
  let c0_i32_20 : BitVec 32 := 0#32
  let c8192_i32_1455 : BitVec 32 := 8192#32
  let v2067 : BitVec 32 := Scalar.muli c0_i32_20 c8192_i32_1455
  let c3584_i32_1456 : BitVec 32 := 3584#32
  let v2068 : BitVec 32 := Scalar.addi v2067 c3584_i32_1456
  v2068
def k0_mult121 : BitVec 32 :=
  let c0_i32_20 : BitVec 32 := 0#32
  let c8192_i32_1460 : BitVec 32 := 8192#32
  let v2074 : BitVec 32 := Scalar.muli c0_i32_20 c8192_i32_1460
  let c3840_i32 : BitVec 32 := 3840#32
  let v2075 : BitVec 32 := Scalar.addi v2074 c3840_i32
  v2075
def k0_mult122 : BitVec 32 :=
  let c0_i32_20 : BitVec 32 := 0#32
  let c8192_i32_1464 : BitVec 32 := 8192#32
  let v2081 : BitVec 32 := Scalar.muli c0_i32_20 c8192_i32_1464
  let c3840_i32_1465 : BitVec 32 := 3840#32
  let v2082 : BitVec 32 := Scalar.addi v2081 c3840_i32_1465
  v2082
def k0_mult123 : BitVec 32 :=
  let c0_i32_20 : BitVec 32 := 0#32
  let c8192_i32_1469 : BitVec 32 := 8192#32
  let v2088 : BitVec 32 := Scalar.muli c0_i32_20 c8192_i32_1469
  let c3840_i32_1470 : BitVec 32 := 3840#32
  let v2089 : BitVec 32 := Scalar.addi v2088 c3840_i32_1470
  v2089
def k0_mult124 : BitVec 32 :=
  let c0_i32_20 : BitVec 32 := 0#32
  let c8192_i32_1474 : BitVec 32 := 8192#32
  let v2095 : BitVec 32 := Scalar.muli c0_i32_20 c8192_i32_1474
  let c3840_i32_1475 : BitVec 32 := 3840#32
  let v2096 : BitVec 32 := Scalar.addi v2095 c3840_i32_1475
  v2096
def k0_mult125 : BitVec 32 :=
  let c0_i32_20 : BitVec 32 := 0#32
  let c8192_i32_1479 : BitVec 32 := 8192#32
  let v2102 : BitVec 32 := Scalar.muli c0_i32_20 c8192_i32_1479
  let c3840_i32_1480 : BitVec 32 := 3840#32
  let v2103 : BitVec 32 := Scalar.addi v2102 c3840_i32_1480
  v2103
def k0_mult126 : BitVec 32 :=
  let c0_i32_20 : BitVec 32 := 0#32
  let c8192_i32_1484 : BitVec 32 := 8192#32
  let v2109 : BitVec 32 := Scalar.muli c0_i32_20 c8192_i32_1484
  let c3840_i32_1485 : BitVec 32 := 3840#32
  let v2110 : BitVec 32 := Scalar.addi v2109 c3840_i32_1485
  v2110
def k0_mult127 : BitVec 32 :=
  let c0_i32_20 : BitVec 32 := 0#32
  let c8192_i32_1489 : BitVec 32 := 8192#32
  let v2116 : BitVec 32 := Scalar.muli c0_i32_20 c8192_i32_1489
  let c3840_i32_1490 : BitVec 32 := 3840#32
  let v2117 : BitVec 32 := Scalar.addi v2116 c3840_i32_1490
  v2117
def k0_mult128 : BitVec 32 :=
  let c0_i32_20 : BitVec 32 := 0#32
  let c8192_i32_1494 : BitVec 32 := 8192#32
  let v2123 : BitVec 32 := Scalar.muli c0_i32_20 c8192_i32_1494
  let c3840_i32_1495 : BitVec 32 := 3840#32
  let v2124 : BitVec 32 := Scalar.addi v2123 c3840_i32_1495
  v2124
def k0_mult129 : BitVec 32 :=
  let c0_i32_20 : BitVec 32 := 0#32
  let c8192_i32_1787 : BitVec 32 := 8192#32
  let v2514 : BitVec 32 := Scalar.muli c0_i32_20 c8192_i32_1787
  let c4096_i32 : BitVec 32 := 4096#32
  let v2515 : BitVec 32 := Scalar.addi v2514 c4096_i32
  v2515
def k0_mult130 : BitVec 32 :=
  let c0_i32_20 : BitVec 32 := 0#32
  let c8192_i32_1791 : BitVec 32 := 8192#32
  let v2521 : BitVec 32 := Scalar.muli c0_i32_20 c8192_i32_1791
  let c4096_i32_1792 : BitVec 32 := 4096#32
  let v2522 : BitVec 32 := Scalar.addi v2521 c4096_i32_1792
  v2522
def k0_mult131 : BitVec 32 :=
  let c0_i32_20 : BitVec 32 := 0#32
  let c8192_i32_1796 : BitVec 32 := 8192#32
  let v2528 : BitVec 32 := Scalar.muli c0_i32_20 c8192_i32_1796
  let c4096_i32_1797 : BitVec 32 := 4096#32
  let v2529 : BitVec 32 := Scalar.addi v2528 c4096_i32_1797
  v2529
def k0_mult132 : BitVec 32 :=
  let c0_i32_20 : BitVec 32 := 0#32
  let c8192_i32_1801 : BitVec 32 := 8192#32
  let v2535 : BitVec 32 := Scalar.muli c0_i32_20 c8192_i32_1801
  let c4096_i32_1802 : BitVec 32 := 4096#32
  let v2536 : BitVec 32 := Scalar.addi v2535 c4096_i32_1802
  v2536
def k0_mult133 : BitVec 32 :=
  let c0_i32_20 : BitVec 32 := 0#32
  let c8192_i32_1806 : BitVec 32 := 8192#32
  let v2542 : BitVec 32 := Scalar.muli c0_i32_20 c8192_i32_1806
  let c4096_i32_1807 : BitVec 32 := 4096#32
  let v2543 : BitVec 32 := Scalar.addi v2542 c4096_i32_1807
  v2543
def k0_mult134 : BitVec 32 :=
  let c0_i32_20 : BitVec 32 := 0#32
  let c8192_i32_1811 : BitVec 32 := 8192#32
  let v2549 : BitVec 32 := Scalar.muli c0_i32_20 c8192_i32_1811
  let c4096_i32_1812 : BitVec 32 := 4096#32
  let v2550 : BitVec 32 := Scalar.addi v2549 c4096_i32_1812
  v2550
def k0_mult135 : BitVec 32 :=
  let c0_i32_20 : BitVec 32 := 0#32
  let c8192_i32_1816 : BitVec 32 := 8192#32
  let v2556 : BitVec 32 := Scalar.muli c0_i32_20 c8192_i32_1816
  let c4096_i32_1817 : BitVec 32 := 4096#32
  let v2557 : BitVec 32 := Scalar.addi v2556 c4096_i32_1817
  v2557
def k0_mult136 : BitVec 32 :=
  let c0_i32_20 : BitVec 32 := 0#32
  let c8192_i32_1821 : BitVec 32 := 8192#32
  let v2563 : BitVec 32 := Scalar.muli c0_i32_20 c8192_i32_1821
  let c4096_i32_1822 : BitVec 32 := 4096#32
  let v2564 : BitVec 32 := Scalar.addi v2563 c4096_i32_1822
  v2564
def k0_mult137 : BitVec 32 :=
  let c0_i32_20 : BitVec 32 := 0#32
  let c8192_i32_1826 : BitVec 32 := 8192#32
  let v2570 : BitVec 32 := Scalar.muli c0_i32_20 c8192_i32_1826
  let c4352_i32 : BitVec 32 := 4352#32
  let v2571 : BitVec 32 := Scalar.addi v2570 c4352_i32
  v2571
def k0_mult138 : BitVec 32 :=
  let c0_i32_20 : BitVec 32 := 0#32
  let c8192_i32_1830 : BitVec 32 := 8192#32
  let v2577 : BitVec 32 := Scalar.muli c0_i32_20 c8192_i32_1830
  let c4352_i32_1831 : BitVec 32 := 4352#32
  let v2578 : BitVec 32 := Scalar.addi v2577 c4352_i32_1831
  v2578
def k0_mult139 : BitVec 32 :=
  let c0_i32_20 : BitVec 32 := 0#32
  let c8192_i32_1835 : BitVec 32 := 8192#32
  let v2584 : BitVec 32 := Scalar.muli c0_i32_20 c8192_i32_1835
  let c4352_i32_1836 : BitVec 32 := 4352#32
  let v2585 : BitVec 32 := Scalar.addi v2584 c4352_i32_1836
  v2585
def k0_mult140 : BitVec 32 :=
  let c0_i32_20 : BitVec 32 := 0#32
  let c8192_i32_1840 : BitVec 32 := 8192#32
  let v2591 : BitVec 32 := Scalar.muli c0_i32_20 c8192_i32_1840
  let c4352_i32_1841 : BitVec 32 := 4352#32
  let v2592 : BitVec 32 := Scalar.addi v2591 c4352_i32_1841
  v2592
def k0_mult141 : BitVec 32 :=
  let c0_i32_20 : BitVec 32 := 0#32
  let c8192_i32_1845 : BitVec 32 := 8192#32
  let v2598 : BitVec 32 := Scalar.muli c0_i32_20 c8192_i32_1845
  let c4352_i32_1846 : BitVec 32 := 4352#32
  let v2599 : BitVec 32 := Scalar.addi v2598 c4352_i32_1846
  v2599
def k0_mult142 : BitVec 32 :=
  let c0_i32_20 : BitVec 32 := 0#32
  let c8192_i32_1850 : BitVec 32 := 8192#32
  let v2605 : BitVec 32 := Scalar.muli c0_i32_20 c8192_i32_1850
  let c4352_i32_1851 : BitVec 32 := 4352#32
  let v2606 : BitVec 32 := Scalar.addi v2605 c4352_i32_1851
  v2606
def k0_mult143 : BitVec 32 :=
  let c0_i32_20 : BitVec 32 := 0#32
  let c8192_i32_1855 : BitVec 32 := 8192#32
  let v2612 : BitVec 32 := Scalar.muli c0_i32_20 c8192_i32_1855
  let c4352_i32_1856 : BitVec 32 := 4352#32
  let v2613 : BitVec 32 := Scalar.addi v2612 c4352_i32_1856
  v2613
def k0_mult144 : BitVec 32 :=
  let c0_i32_20 : BitVec 32 := 0#32
  let c8192_i32_1860 : BitVec 32 := 8192#32
  let v2619 : BitVec 32 := Scalar.muli c0_i32_20 c8192_i32_1860
  let c4352_i32_1861 : BitVec 32 := 4352#32
  let v2620 : BitVec 32 := Scalar.addi v2619 c4352_i32_1861
  v2620
def k0_mult145 : BitVec 32 :=
  let c0_i32_20 : BitVec 32 := 0#32
  let c8192_i32_1865 : BitVec 32 := 8192#32
  let v2626 : BitVec 32 := Scalar.muli c0_i32_20 c8192_i32_1865
  let c4608_i32 : BitVec 32 := 4608#32
  let v2627 : BitVec 32 := Scalar.addi v2626 c4608_i32
  v2627
def k0_mult146 : BitVec 32 :=
  let c0_i32_20 : BitVec 32 := 0#32
  let c8192_i32_1869 : BitVec 32 := 8192#32
  let v2633 : BitVec 32 := Scalar.muli c0_i32_20 c8192_i32_1869
  let c4608_i32_1870 : BitVec 32 := 4608#32
  let v2634 : BitVec 32 := Scalar.addi v2633 c4608_i32_1870
  v2634
def k0_mult147 : BitVec 32 :=
  let c0_i32_20 : BitVec 32 := 0#32
  let c8192_i32_1874 : BitVec 32 := 8192#32
  let v2640 : BitVec 32 := Scalar.muli c0_i32_20 c8192_i32_1874
  let c4608_i32_1875 : BitVec 32 := 4608#32
  let v2641 : BitVec 32 := Scalar.addi v2640 c4608_i32_1875
  v2641
def k0_mult148 : BitVec 32 :=
  let c0_i32_20 : BitVec 32 := 0#32
  let c8192_i32_1879 : BitVec 32 := 8192#32
  let v2647 : BitVec 32 := Scalar.muli c0_i32_20 c8192_i32_1879
  let c4608_i32_1880 : BitVec 32 := 4608#32
  let v2648 : BitVec 32 := Scalar.addi v2647 c4608_i32_1880
  v2648
def k0_mult149 : BitVec 32 :=
  let c0_i32_20 : BitVec 32 := 0#32
  let c8192_i32_1884 : BitVec 32 := 8192#32
  let v2654 : BitVec 32 := Scalar.muli c0_i32_20 c8192_i32_1884
  let c4608_i32_1885 : BitVec 32 := 4608#32
  let v2655 : BitVec 32 := Scalar.addi v2654 c4608_i32_1885
  v2655
def k0_mult150 : BitVec 32 :=
  let c0_i32_20 : BitVec 32 := 0#32
  let c8192_i32_1889 : BitVec 32 := 8192#32
  let v2661 : BitVec 32 := Scalar.muli c0_i32_20 c8192_i32_1889
  let c4608_i32_1890 : BitVec 32 := 4608#32
  let v2662 : BitVec 32 := Scalar.addi v2661 c4608_i32_1890
  v2662
def k0_mult151 : BitVec 32 :=
  let c0_i32_20 : BitVec 32 := 0#32
  let c8192_i32_1894 : BitVec 32 := 8192#32
  let v2668 : BitVec 32 := Scalar.muli c0_i32_20 c8192_i32_1894
  let c4608_i32_1895 : BitVec 32 := 4608#32
  let v2669 : BitVec 32 := Scalar.addi v2668 c4608_i32_1895
  v2669
def k0_mult152 : BitVec 32 :=
  let c0_i32_20 : BitVec 32 := 0#32
  let c8192_i32_1899 : BitVec 32 := 8192#32
  let v2675 : BitVec 32 := Scalar.muli c0_i32_20 c8192_i32_1899
  let c4608_i32_1900 : BitVec 32 := 4608#32
  let v2676 : BitVec 32 := Scalar.addi v2675 c4608_i32_1900
  v2676
def k0_mult153 : BitVec 32 :=
  let c0_i32_20 : BitVec 32 := 0#32
  let c8192_i32_1904 : BitVec 32 := 8192#32
  let v2682 : BitVec 32 := Scalar.muli c0_i32_20 c8192_i32_1904
  let c4864_i32 : BitVec 32 := 4864#32
  let v2683 : BitVec 32 := Scalar.addi v2682 c4864_i32
  v2683
def k0_mult154 : BitVec 32 :=
  let c0_i32_20 : BitVec 32 := 0#32
  let c8192_i32_1908 : BitVec 32 := 8192#32
  let v2689 : BitVec 32 := Scalar.muli c0_i32_20 c8192_i32_1908
  let c4864_i32_1909 : BitVec 32 := 4864#32
  let v2690 : BitVec 32 := Scalar.addi v2689 c4864_i32_1909
  v2690
def k0_mult155 : BitVec 32 :=
  let c0_i32_20 : BitVec 32 := 0#32
  let c8192_i32_1913 : BitVec 32 := 8192#32
  let v2696 : BitVec 32 := Scalar.muli c0_i32_20 c8192_i32_1913
  let c4864_i32_1914 : BitVec 32 := 4864#32
  let v2697 : BitVec 32 := Scalar.addi v2696 c4864_i32_1914
  v2697
def k0_mult156 : BitVec 32 :=
  let c0_i32_20 : BitVec 32 := 0#32
  let c8192_i32_1918 : BitVec 32 := 8192#32
  let v2703 : BitVec 32 := Scalar.muli c0_i32_20 c8192_i32_1918
  let c4864_i32_1919 : BitVec 32 := 4864#32
  let v2704 : BitVec 32 := Scalar.addi v2703 c4864_i32_1919
  v2704
def k0_mult157 : BitVec 32 :=
  let c0_i32_20 : BitVec 32 := 0#32
  let c8192_i32_1923 : BitVec 32 := 8192#32
  let v2710 : BitVec 32 := Scalar.muli c0_i32_20 c8192_i32_1923
  let c4864_i32_1924 : BitVec 32 := 4864#32
  let v2711 : BitVec 32 := Scalar.addi v2710 c4864_i32_1924
  v2711
def k0_mult158 : BitVec 32 :=
  let c0_i32_20 : BitVec 32 := 0#32
  let c8192_i32_1928 : BitVec 32 := 8192#32
  let v2717 : BitVec 32 := Scalar.muli c0_i32_20 c8192_i32_1928
  let c4864_i32_1929 : BitVec 32 := 4864#32
  let v2718 : BitVec 32 := Scalar.addi v2717 c4864_i32_1929
  v2718
def k0_mult159 : BitVec 32 :=
  let c0_i32_20 : BitVec 32 := 0#32
  let c8192_i32_1933 : BitVec 32 := 8192#32
  let v2724 : BitVec 32 := Scalar.muli c0_i32_20 c8192_i32_1933
  let c4864_i32_1934 : BitVec 32 := 4864#32
  let v2725 : BitVec 32 := Scalar.addi v2724 c4864_i32_1934
  v2725
def k0_mult160 : BitVec 32 :=
  let c0_i32_20 : BitVec 32 := 0#32
  let c8192_i32_1938 : BitVec 32 := 8192#32
  let v2731 : BitVec 32 := Scalar.muli c0_i32_20 c8192_i32_1938
  let c4864_i32_1939 : BitVec 32 := 4864#32
  let v2732 : BitVec 32 := Scalar.addi v2731 c4864_i32_1939
  v2732
def k0_mult161 : BitVec 32 :=
  let c0_i32_20 : BitVec 32 := 0#32
  let c8192_i32_2231 : BitVec 32 := 8192#32
  let v3122 : BitVec 32 := Scalar.muli c0_i32_20 c8192_i32_2231
  let c5120_i32 : BitVec 32 := 5120#32
  let v3123 : BitVec 32 := Scalar.addi v3122 c5120_i32
  v3123
def k0_mult162 : BitVec 32 :=
  let c0_i32_20 : BitVec 32 := 0#32
  let c8192_i32_2235 : BitVec 32 := 8192#32
  let v3129 : BitVec 32 := Scalar.muli c0_i32_20 c8192_i32_2235
  let c5120_i32_2236 : BitVec 32 := 5120#32
  let v3130 : BitVec 32 := Scalar.addi v3129 c5120_i32_2236
  v3130
def k0_mult163 : BitVec 32 :=
  let c0_i32_20 : BitVec 32 := 0#32
  let c8192_i32_2240 : BitVec 32 := 8192#32
  let v3136 : BitVec 32 := Scalar.muli c0_i32_20 c8192_i32_2240
  let c5120_i32_2241 : BitVec 32 := 5120#32
  let v3137 : BitVec 32 := Scalar.addi v3136 c5120_i32_2241
  v3137
def k0_mult164 : BitVec 32 :=
  let c0_i32_20 : BitVec 32 := 0#32
  let c8192_i32_2245 : BitVec 32 := 8192#32
  let v3143 : BitVec 32 := Scalar.muli c0_i32_20 c8192_i32_2245
  let c5120_i32_2246 : BitVec 32 := 5120#32
  let v3144 : BitVec 32 := Scalar.addi v3143 c5120_i32_2246
  v3144
def k0_mult165 : BitVec 32 :=
  let c0_i32_20 : BitVec 32 := 0#32
  let c8192_i32_2250 : BitVec 32 := 8192#32
  let v3150 : BitVec 32 := Scalar.muli c0_i32_20 c8192_i32_2250
  let c5120_i32_2251 : BitVec 32 := 5120#32
  let v3151 : BitVec 32 := Scalar.addi v3150 c5120_i32_2251
  v3151
def k0_mult166 : BitVec 32 :=
  let c0_i32_20 : BitVec 32 := 0#32
  let c8192_i32_2255 : BitVec 32 := 8192#32
  let v3157 : BitVec 32 := Scalar.muli c0_i32_20 c8192_i32_2255
  let c5120_i32_2256 : BitVec 32 := 5120#32
  let v3158 : BitVec 32 := Scalar.addi v3157 c5120_i32_2256
  v3158
def k0_mult167 : BitVec 32 :=
  let c0_i32_20 : BitVec 32 := 0#32
  let c8192_i32_2260 : BitVec 32 := 8192#32
  let v3164 : BitVec 32 := Scalar.muli c0_i32_20 c8192_i32_2260
  let c5120_i32_2261 : BitVec 32 := 5120#32
  let v3165 : BitVec 32 := Scalar.addi v3164 c5120_i32_2261
  v3165
def k0_mult168 : BitVec 32 :=
  let c0_i32_20 : BitVec 32 := 0#32
  let c8192_i32_2265 : BitVec 32 := 8192#32
  let v3171 : BitVec 32 := Scalar.muli c0_i32_20 c8192_i32_2265
  let c5120_i32_2266 : BitVec 32 := 5120#32
  let v3172 : BitVec 32 := Scalar.addi v3171 c5120_i32_2266
  v3172
def k0_mult169 : BitVec 32 :=
  let c0_i32_20 : BitVec 32 := 0#32
  let c8192_i32_2270 : BitVec 32 := 8192#32
  let v3178 : BitVec 32 := Scalar.muli c0_i32_20 c8192_i32_2270
  let c5376_i32 : BitVec 32 := 5376#32
  let v3179 : BitVec 32 := Scalar.addi v3178 c5376_i32
  v3179
def k0_mult170 : BitVec 32 :=
  let c0_i32_20 : BitVec 32 := 0#32
  let c8192_i32_2274 : BitVec 32 := 8192#32
  let v3185 : BitVec 32 := Scalar.muli c0_i32_20 c8192_i32_2274
  let c5376_i32_2275 : BitVec 32 := 5376#32
  let v3186 : BitVec 32 := Scalar.addi v3185 c5376_i32_2275
  v3186
def k0_mult171 : BitVec 32 :=
  let c0_i32_20 : BitVec 32 := 0#32
  let c8192_i32_2279 : BitVec 32 := 8192#32
  let v3192 : BitVec 32 := Scalar.muli c0_i32_20 c8192_i32_2279
  let c5376_i32_2280 : BitVec 32 := 5376#32
  let v3193 : BitVec 32 := Scalar.addi v3192 c5376_i32_2280
  v3193
def k0_mult172 : BitVec 32 :=
  let c0_i32_20 : BitVec 32 := 0#32
  let c8192_i32_2284 : BitVec 32 := 8192#32
  let v3199 : BitVec 32 := Scalar.muli c0_i32_20 c8192_i32_2284
  let c5376_i32_2285 : BitVec 32 := 5376#32
  let v3200 : BitVec 32 := Scalar.addi v3199 c5376_i32_2285
  v3200
def k0_mult173 : BitVec 32 :=
  let c0_i32_20 : BitVec 32 := 0#32
  let c8192_i32_2289 : BitVec 32 := 8192#32
  let v3206 : BitVec 32 := Scalar.muli c0_i32_20 c8192_i32_2289
  let c5376_i32_2290 : BitVec 32 := 5376#32
  let v3207 : BitVec 32 := Scalar.addi v3206 c5376_i32_2290
  v3207
def k0_mult174 : BitVec 32 :=
  let c0_i32_20 : BitVec 32 := 0#32
  let c8192_i32_2294 : BitVec 32 := 8192#32
  let v3213 : BitVec 32 := Scalar.muli c0_i32_20 c8192_i32_2294
  let c5376_i32_2295 : BitVec 32 := 5376#32
  let v3214 : BitVec 32 := Scalar.addi v3213 c5376_i32_2295
  v3214
def k0_mult175 : BitVec 32 :=
  let c0_i32_20 : BitVec 32 := 0#32
  let c8192_i32_2299 : BitVec 32 := 8192#32
  let v3220 : BitVec 32 := Scalar.muli c0_i32_20 c8192_i32_2299
  let c5376_i32_2300 : BitVec 32 := 5376#32
  let v3221 : BitVec 32 := Scalar.addi v3220 c5376_i32_2300
  v3221
def k0_mult176 : BitVec 32 :=
  let c0_i32_20 : BitVec 32 := 0#32
  let c8192_i32_2304 : BitVec 32 := 8192#32
  let v3227 : BitVec 32 := Scalar.muli c0_i32_20 c8192_i32_2304
  let c5376_i32_2305 : BitVec 32 := 5376#32
  let v3228 : BitVec 32 := Scalar.addi v3227 c5376_i32_2305
  v3228
def k0_mult177 : BitVec 32 :=
  let c0_i32_20 : BitVec 32 := 0#32
  let c8192_i32_2309 : BitVec 32 := 8192#32
  let v3234 : BitVec 32 := Scalar.muli c0_i32_20 c8192_i32_2309
  let c5632_i32 : BitVec 32 := 5632#32
  let v3235 : BitVec 32 := Scalar.addi v3234 c5632_i32
  v3235
def k0_mult178 : BitVec 32 :=
  let c0_i32_20 : BitVec 32 := 0#32
  let c8192_i32_2313 : BitVec 32 := 8192#32
  let v3241 : BitVec 32 := Scalar.muli c0_i32_20 c8192_i32_2313
  let c5632_i32_2314 : BitVec 32 := 5632#32
  let v3242 : BitVec 32 := Scalar.addi v3241 c5632_i32_2314
  v3242
def k0_mult179 : BitVec 32 :=
  let c0_i32_20 : BitVec 32 := 0#32
  let c8192_i32_2318 : BitVec 32 := 8192#32
  let v3248 : BitVec 32 := Scalar.muli c0_i32_20 c8192_i32_2318
  let c5632_i32_2319 : BitVec 32 := 5632#32
  let v3249 : BitVec 32 := Scalar.addi v3248 c5632_i32_2319
  v3249
def k0_mult180 : BitVec 32 :=
  let c0_i32_20 : BitVec 32 := 0#32
  let c8192_i32_2323 : BitVec 32 := 8192#32
  let v3255 : BitVec 32 := Scalar.muli c0_i32_20 c8192_i32_2323
  let c5632_i32_2324 : BitVec 32 := 5632#32
  let v3256 : BitVec 32 := Scalar.addi v3255 c5632_i32_2324
  v3256
def k0_mult181 : BitVec 32 :=
  let c0_i32_20 : BitVec 32 := 0#32
  let c8192_i32_2328 : BitVec 32 := 8192#32
  let v3262 : BitVec 32 := Scalar.muli c0_i32_20 c8192_i32_2328
  let c5632_i32_2329 : BitVec 32 := 5632#32
  let v3263 : BitVec 32 := Scalar.addi v3262 c5632_i32_2329
  v3263
def k0_mult182 : BitVec 32 :=
  let c0_i32_20 : BitVec 32 := 0#32
  let c8192_i32_2333 : BitVec 32 := 8192#32
  let v3269 : BitVec 32 := Scalar.muli c0_i32_20 c8192_i32_2333
  let c5632_i32_2334 : BitVec 32 := 5632#32
  let v3270 : BitVec 32 := Scalar.addi v3269 c5632_i32_2334
  v3270
def k0_mult183 : BitVec 32 :=
  let c0_i32_20 : BitVec 32 := 0#32
  let c8192_i32_2338 : BitVec 32 := 8192#32
  let v3276 : BitVec 32 := Scalar.muli c0_i32_20 c8192_i32_2338
  let c5632_i32_2339 : BitVec 32 := 5632#32
  let v3277 : BitVec 32 := Scalar.addi v3276 c5632_i32_2339
  v3277
def k0_mult184 : BitVec 32 :=
  let c0_i32_20 : BitVec 32 := 0#32
  let c8192_i32_2343 : BitVec 32 := 8192#32
  let v3283 : BitVec 32 := Scalar.muli c0_i32_20 c8192_i32_2343
  let c5632_i32_2344 : BitVec 32 := 5632#32
  let v3284 : BitVec 32 := Scalar.addi v3283 c5632_i32_2344
  v3284
def k0_mult185 : BitVec 32 :=
  let c0_i32_20 : BitVec 32 := 0#32
  let c8192_i32_2348 : BitVec 32 := 8192#32
  let v3290 : BitVec 32 := Scalar.muli c0_i32_20 c8192_i32_2348
  let c5888_i32 : BitVec 32 := 5888#32
  let v3291 : BitVec 32 := Scalar.addi v3290 c5888_i32
  v3291
def k0_mult186 : BitVec 32 :=
  let c0_i32_20 : BitVec 32 := 0#32
  let c8192_i32_2352 : BitVec 32 := 8192#32
  let v3297 : BitVec 32 := Scalar.muli c0_i32_20 c8192_i32_2352
  let c5888_i32_2353 : BitVec 32 := 5888#32
  let v3298 : BitVec 32 := Scalar.addi v3297 c5888_i32_2353
  v3298
def k0_mult187 : BitVec 32 :=
  let c0_i32_20 : BitVec 32 := 0#32
  let c8192_i32_2357 : BitVec 32 := 8192#32
  let v3304 : BitVec 32 := Scalar.muli c0_i32_20 c8192_i32_2357
  let c5888_i32_2358 : BitVec 32 := 5888#32
  let v3305 : BitVec 32 := Scalar.addi v3304 c5888_i32_2358
  v3305
def k0_mult188 : BitVec 32 :=
  let c0_i32_20 : BitVec 32 := 0#32
  let c8192_i32_2362 : BitVec 32 := 8192#32
  let v3311 : BitVec 32 := Scalar.muli c0_i32_20 c8192_i32_2362
  let c5888_i32_2363 : BitVec 32 := 5888#32
  let v3312 : BitVec 32 := Scalar.addi v3311 c5888_i32_2363
  v3312
def k0_mult189 : BitVec 32 :=
  let c0_i32_20 : BitVec 32 := 0#32
  let c8192_i32_2367 : BitVec 32 := 8192#32
  let v3318 : BitVec 32 := Scalar.muli c0_i32_20 c8192_i32_2367
  let c5888_i32_2368 : BitVec 32 := 5888#32
  let v3319 : BitVec 32 := Scalar.addi v3318 c5888_i32_2368
  v3319
def k0_mult190 : BitVec 32 :=
  let c0_i32_20 : BitVec 32 := 0#32
  let c8192_i32_2372 : BitVec 32 := 8192#32
  let v3325 : BitVec 32 := Scalar.muli c0_i32_20 c8192_i32_2372
  let c5888_i32_2373 : BitVec 32 := 5888#32
  let v3326 : BitVec 32 := Scalar.addi v3325 c5888_i32_2373
  v3326
def k0_mult191 : BitVec 32 :=
  let c0_i32_20 : BitVec 32 := 0#32
  let c8192_i32_2377 : BitVec 32 := 8192#32
  let v3332 : BitVec 32 := Scalar.muli c0_i32_20 c8192_i32_2377
  let c5888_i32_2378 : BitVec 32 := 5888#32
  let v3333 : BitVec 32 := Scalar.addi v3332 c5888_i32_2378
  v3333
def k0_mult192 : BitVec 32 :=
  let c0_i32_20 : BitVec 32 := 0#32
  let c8192_i32_2382 : BitVec 32 := 8192#32
  let v3339 : BitVec 32 := Scalar.muli c0_i32_20 c8192_i32_2382
  let c5888_i32_2383 : BitVec 32 := 5888#32
  let v3340 : BitVec 32 := Scalar.addi v3339 c5888_i32_2383
  v3340
def k0_mult193 : BitVec 32 :=
  let c0_i32_20 : BitVec 32 := 0#32
  let c8192_i32_2675 : BitVec 32 := 8192#32
  let v3730 : BitVec 32 := Scalar.muli c0_i32_20 c8192_i32_2675
  let c6144_i32 : BitVec 32 := 6144#32
  let v3731 : BitVec 32 := Scalar.addi v3730 c6144_i32
  v3731
def k0_mult194 : BitVec 32 :=
  let c0_i32_20 : BitVec 32 := 0#32
  let c8192_i32_2679 : BitVec 32 := 8192#32
  let v3737 : BitVec 32 := Scalar.muli c0_i32_20 c8192_i32_2679
  let c6144_i32_2680 : BitVec 32 := 6144#32
  let v3738 : BitVec 32 := Scalar.addi v3737 c6144_i32_2680
  v3738
def k0_mult195 : BitVec 32 :=
  let c0_i32_20 : BitVec 32 := 0#32
  let c8192_i32_2684 : BitVec 32 := 8192#32
  let v3744 : BitVec 32 := Scalar.muli c0_i32_20 c8192_i32_2684
  let c6144_i32_2685 : BitVec 32 := 6144#32
  let v3745 : BitVec 32 := Scalar.addi v3744 c6144_i32_2685
  v3745
def k0_mult196 : BitVec 32 :=
  let c0_i32_20 : BitVec 32 := 0#32
  let c8192_i32_2689 : BitVec 32 := 8192#32
  let v3751 : BitVec 32 := Scalar.muli c0_i32_20 c8192_i32_2689
  let c6144_i32_2690 : BitVec 32 := 6144#32
  let v3752 : BitVec 32 := Scalar.addi v3751 c6144_i32_2690
  v3752
def k0_mult197 : BitVec 32 :=
  let c0_i32_20 : BitVec 32 := 0#32
  let c8192_i32_2694 : BitVec 32 := 8192#32
  let v3758 : BitVec 32 := Scalar.muli c0_i32_20 c8192_i32_2694
  let c6144_i32_2695 : BitVec 32 := 6144#32
  let v3759 : BitVec 32 := Scalar.addi v3758 c6144_i32_2695
  v3759
def k0_mult198 : BitVec 32 :=
  let c0_i32_20 : BitVec 32 := 0#32
  let c8192_i32_2699 : BitVec 32 := 8192#32
  let v3765 : BitVec 32 := Scalar.muli c0_i32_20 c8192_i32_2699
  let c6144_i32_2700 : BitVec 32 := 6144#32
  let v3766 : BitVec 32 := Scalar.addi v3765 c6144_i32_2700
  v3766
def k0_mult199 : BitVec 32 :=
  let c0_i32_20 : BitVec 32 := 0#32
  let c8192_i32_2704 : BitVec 32 := 8192#32
  let v3772 : BitVec 32 := Scalar.muli c0_i32_20 c8192_i32_2704
  let c6144_i32_2705 : BitVec 32 := 6144#32
  let v3773 : BitVec 32 := Scalar.addi v3772 c6144_i32_2705
  v3773
def k0_mult200 : BitVec 32 :=
  let c0_i32_20 : BitVec 32 := 0#32
  let c8192_i32_2709 : BitVec 32 := 8192#32
  let v3779 : BitVec 32 := Scalar.muli c0_i32_20 c8192_i32_2709
  let c6144_i32_2710 : BitVec 32 := 6144#32
  let v3780 : BitVec 32 := Scalar.addi v3779 c6144_i32_2710
  v3780
def k0_mult201 : BitVec 32 :=
  let c0_i32_20 : BitVec 32 := 0#32
  let c8192_i32_2714 : BitVec 32 := 8192#32
  let v3786 : BitVec 32 := Scalar.muli c0_i32_20 c8192_i32_2714
  let c6400_i32 : BitVec 32 := 6400#32
  let v3787 : BitVec 32 := Scalar.addi v3786 c6400_i32
  v3787
def k0_mult202 : BitVec 32 :=
  let c0_i32_20 : BitVec 32 := 0#32
  let c8192_i32_2718 : BitVec 32 := 8192#32
  let v3793 : BitVec 32 := Scalar.muli c0_i32_20 c8192_i32_2718
  let c6400_i32_2719 : BitVec 32 := 6400#32
  let v3794 : BitVec 32 := Scalar.addi v3793 c6400_i32_2719
  v3794
def k0_mult203 : BitVec 32 :=
  let c0_i32_20 : BitVec 32 := 0#32
  let c8192_i32_2723 : BitVec 32 := 8192#32
  let v3800 : BitVec 32 := Scalar.muli c0_i32_20 c8192_i32_2723
  let c6400_i32_2724 : BitVec 32 := 6400#32
  let v3801 : BitVec 32 := Scalar.addi v3800 c6400_i32_2724
  v3801
def k0_mult204 : BitVec 32 :=
  let c0_i32_20 : BitVec 32 := 0#32
  let c8192_i32_2728 : BitVec 32 := 8192#32
  let v3807 : BitVec 32 := Scalar.muli c0_i32_20 c8192_i32_2728
  let c6400_i32_2729 : BitVec 32 := 6400#32
  let v3808 : BitVec 32 := Scalar.addi v3807 c6400_i32_2729
  v3808
def k0_mult205 : BitVec 32 :=
  let c0_i32_20 : BitVec 32 := 0#32
  let c8192_i32_2733 : BitVec 32 := 8192#32
  let v3814 : BitVec 32 := Scalar.muli c0_i32_20 c8192_i32_2733
  let c6400_i32_2734 : BitVec 32 := 6400#32
  let v3815 : BitVec 32 := Scalar.addi v3814 c6400_i32_2734
  v3815
def k0_mult206 : BitVec 32 :=
  let c0_i32_20 : BitVec 32 := 0#32
  let c8192_i32_2738 : BitVec 32 := 8192#32
  let v3821 : BitVec 32 := Scalar.muli c0_i32_20 c8192_i32_2738
  let c6400_i32_2739 : BitVec 32 := 6400#32
  let v3822 : BitVec 32 := Scalar.addi v3821 c6400_i32_2739
  v3822
def k0_mult207 : BitVec 32 :=
  let c0_i32_20 : BitVec 32 := 0#32
  let c8192_i32_2743 : BitVec 32 := 8192#32
  let v3828 : BitVec 32 := Scalar.muli c0_i32_20 c8192_i32_2743
  let c6400_i32_2744 : BitVec 32 := 6400#32
  let v3829 : BitVec 32 := Scalar.addi v3828 c6400_i32_2744
  v3829
def k0_mult208 : BitVec 32 :=
  let c0_i32_20 : BitVec 32 := 0#32
  let c8192_i32_2748 : BitVec 32 := 8192#32
  let v3835 : BitVec 32 := Scalar.muli c0_i32_20 c8192_i32_2748
  let c6400_i32_2749 : BitVec 32 := 6400#32
  let v3836 : BitVec 32 := Scalar.addi v3835 c6400_i32_2749
  v3836
def k0_mult209 : BitVec 32 :=
  let c0_i32_20 : BitVec 32 := 0#32
  let c8192_i32_2753 : BitVec 32 := 8192#32
  let v3842 : BitVec 32 := Scalar.muli c0_i32_20 c8192_i32_2753
  let c6656_i32 : BitVec 32 := 6656#32
  let v3843 : BitVec 32 := Scalar.addi v3842 c6656_i32
  v3843
def k0_mult210 : BitVec 32 :=
  let c0_i32_20 : BitVec 32 := 0#32
  let c8192_i32_2757 : BitVec 32 := 8192#32
  let v3849 : BitVec 32 := Scalar.muli c0_i32_20 c8192_i32_2757
  let c6656_i32_2758 : BitVec 32 := 6656#32
  let v3850 : BitVec 32 := Scalar.addi v3849 c6656_i32_2758
  v3850
def k0_mult211 : BitVec 32 :=
  let c0_i32_20 : BitVec 32 := 0#32
  let c8192_i32_2762 : BitVec 32 := 8192#32
  let v3856 : BitVec 32 := Scalar.muli c0_i32_20 c8192_i32_2762
  let c6656_i32_2763 : BitVec 32 := 6656#32
  let v3857 : BitVec 32 := Scalar.addi v3856 c6656_i32_2763
  v3857
def k0_mult212 : BitVec 32 :=
  let c0_i32_20 : BitVec 32 := 0#32
  let c8192_i32_2767 : BitVec 32 := 8192#32
  let v3863 : BitVec 32 := Scalar.muli c0_i32_20 c8192_i32_2767
  let c6656_i32_2768 : BitVec 32 := 6656#32
  let v3864 : BitVec 32 := Scalar.addi v3863 c6656_i32_2768
  v3864
def k0_mult213 : BitVec 32 :=
  let c0_i32_20 : BitVec 32 := 0#32
  let c8192_i32_2772 : BitVec 32 := 8192#32
  let v3870 : BitVec 32 := Scalar.muli c0_i32_20 c8192_i32_2772
  let c6656_i32_2773 : BitVec 32 := 6656#32
  let v3871 : BitVec 32 := Scalar.addi v3870 c6656_i32_2773
  v3871
def k0_mult214 : BitVec 32 :=
  let c0_i32_20 : BitVec 32 := 0#32
  let c8192_i32_2777 : BitVec 32 := 8192#32
  let v3877 : BitVec 32 := Scalar.muli c0_i32_20 c8192_i32_2777
  let c6656_i32_2778 : BitVec 32 := 6656#32
  let v3878 : BitVec 32 := Scalar.addi v3877 c6656_i32_2778
  v3878
def k0_mult215 : BitVec 32 :=
  let c0_i32_20 : BitVec 32 := 0#32
  let c8192_i32_2782 : BitVec 32 := 8192#32
  let v3884 : BitVec 32 := Scalar.muli c0_i32_20 c8192_i32_2782
  let c6656_i32_2783 : BitVec 32 := 6656#32
  let v3885 : BitVec 32 := Scalar.addi v3884 c6656_i32_2783
  v3885
def k0_mult216 : BitVec 32 :=
  let c0_i32_20 : BitVec 32 := 0#32
  let c8192_i32_2787 : BitVec 32 := 8192#32
  let v3891 : BitVec 32 := Scalar.muli c0_i32_20 c8192_i32_2787
  let c6656_i32_2788 : BitVec 32 := 6656#32
  let v3892 : BitVec 32 := Scalar.addi v3891 c6656_i32_2788
  v3892
def k0_mult217 : BitVec 32 :=
  let c0_i32_20 : BitVec 32 := 0#32
  let c8192_i32_2792 : BitVec 32 := 8192#32
  let v3898 : BitVec 32 := Scalar.muli c0_i32_20 c8192_i32_2792
  let c6912_i32 : BitVec 32 := 6912#32
  let v3899 : BitVec 32 := Scalar.addi v3898 c6912_i32
  v3899
def k0_mult218 : BitVec 32 :=
  let c0_i32_20 : BitVec 32 := 0#32
  let c8192_i32_2796 : BitVec 32 := 8192#32
  let v3905 : BitVec 32 := Scalar.muli c0_i32_20 c8192_i32_2796
  let c6912_i32_2797 : BitVec 32 := 6912#32
  let v3906 : BitVec 32 := Scalar.addi v3905 c6912_i32_2797
  v3906
def k0_mult219 : BitVec 32 :=
  let c0_i32_20 : BitVec 32 := 0#32
  let c8192_i32_2801 : BitVec 32 := 8192#32
  let v3912 : BitVec 32 := Scalar.muli c0_i32_20 c8192_i32_2801
  let c6912_i32_2802 : BitVec 32 := 6912#32
  let v3913 : BitVec 32 := Scalar.addi v3912 c6912_i32_2802
  v3913
def k0_mult220 : BitVec 32 :=
  let c0_i32_20 : BitVec 32 := 0#32
  let c8192_i32_2806 : BitVec 32 := 8192#32
  let v3919 : BitVec 32 := Scalar.muli c0_i32_20 c8192_i32_2806
  let c6912_i32_2807 : BitVec 32 := 6912#32
  let v3920 : BitVec 32 := Scalar.addi v3919 c6912_i32_2807
  v3920
def k0_mult221 : BitVec 32 :=
  let c0_i32_20 : BitVec 32 := 0#32
  let c8192_i32_2811 : BitVec 32 := 8192#32
  let v3926 : BitVec 32 := Scalar.muli c0_i32_20 c8192_i32_2811
  let c6912_i32_2812 : BitVec 32 := 6912#32
  let v3927 : BitVec 32 := Scalar.addi v3926 c6912_i32_2812
  v3927
def k0_mult222 : BitVec 32 :=
  let c0_i32_20 : BitVec 32 := 0#32
  let c8192_i32_2816 : BitVec 32 := 8192#32
  let v3933 : BitVec 32 := Scalar.muli c0_i32_20 c8192_i32_2816
  let c6912_i32_2817 : BitVec 32 := 6912#32
  let v3934 : BitVec 32 := Scalar.addi v3933 c6912_i32_2817
  v3934
def k0_mult223 : BitVec 32 :=
  let c0_i32_20 : BitVec 32 := 0#32
  let c8192_i32_2821 : BitVec 32 := 8192#32
  let v3940 : BitVec 32 := Scalar.muli c0_i32_20 c8192_i32_2821
  let c6912_i32_2822 : BitVec 32 := 6912#32
  let v3941 : BitVec 32 := Scalar.addi v3940 c6912_i32_2822
  v3941
def k0_mult224 : BitVec 32 :=
  let c0_i32_20 : BitVec 32 := 0#32
  let c8192_i32_2826 : BitVec 32 := 8192#32
  let v3947 : BitVec 32 := Scalar.muli c0_i32_20 c8192_i32_2826
  let c6912_i32_2827 : BitVec 32 := 6912#32
  let v3948 : BitVec 32 := Scalar.addi v3947 c6912_i32_2827
  v3948
def k0_mult225 : BitVec 32 :=
  let c0_i32_20 : BitVec 32 := 0#32
  let c8192_i32_3119 : BitVec 32 := 8192#32
  let v4338 : BitVec 32 := Scalar.muli c0_i32_20 c8192_i32_3119
  let c7168_i32 : BitVec 32 := 7168#32
  let v4339 : BitVec 32 := Scalar.addi v4338 c7168_i32
  v4339
def k0_mult226 : BitVec 32 :=
  let c0_i32_20 : BitVec 32 := 0#32
  let c8192_i32_3123 : BitVec 32 := 8192#32
  let v4345 : BitVec 32 := Scalar.muli c0_i32_20 c8192_i32_3123
  let c7168_i32_3124 : BitVec 32 := 7168#32
  let v4346 : BitVec 32 := Scalar.addi v4345 c7168_i32_3124
  v4346
def k0_mult227 : BitVec 32 :=
  let c0_i32_20 : BitVec 32 := 0#32
  let c8192_i32_3128 : BitVec 32 := 8192#32
  let v4352 : BitVec 32 := Scalar.muli c0_i32_20 c8192_i32_3128
  let c7168_i32_3129 : BitVec 32 := 7168#32
  let v4353 : BitVec 32 := Scalar.addi v4352 c7168_i32_3129
  v4353
def k0_mult228 : BitVec 32 :=
  let c0_i32_20 : BitVec 32 := 0#32
  let c8192_i32_3133 : BitVec 32 := 8192#32
  let v4359 : BitVec 32 := Scalar.muli c0_i32_20 c8192_i32_3133
  let c7168_i32_3134 : BitVec 32 := 7168#32
  let v4360 : BitVec 32 := Scalar.addi v4359 c7168_i32_3134
  v4360
def k0_mult229 : BitVec 32 :=
  let c0_i32_20 : BitVec 32 := 0#32
  let c8192_i32_3138 : BitVec 32 := 8192#32
  let v4366 : BitVec 32 := Scalar.muli c0_i32_20 c8192_i32_3138
  let c7168_i32_3139 : BitVec 32 := 7168#32
  let v4367 : BitVec 32 := Scalar.addi v4366 c7168_i32_3139
  v4367
def k0_mult230 : BitVec 32 :=
  let c0_i32_20 : BitVec 32 := 0#32
  let c8192_i32_3143 : BitVec 32 := 8192#32
  let v4373 : BitVec 32 := Scalar.muli c0_i32_20 c8192_i32_3143
  let c7168_i32_3144 : BitVec 32 := 7168#32
  let v4374 : BitVec 32 := Scalar.addi v4373 c7168_i32_3144
  v4374
def k0_mult231 : BitVec 32 :=
  let c0_i32_20 : BitVec 32 := 0#32
  let c8192_i32_3148 : BitVec 32 := 8192#32
  let v4380 : BitVec 32 := Scalar.muli c0_i32_20 c8192_i32_3148
  let c7168_i32_3149 : BitVec 32 := 7168#32
  let v4381 : BitVec 32 := Scalar.addi v4380 c7168_i32_3149
  v4381
def k0_mult232 : BitVec 32 :=
  let c0_i32_20 : BitVec 32 := 0#32
  let c8192_i32_3153 : BitVec 32 := 8192#32
  let v4387 : BitVec 32 := Scalar.muli c0_i32_20 c8192_i32_3153
  let c7168_i32_3154 : BitVec 32 := 7168#32
  let v4388 : BitVec 32 := Scalar.addi v4387 c7168_i32_3154
  v4388
def k0_mult233 : BitVec 32 :=
  let c0_i32_20 : BitVec 32 := 0#32
  let c8192_i32_3158 : BitVec 32 := 8192#32
  let v4394 : BitVec 32 := Scalar.muli c0_i32_20 c8192_i32_3158
  let c7424_i32 : BitVec 32 := 7424#32
  let v4395 : BitVec 32 := Scalar.addi v4394 c7424_i32
  v4395
def k0_mult234 : BitVec 32 :=
  let c0_i32_20 : BitVec 32 := 0#32
  let c8192_i32_3162 : BitVec 32 := 8192#32
  let v4401 : BitVec 32 := Scalar.muli c0_i32_20 c8192_i32_3162
  let c7424_i32_3163 : BitVec 32 := 7424#32
  let v4402 : BitVec 32 := Scalar.addi v4401 c7424_i32_3163
  v4402
def k0_mult235 : BitVec 32 :=
  let c0_i32_20 : BitVec 32 := 0#32
  let c8192_i32_3167 : BitVec 32 := 8192#32
  let v4408 : BitVec 32 := Scalar.muli c0_i32_20 c8192_i32_3167
  let c7424_i32_3168 : BitVec 32 := 7424#32
  let v4409 : BitVec 32 := Scalar.addi v4408 c7424_i32_3168
  v4409
def k0_mult236 : BitVec 32 :=
  let c0_i32_20 : BitVec 32 := 0#32
  let c8192_i32_3172 : BitVec 32 := 8192#32
  let v4415 : BitVec 32 := Scalar.muli c0_i32_20 c8192_i32_3172
  let c7424_i32_3173 : BitVec 32 := 7424#32
  let v4416 : BitVec 32 := Scalar.addi v4415 c7424_i32_3173
  v4416
def k0_mult237 : BitVec 32 :=
  let c0_i32_20 : BitVec 32 := 0#32
  let c8192_i32_3177 : BitVec 32 := 8192#32
  let v4422 : BitVec 32 := Scalar.muli c0_i32_20 c8192_i32_3177
  let c7424_i32_3178 : BitVec 32 := 7424#32
  let v4423 : BitVec 32 := Scalar.addi v4422 c7424_i32_3178
  v4423
def k0_mult238 : BitVec 32 :=
  let c0_i32_20 : BitVec 32 := 0#32
  let c8192_i32_3182 : BitVec 32 := 8192#32
  let v4429 : BitVec 32 := Scalar.muli c0_i32_20 c8192_i32_3182
  let c7424_i32_3183 : BitVec 32 := 7424#32
  let v4430 : BitVec 32 := Scalar.addi v4429 c7424_i32_3183
  v4430
def k0_mult239 : BitVec 32 :=
  let c0_i32_20 : BitVec 32 := 0#32
  let c8192_i32_3187 : BitVec 32 := 8192#32
  let v4436 : BitVec 32 := Scalar.muli c0_i32_20 c8192_i32_3187
  let c7424_i32_3188 : BitVec 32 := 7424#32
  let v4437 : BitVec 32 := Scalar.addi v4436 c7424_i32_3188
  v4437
def k0_mult240 : BitVec 32 :=
  let c0_i32_20 : BitVec 32 := 0#32
  let c8192_i32_3192 : BitVec 32 := 8192#32
  let v4443 : BitVec 32 := Scalar.muli c0_i32_20 c8192_i32_3192
  let c7424_i32_3193 : BitVec 32 := 7424#32
  let v4444 : BitVec 32 := Scalar.addi v4443 c7424_i32_3193
  v4444
def k0_mult241 : BitVec 32 :=
  let c0_i32_20 : BitVec 32 := 0#32
  let c8192_i32_3197 : BitVec 32 := 8192#32
  let v4450 : BitVec 32 := Scalar.muli c0_i32_20 c8192_i32_3197
  let c7680_i32 : BitVec 32 := 7680#32
  let v4451 : BitVec 32 := Scalar.addi v4450 c7680_i32
  v4451
def k0_mult242 : BitVec 32 :=
  let c0_i32_20 : BitVec 32 := 0#32
  let c8192_i32_3201 : BitVec 32 := 8192#32
  let v4457 : BitVec 32 := Scalar.muli c0_i32_20 c8192_i32_3201
  let c7680_i32_3202 : BitVec 32 := 7680#32
  let v4458 : BitVec 32 := Scalar.addi v4457 c7680_i32_3202
  v4458
def k0_mult243 : BitVec 32 :=
  let c0_i32_20 : BitVec 32 := 0#32
  let c8192_i32_3206 : BitVec 32 := 8192#32
  let v4464 : BitVec 32 := Scalar.muli c0_i32_20 c8192_i32_3206
  let c7680_i32_3207 : BitVec 32 := 7680#32
  let v4465 : BitVec 32 := Scalar.addi v4464 c7680_i32_3207
  v4465
def k0_mult244 : BitVec 32 :=
  let c0_i32_20 : BitVec 32 := 0#32
  let c8192_i32_3211 : BitVec 32 := 8192#32
  let v4471 : BitVec 32 := Scalar.muli c0_i32_20 c8192_i32_3211
  let c7680_i32_3212 : BitVec 32 := 7680#32
  let v4472 : BitVec 32 := Scalar.addi v4471 c7680_i32_3212
  v4472
def k0_mult245 : BitVec 32 :=
  let c0_i32_20 : BitVec 32 := 0#32
  let c8192_i32_3216 : BitVec 32 := 8192#32
  let v4478 : BitVec 32 := Scalar.muli c0_i32_20 c8192_i32_3216
  let c7680_i32_3217 : BitVec 32 := 7680#32
  let v4479 : BitVec 32 := Scalar.addi v4478 c7680_i32_3217
  v4479
def k0_mult246 : BitVec 32 :=
  let c0_i32_20 : BitVec 32 := 0#32
  let c8192_i32_3221 : BitVec 32 := 8192#32
  let v4485 : BitVec 32 := Scalar.muli c0_i32_20 c8192_i32_3221
  let c7680_i32_3222 : BitVec 32 := 7680#32
  let v4486 : BitVec 32 := Scalar.addi v4485 c7680_i32_3222
  v4486
def k0_mult247 : BitVec 32 :=
  let c0_i32_20 : BitVec 32 := 0#32
  let c8192_i32_3226 : BitVec 32 := 8192#32
  let v4492 : BitVec 32 := Scalar.muli c0_i32_20 c8192_i32_3226
  let c7680_i32_3227 : BitVec 32 := 7680#32
  let v4493 : BitVec 32 := Scalar.addi v4492 c7680_i32_3227
  v4493
def k0_mult248 : BitVec 32 :=
  let c0_i32_20 : BitVec 32 := 0#32
  let c8192_i32_3231 : BitVec 32 := 8192#32
  let v4499 : BitVec 32 := Scalar.muli c0_i32_20 c8192_i32_3231
  let c7680_i32_3232 : BitVec 32 := 7680#32
  let v4500 : BitVec 32 := Scalar.addi v4499 c7680_i32_3232
  v4500
def k0_mult249 : BitVec 32 :=
  let c0_i32_20 : BitVec 32 := 0#32
  let c8192_i32_3236 : BitVec 32 := 8192#32
  let v4506 : BitVec 32 := Scalar.muli c0_i32_20 c8192_i32_3236
  let c7936_i32 : BitVec 32 := 7936#32
  let v4507 : BitVec 32 := Scalar.addi v4506 c7936_i32
  v4507
def k0_mult250 : BitVec 32 :=
  let c0_i32_20 : BitVec 32 := 0#32
  let c8192_i32_3240 : BitVec 32 := 8192#32
  let v4513 : BitVec 32 := Scalar.muli c0_i32_20 c8192_i32_3240
  let c7936_i32_3241 : BitVec 32 := 7936#32
  let v4514 : BitVec 32 := Scalar.addi v4513 c7936_i32_3241
  v4514
def k0_mult251 : BitVec 32 :=
  let c0_i32_20 : BitVec 32 := 0#32
  let c8192_i32_3245 : BitVec 32 := 8192#32
  let v4520 : BitVec 32 := Scalar.muli c0_i32_20 c8192_i32_3245
  let c7936_i32_3246 : BitVec 32 := 7936#32
  let v4521 : BitVec 32 := Scalar.addi v4520 c7936_i32_3246
  v4521
def k0_mult252 : BitVec 32 :=
  let c0_i32_20 : BitVec 32 := 0#32
  let c8192_i32_3250 : BitVec 32 := 8192#32
  let v4527 : BitVec 32 := Scalar.muli c0_i32_20 c8192_i32_3250
  let c7936_i32_3251 : BitVec 32 := 7936#32
  let v4528 : BitVec 32 := Scalar.addi v4527 c7936_i32_3251
  v4528
def k0_mult253 : BitVec 32 :=
  let c0_i32_20 : BitVec 32 := 0#32
  let c8192_i32_3255 : BitVec 32 := 8192#32
  let v4534 : BitVec 32 := Scalar.muli c0_i32_20 c8192_i32_3255
  let c7936_i32_3256 : BitVec 32 := 7936#32
  let v4535 : BitVec 32 := Scalar.addi v4534 c7936_i32_3256
  v4535
def k0_mult254 : BitVec 32 :=
  let c0_i32_20 : BitVec 32 := 0#32
  let c8192_i32_3260 : BitVec 32 := 8192#32
  let v4541 : BitVec 32 := Scalar.muli c0_i32_20 c8192_i32_3260
  let c7936_i32_3261 : BitVec 32 := 7936#32
  let v4542 : BitVec 32 := Scalar.addi v4541 c7936_i32_3261
  v4542
def k0_mult255 : BitVec 32 :=
  let c0_i32_20 : BitVec 32 := 0#32
  let c8192_i32_3265 : BitVec 32 := 8192#32
  let v4548 : BitVec 32 := Scalar.muli c0_i32_20 c8192_i32_3265
  let c7936_i32_3266 : BitVec 32 := 7936#32
  let v4549 : BitVec 32 := Scalar.addi v4548 c7936_i32_3266
  v4549
def k0_mult256 : BitVec 32 :=
  let c0_i32_20 : BitVec 32 := 0#32
  let c8192_i32_3270 : BitVec 32 := 8192#32
  let v4555 : BitVec 32 := Scalar.muli c0_i32_20 c8192_i32_3270
  let c7936_i32_3271 : BitVec 32 := 7936#32
  let v4556 : BitVec 32 := Scalar.addi v4555 c7936_i32_3271
  v4556
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "dscale" => some (((Real.sqrt 32)⁻¹ * (Real.log 2)⁻¹ : ℝ) : EReal)
  | _ => none
-- ==== Reference3Ideal.lean ====
abbrev S4x8192x8x32 : Shape := ⟨4, ![4, 8192, 8, 32]⟩
abbrev S4x8192x4x64 : Shape := ⟨4, ![4, 8192, 4, 64]⟩
abbrev S32 : Shape := ⟨1, ![32]⟩
abbrev S64 : Shape := ⟨1, ![64]⟩
abbrev S1 : Shape := ⟨1, ![1]⟩
abbrev S4x8192x4x2x32 : Shape := ⟨5, ![4, 8192, 4, 2, 32]⟩
abbrev S_ : Shape := ⟨0, ![]⟩
abbrev S4x8192x4x1x32 : Shape := ⟨5, ![4, 8192, 4, 1, 32]⟩
abbrev S4x8192x4x32 : Shape := ⟨4, ![4, 8192, 4, 32]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S1x1x1x1 : Shape := ⟨4, ![1, 1, 1, 1]⟩
abbrev S4x4x64x8192 : Shape := ⟨4, ![4, 4, 64, 8192]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S4x8192x256 : Shape := ⟨3, ![4, 8192, 256]⟩

abbrev nBuf : Space → Nat
  | .hbm => 98
  | .vmem => 0
  | .smem => 0
  | _ => 0

abbrev bufTy : (tb : Table) → Fin (tcTables nBuf tb) → BufTy
  | .hbm, ⟨0, _⟩ => ⟨S4x8192x8x32, .f32⟩
  | .hbm, ⟨1, _⟩ => ⟨S4x8192x8x32, .f32⟩
  | .hbm, ⟨2, _⟩ => ⟨S4x8192x4x64, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S64, .f32⟩
  | .hbm, ⟨8, _⟩ => ⟨S1, .f32⟩
  | .hbm, ⟨9, _⟩ => ⟨S4x8192x4x2x32, .f32⟩
  | .hbm, ⟨10, _⟩ => ⟨S4x8192x4x2x32, .f32⟩
  | .hbm, ⟨11, _⟩ => ⟨S32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S4x8192x4x1x32, .f32⟩
  | .hbm, ⟨23, _⟩ => ⟨S4x8192x4x32, .f32⟩
  | .hbm, ⟨24, _⟩ => ⟨S4x8192x4x1x32, .f32⟩
  | .hbm, ⟨25, _⟩ => ⟨S4x8192x4x32, .f32⟩
  | .hbm, ⟨26, _⟩ => ⟨S4x4x8192x8192, .f32⟩
  | .hbm, ⟨27, _⟩ => ⟨S_, .f32⟩
  | .hbm, ⟨28, _⟩ => ⟨S_, .f32⟩
  | .hbm, ⟨29, _⟩ => ⟨S4x4x8192x8192, .f32⟩
  | .hbm, ⟨30, _⟩ => ⟨S4x4x8192x8192, .f32⟩
  | .hbm, ⟨31, _⟩ => ⟨S4x8192x4x1x32, .f32⟩
  | .hbm, ⟨32, _⟩ => ⟨S4x8192x4x32, .f32⟩
  | .hbm, ⟨33, _⟩ => ⟨S4x8192x4x1x32, .f32⟩
  | .hbm, ⟨34, _⟩ => ⟨S4x8192x4x32, .f32⟩
  | .hbm, ⟨35, _⟩ => ⟨S4x4x8192x8192, .f32⟩
  | .hbm, ⟨36, _⟩ => ⟨S_, .f32⟩
  | .hbm, ⟨37, _⟩ => ⟨S_, .f32⟩
  | .hbm, ⟨38, _⟩ => ⟨S4x4x8192x8192, .f32⟩
  | .hbm, ⟨39, _⟩ => ⟨S4x4x8192x8192, .f32⟩
  | .hbm, ⟨40, _⟩ => ⟨S_, .f32⟩
  | .hbm, ⟨41, _⟩ => ⟨S4x4x8192, .f32⟩
  | .hbm, ⟨42, _⟩ => ⟨S_, .f32⟩
  | .hbm, ⟨43, _⟩ => ⟨S4x4x8192, .f32⟩
  | .hbm, ⟨44, _⟩ => ⟨S4x4x8192, .f32⟩
  | .hbm, ⟨45, _⟩ => ⟨S4x4x8192x1, .f32⟩
  | .hbm, ⟨46, _⟩ => ⟨S4x4x8192x8192, .f32⟩
  | .hbm, ⟨47, _⟩ => ⟨S4x4x8192x8192, .f32⟩
  | .hbm, ⟨48, _⟩ => ⟨S4x4x8192x8192, .f32⟩
  | .hbm, ⟨49, _⟩ => ⟨S_, .f32⟩
  | .hbm, ⟨50, _⟩ => ⟨S4x4x8192, .f32⟩
  | .hbm, ⟨51, _⟩ => ⟨S4x4x8192x1, .f32⟩
  | .hbm, ⟨52, _⟩ => ⟨S4x4x8192x8192, .f32⟩
  | .hbm, ⟨53, _⟩ => ⟨S4x4x8192x8192, .f32⟩
  | .hbm, ⟨54, _⟩ => ⟨S_, .f32⟩
  | .hbm, ⟨55, _⟩ => ⟨S4x4x8192, .f32⟩
  | .hbm, ⟨56, _⟩ => ⟨S_, .f32⟩
  | .hbm, ⟨57, _⟩ => ⟨S4x4x8192, .f32⟩
  | .hbm, ⟨58, _⟩ => ⟨S4x4x8192, .f32⟩
  | .hbm, ⟨59, _⟩ => ⟨S4x4x8192x1, .f32⟩
  | .hbm, ⟨60, _⟩ => ⟨S4x4x8192x8192, .f32⟩
  | .hbm, ⟨61, _⟩ => ⟨S4x4x8192x8192, .f32⟩
  | .hbm, ⟨62, _⟩ => ⟨S4x4x8192x8192, .f32⟩
  | .hbm, ⟨63, _⟩ => ⟨S_, .f32⟩
  | .hbm, ⟨64, _⟩ => ⟨S4x4x8192, .f32⟩
  | .hbm, ⟨65, _⟩ => ⟨S4x4x8192x1, .f32⟩
  | .hbm, ⟨66, _⟩ => ⟨S4x4x8192x8192, .f32⟩
  | .hbm, ⟨67, _⟩ => ⟨S4x4x8192x8192, .f32⟩
  | .hbm, ⟨68, _⟩ => ⟨S1x1x1x1, .f32⟩
  | .hbm, ⟨69, _⟩ => ⟨S4x4x8192x8192, .f32⟩
  | .hbm, ⟨70, _⟩ => ⟨S4x4x8192x8192, .f32⟩
  | .hbm, ⟨71, _⟩ => ⟨S4x4x8192x8192, .f32⟩
  | .hbm, ⟨72, _⟩ => ⟨S4x4x64x8192, .f32⟩
  | .hbm, ⟨73, _⟩ => ⟨S4x8192x4x64, .f32⟩
  | .hbm, ⟨74, _⟩ => ⟨S4x8192x4x64, .f32⟩
  | .hbm, ⟨75, _⟩ => ⟨S_, .f32⟩
  | .hbm, ⟨76, _⟩ => ⟨S4x8192x4, .f32⟩
  | .hbm, ⟨77, _⟩ => ⟨S4x8192x4x1, .f32⟩
  | .hbm, ⟨78, _⟩ => ⟨S_, .f32⟩
  | .hbm, ⟨79, _⟩ => ⟨S4x8192x4x1, .f32⟩
  | .hbm, ⟨80, _⟩ => ⟨S4x8192x4x1, .f32⟩
  | .hbm, ⟨81, _⟩ => ⟨S_, .f32⟩
  | .hbm, ⟨82, _⟩ => ⟨S4x8192x4x1, .f32⟩
  | .hbm, ⟨83, _⟩ => ⟨S4x8192x4x1, .f32⟩
  | .hbm, ⟨84, _⟩ => ⟨S4x8192x4x1, .f32⟩
  | .hbm, ⟨85, _⟩ => ⟨S4x8192x4x64, .f32⟩
  | .hbm, ⟨86, _⟩ => ⟨S4x8192x4x64, .f32⟩
  | .hbm, ⟨87, _⟩ => ⟨S1x1x1x64, .f32⟩
  | .hbm, ⟨88, _⟩ => ⟨S4x8192x4x64, .f32⟩
  | .hbm, ⟨89, _⟩ => ⟨S4x8192x4x64, .f32⟩
  | .hbm, ⟨90, _⟩ => ⟨S_, .f32⟩
  | .hbm, ⟨91, _⟩ => ⟨S1, .f32⟩
  | .hbm, ⟨92, _⟩ => ⟨S1, .f32⟩
  | .hbm, ⟨93, _⟩ => ⟨S1x1x1x1, .f32⟩
  | .hbm, ⟨94, _⟩ => ⟨S4x8192x4x64, .f32⟩
  | .hbm, ⟨95, _⟩ => ⟨S4x8192x4x64, .f32⟩
  | .hbm, ⟨96, _⟩ => ⟨S4x8192x256, .f32⟩
  | .hbm, ⟨97, _⟩ => ⟨S4x8192x256, .bf16⟩
  | _, _ => ⟨S4x8192x8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Proof.MlaRun.lean ====
/- What one grid point of the attention kernel computes, as a recursion over its 128 accumulation steps: the run's
   stores into the scratch accumulator are the list `pieces 128`, and the four output slices read four slabs of it. -/
module

public import proofs.«01_k».proof.Proof.Gen.KernelIdeal.Value
public import Idealize.ShloMosaic.Lib.Pipeline.ReadBack
public import Idealize.ShloMosaic.Lib.WholeRead
public import Idealize.ShloMosaic.Lib.Pipeline.ValueKit
public import Idealize.ShloMosaic.Lib.Pointwise

@[expose] public section

noncomputable section

namespace Cert.KernelIdeal.Mla

open Cert.KernelIdeal Cert.KernelIdeal.Gen Idealize.ShloMosaic Idealize.SL.Sem

variable {F : FTy → Type} [FloatOps F] [Named F]

/-- Slab `h` of the accumulator: the rows of one head. -/
def slab (h : ℕ) (hh : h < 4) : Rect S4x128x512 :=
  Rect.unit ![h, 0, 0] S1x128x512.size (by intro a; fin_cases a <;> simp [Shape.size] <;> omega)

/-- The query block's lanes of head `h`. -/
def qRect (h : ℕ) (hh : h < 4) : Rect S1x512x512 :=
  Rect.unit ![0, 0, 128 * h] S1x512x128.size (by intro a; fin_cases a <;> simp [Shape.size] <;> omega)

/-- Key (or value) chunk `n` of 256 rows, the lanes of head `h`. -/
def kRect (n h : ℕ) (hn : n < 32) (hh : h < 4) : Rect S1x8192x512 :=
  Rect.unit ![0, 256 * n, 128 * h] S1x256x128.size (by intro a; fin_cases a <;> simp [Shape.size] <;> omega)

/-- One accumulation step: `acc + vᵀ·2^(k·(c·q)ᵀ)`, `c` the scale, for one chunk of keys. -/
def step (q : Vec F S1x512x128 .f32) (k v : Vec F S1x256x128 .bf16) (acc : Vec F S1x128x512 .f32) : Vec F S1x128x512 .f32 :=
  shapeCast S1x128x512
    (addf (shapeCast S128x512 acc shapeCasts_S1x128x512_S128x512 : FVec F S128x512 .f32)
      (matmul dot_S256x128_S256x512_S128x512_0_0_1_1_n_n none
        (shapeCast S256x128 v shapeCasts_S1x256x128_S256x128 : FVec F S256x128 .bf16)
        (truncf .bf16
          (exp2 (matmul dot_S256x128_S512x128_S256x512_1_1_0_0_n_n none
            (shapeCast S256x128 k shapeCasts_S1x256x128_S256x128 : FVec F S256x128 .bf16)
            (truncf .bf16 (mulf (shapeCast S512x128 q shapeCasts_S1x512x128_S512x128 : FVec F S512x128 .f32)
              (broadcast S512x128 (Named.named κ "qscale" 0x3E16C740#32 : F .f32))) bitsLt_bf16_f32 : FVec F S512x128 .bf16)
            (constant S256x512 .f32 0x00000000#32) : FVec F S256x512 .f32)) bitsLt_bf16_f32 : FVec F S256x512 .bf16)
        (constant S128x512 .f32 0x00000000#32) : FVec F S128x512 .f32)) shapeCasts_S128x512_S1x128x512

/-- A step of equal operands. -/
theorem step_congr {q q' : Vec F S1x512x128 .f32} {k k' v v' : Vec F S1x256x128 .bf16} {a a' : Vec F S1x128x512 .f32}
    (hq : q = q') (hk : k = k') (hv : v = v') (ha : a = a') : step q k v a = step q' k' v' a' := by
  subst hq hk hv ha; rfl

section
variable (arg2 : Memref sig .tc .vmem S1x512x512 .f32) (harg2 : arg2.IsWhole) (arg3 : Memref sig .tc .vmem S1x8192x512 .bf16)
  (harg3 : arg3.IsWhole) (arg4 : Memref sig .tc .vmem S1x8192x512 .bf16) (harg4 : arg4.IsWhole)
  (arg6 : Memref sig .tc .vmem S4x128x512 .f32)
  (x0 : Vec F S1x512x512 .f32) (x1 : Vec F S1x8192x512 .bf16) (x2 : Vec F S1x8192x512 .bf16)

/-- The stores into the accumulator after `m` steps: step `m` adds chunk `m / 4` of the keys to head `m % 4`. -/
def pieces (m : ℕ) : List (View.Piece (Elt F) S4x128x512 .f32) :=
  Nat.rec [⟨Rect.unit ![0, 0, 0] S4x128x512.size inb_S4x128x512_S4x128x512_0_0_0, k0_pay5⟩]
    (fun m L => ⟨slab (m % 4) (Nat.mod_lt _ (by decide)),
      step (View.readAt (Elt F) arg2.view (qRect (m % 4) (Nat.mod_lt _ (by decide))).toLoadRect (harg2.unread x0))
        (View.readAt (Elt F) arg3.view (kRect (m / 4 % 32) (m % 4) (Nat.mod_lt _ (by decide)) (Nat.mod_lt _ (by decide))).toLoadRect (harg3.unread x1))
        (View.readAt (Elt F) arg4.view (kRect (m / 4 % 32) (m % 4) (Nat.mod_lt _ (by decide)) (Nat.mod_lt _ (by decide))).toLoadRect (harg4.unread x2))
        (arg6.view.readCov L (slab (m % 4) (Nat.mod_lt _ (by decide))).toLoadRect)⟩ :: L) m

/-- No step: the accumulator cleared. -/
theorem pieces_zero : pieces arg2 harg2 arg3 harg3 arg4 harg4 arg6 x0 x1 x2 0
    = [⟨Rect.unit ![0, 0, 0] S4x128x512.size inb_S4x128x512_S4x128x512_0_0_0, k0_pay5⟩] := rfl

/-- One step more: one store more. -/
theorem pieces_succ (m : ℕ) : pieces arg2 harg2 arg3 harg3 arg4 harg4 arg6 x0 x1 x2 (m + 1)
    = ⟨slab (m % 4) (Nat.mod_lt _ (by decide)),
      step (View.readAt (Elt F) arg2.view (qRect (m % 4) (Nat.mod_lt _ (by decide))).toLoadRect (harg2.unread x0))
        (View.readAt (Elt F) arg3.view (kRect (m / 4 % 32) (m % 4) (Nat.mod_lt _ (by decide)) (Nat.mod_lt _ (by decide))).toLoadRect (harg3.unread x1))
        (View.readAt (Elt F) arg4.view (kRect (m / 4 % 32) (m % 4) (Nat.mod_lt _ (by decide)) (Nat.mod_lt _ (by decide))).toLoadRect (harg4.unread x2))
        (arg6.view.readCov (pieces arg2 harg2 arg3 harg3 arg4 harg4 arg6 x0 x1 x2 m) (slab (m % 4) (Nat.mod_lt _ (by decide))).toLoadRect)⟩
      :: pieces arg2 harg2 arg3 harg3 arg4 harg4 arg6 x0 x1 x2 m := rfl

/-- The run's stores into the accumulator are the recursion's. -/
theorem hs_eq (c : Dev nD) : kernelRun0_A.sl.HS0_129 c arg2 harg2 arg3 harg3 arg4 harg4 arg6 x0 x1 x2
    = pieces arg2 harg2 arg3 harg3 arg4 harg4 arg6 x0 x1 x2 128 := by
  rfl

/-- Head `h`'s accumulator after its first `n` chunks of keys. -/
def acc (h : ℕ) (hh : h < 4) (n : ℕ) : Vec F S1x128x512 .f32 :=
  Nat.rec (fun _ => Scalar.ofBits .f32 0x00000000#32)
    (fun n a => step (View.ld x0 (qRect h hh)) (View.ld x1 (kRect (n % 32) h (Nat.mod_lt _ (by decide)) hh))
      (View.ld x2 (kRect (n % 32) h (Nat.mod_lt _ (by decide)) hh)) a) n

omit [FloatOps F] [Named F] in
/-- A load of a box of a whole buffer reads the box of its contents. -/
theorem readAt_ld {sp : Space} {s : Shape} {e : EltTy} {m : Memref sig .tc sp s e} (h : m.IsWhole) (X : Vec F s e) (r : Rect s) :
    View.readAt (Elt F) m.view r.toLoadRect (h.unread X) = View.ld X r :=
  funext fun x => h.readAt_unread X r.toLoadRect x

/-- Slabs of two heads share no cell. -/
theorem slab_disj (h h' : ℕ) (hh : h < 4) (hh' : h' < 4) (hne : h ≠ h') : LoadRect.disj (slab h hh) (slab h' hh').toLoadRect = true := by
  interval_cases h <;> interval_cases h' <;> first | exact absurd rfl hne | rfl

/-- After `m` steps head `h`'s slab holds its accumulator after the chunks it has had. -/
theorem read_pieces (h : ℕ) (hh : h < 4) (m : ℕ) (hm : m ≤ 128) :
    arg6.view.readCov (pieces arg2 harg2 arg3 harg3 arg4 harg4 arg6 x0 x1 x2 m) (slab h hh).toLoadRect
      = acc x0 x1 x2 h hh ((m + 3 - h) / 4) := by
  induction m with
  | zero =>
    have : (0 + 3 - h) / 4 = 0 := by omega
    rw [this]
    rw [pieces_zero, View.readCov_fill _ _ _ _ _ (by decide)]
    rfl
  | succ m ih =>
    have ih := ih (by omega)
    by_cases hc : m % 4 = h
    · subst hc
      have e : (m + 1 + 3 - m % 4) / 4 = (m + 3 - m % 4) / 4 + 1 := by omega
      have e2 : (m + 3 - m % 4) / 4 = m / 4 := by omega
      rw [e, e2]
      rw [e2] at ih
      rw [pieces_succ]
      refine (View.readCov_cons_toLoadRect arg6.view _ _ _).trans ?_
      exact step_congr (readAt_ld harg2 x0 _) (readAt_ld harg3 x1 _) (readAt_ld harg4 x2 _) ih
    · have e : (m + 1 + 3 - h) / 4 = (m + 3 - h) / 4 := by omega
      rw [e, ← ih, pieces_succ]
      exact View.readCov_skip arg6.view _ _ _ _ (slab_disj _ _ _ _ hc)

/-- The slab of head `h` as the run's last loads read it. -/
theorem read_last (c : Dev nD) (h : ℕ) (hh : h < 4) :
    arg6.view.readCov (kernelRun0_A.sl.HS0_129 c arg2 harg2 arg3 harg3 arg4 harg4 arg6 x0 x1 x2) (slab h hh).toLoadRect
      = acc x0 x1 x2 h hh 32 := by
  rw [hs_eq, read_pieces _ _ _ _ _ _ _ _ _ _ h hh 128 (le_refl _)]
  congr 1
  omega

/-- The output's lanes of head `h`. -/
def oRect (h : ℕ) (hh : h < 4) : Rect S1x512x256 :=
  Rect.unit ![0, 0, 64 * h] S1x512x64.size (by intro a; fin_cases a <;> simp [Shape.size] <;> omega)

/-- The run's stores into the output block: each head's lanes, its accumulator divided by its normaliser. -/
theorem run_pieces (c : Dev nD) (i : grid0.Coords) (arg5 : Memref sig .tc .vmem S1x512x256 .bf16) (harg5 : arg5.IsWhole)
    (harg6 : arg6.IsWhole) :
    (kernelRun0_A c i arg2 harg2 arg3 harg3 arg4 harg4 arg5 harg5 arg6 harg6 x0 x1 x2).1
      = [⟨oRect 3 (by decide), k0_pay416 (acc x0 x1 x2 3 (by decide) 32)⟩,
         ⟨oRect 2 (by decide), k0_pay416 (acc x0 x1 x2 2 (by decide) 32)⟩,
         ⟨oRect 1 (by decide), k0_pay416 (acc x0 x1 x2 1 (by decide) 32)⟩,
         ⟨oRect 0 (by decide), k0_pay416 (acc x0 x1 x2 0 (by decide) 32)⟩] := by
  rw [← read_last arg2 harg2 arg3 harg3 arg4 harg4 arg6 x0 x1 x2 c 0, ← read_last arg2 harg2 arg3 harg3 arg4 harg4 arg6 x0 x1 x2 c 1,
    ← read_last arg2 harg2 arg3 harg3 arg4 harg4 arg6 x0 x1 x2 c 2, ← read_last arg2 harg2 arg3 harg3 arg4 harg4 arg6 x0 x1 x2 c 3]
  rfl

end

/-- What one grid point leaves in the output block, by head and lane. -/
def blockOut (x0 : Vec F S1x512x512 .f32) (x1 x2 : Vec F S1x8192x512 .bf16) : Vec F S1x512x256 .bf16 := fun y =>
  k0_pay416 (acc x0 x1 x2 ((y 2).val / 64) (Nat.div_lt_of_lt_mul (y 2).isLt) 32)
    (ix3 (0 : Fin 1) ((y 1).cast rfl : Fin 512) (⟨(y 2).val % 64, Nat.mod_lt _ (by decide)⟩ : Fin 64))

/-- Head `h`'s store is `blockOut` on its lanes. -/
theorem blockOut_piece (x0 : Vec F S1x512x512 .f32) (x1 x2 : Vec F S1x8192x512 .bf16) (h : ℕ) (hh : h < 4) (x : S1x512x64.Idx) :
    k0_pay416 (acc x0 x1 x2 h hh 32) x = blockOut x0 x1 x2 ((oRect h hh).emb x) := by
  have h2 : (((oRect h hh).emb x) 2).val = 64 * h + (x 2).val := by
    show 64 * h + 1 * (x 2).val = _; omega
  have h1 : (((oRect h hh).emb x) 1).val = (x 1).val := by
    show 0 + 1 * (x 1).val = _; omega
  have hx : (x 2).val < 64 := (x 2).isLt
  have key : ∀ (h' : ℕ) (hh' : h' < 4) (x' : S1x512x64.Idx), h = h' → x = x' →
      k0_pay416 (acc x0 x1 x2 h hh 32) x = k0_pay416 (acc x0 x1 x2 h' hh' 32) x' := by
    intro h' hh' x' e e'; subst e e'; rfl
  unfold blockOut
  refine key _ _ _ (by rw [h2]; omega) ?_
  funext a
  apply Fin.ext
  match a with
  | ⟨0, _⟩ => have : (x 0).val < 1 := (x 0).isLt; show (x 0).val = 0; omega
  | ⟨1, _⟩ => exact h1.symm
  | ⟨2, _⟩ => show (x 2).val = ((oRect h hh).emb x 2).val % 64; rw [h2]; omega

/-- One grid point's output block. -/
theorem out_eq (c : Dev nD) (i : grid0.Coords) (arg2 : Memref sig .tc .vmem S1x512x512 .f32) (harg2 : arg2.IsWhole) (arg3 : Memref sig .tc .vmem S1x8192x512 .bf16)
    (harg3 : arg3.IsWhole) (arg4 : Memref sig .tc .vmem S1x8192x512 .bf16) (harg4 : arg4.IsWhole)
    (arg5 : Memref sig .tc .vmem S1x512x256 .bf16) (harg5 : arg5.IsWhole)
    (arg6 : Memref sig .tc .vmem S4x128x512 .f32) (harg6 : arg6.IsWhole)
    (x0 : Vec F S1x512x512 .f32) (x1 : Vec F S1x8192x512 .bf16) (x2 : Vec F S1x8192x512 .bf16) :
    out0_A_3 c i arg2 harg2 arg3 harg3 arg4 harg4 arg5 harg5 arg6 harg6 x0 x1 x2 = blockOut x0 x1 x2 := by
  funext y
  unfold out0_A_3
  refine (View.read_writes_junk_apply_eq_canon _ y _).trans ?_
  have hc := cover0_A_3 c i arg2 harg2 arg3 harg3 arg4 harg4 arg5 harg5 arg6 harg6 x0 x1 x2 y
  rw [run_pieces] at hc ⊢
  refine View.canon_append_of_piecesOf (blockOut x0 x1 x2) [] _ ?_ y hc
  exact ⟨blockOut_piece x0 x1 x2 3 _, blockOut_piece x0 x1 x2 2 _, blockOut_piece x0 x1 x2 1 _, blockOut_piece x0 x1 x2 0 _, trivial⟩

end Cert.KernelIdeal.Mla
-- ==== Proof.MlaValue.lean ====
/- The attention kernel's output block as a formula: weighted sums over all keys, divided by the sum of the weights. -/
module

public import proofs.«01_k».proof.Proof.MlaRun

@[expose] public section

set_option maxRecDepth 16384

noncomputable section

namespace Cert.KernelIdeal.Mla

open Cert.KernelIdeal Cert.KernelIdeal.Gen Idealize.ShloMosaic Idealize.SL.Sem
open scoped BigOperators

/-- The factor the kernel multiplies the queries by: `1 / (√96 · ln 2)`. -/
def scale : EReal := (((Real.sqrt 96)⁻¹ * (Real.log 2)⁻¹ : ℝ) : EReal)

/-- One accumulation step at an index. -/
theorem step_apply (q : Vec Ideal S1x512x128 .f32) (k v : Vec Ideal S1x256x128 .bf16) (a : Vec Ideal S1x128x512 .f32)
    (d : Fin 128) (r : Fin 512) :
    step q k v a (ix3 0 d r) = a (ix3 0 d r)
      + ∑ j : Fin 256, v (ix3 0 j d) * Ideal.exp2 (∑ l : Fin 128, k (ix3 0 j l) * (q (ix3 0 r l) * scale)) := by
  pointwise [step]
  rfl

/-- The finalized block at an index: the accumulator's row times the reciprocal of the normaliser's row. -/
theorem fin_apply (a : Vec Ideal S1x128x512 .f32) (r : Fin 512) (d : Fin 64) :
    k0_pay416 a (ix3 0 r d) = a (ix3 0 ⟨d.val, by omega⟩ r) * Ideal.div 1 (a (ix3 0 64 r)) := by
  pointwise [k0_pay416]

/-- Lane `l` of head `h`. -/
abbrev lane (h : Fin 4) (l : Fin 128) : Fin 512 := ⟨128 * h.val + l.val, by omega⟩

section
variable (x0 : Vec Ideal S1x512x512 .f32) (x1 x2 : Vec Ideal S1x8192x512 .bf16)

/-- The weighted value of key `t` in lane `d` of head `h` for query row `r`. -/
def term (h : Fin 4) (d : Fin 128) (r : Fin 512) (t : Fin 8192) : EReal :=
  x2 (ix3 0 t (lane h d)) * Ideal.exp2 (∑ l : Fin 128, x1 (ix3 0 t (lane h l)) * (x0 (ix3 0 r (lane h l)) * scale))

/-- The same, at any natural number. -/
def termN (h : Fin 4) (d : Fin 128) (r : Fin 512) (t : ℕ) : EReal :=
  if ht : t < 8192 then term x0 x1 x2 h d r ⟨t, ht⟩ else 0

/-- The accumulator of head `h` after `n` chunks sums the keys of those chunks. -/
theorem acc_apply (h : Fin 4) (d : Fin 128) (r : Fin 512) (n : ℕ) (hn : n ≤ 32) :
    acc x0 x1 x2 h.val h.isLt n (ix3 0 d r) = ∑ t ∈ Finset.range (256 * n), termN x0 x1 x2 h d r t := by
  induction n with
  | zero =>
    show Ideal.ofBits .f32 0x00000000#32 = _
    simp
  | succ n ih =>
    rw [Nat.mul_succ, Finset.sum_range_add, ← ih (by omega)]
    refine (step_apply _ _ _ _ d r).trans ?_
    refine congrArg _ ?_
    rw [Finset.sum_range]
    refine Finset.sum_congr rfl fun j _ => ?_
    have hj : 256 * n + j.val < 8192 := by have := j.isLt; omega
    unfold termN
    rw [dif_pos hj]
    unfold term
    have hnn : n % 32 = n := Nat.mod_eq_of_lt (by omega)
    have e (l : Fin 128) : (kRect (n % 32) h.val (Nat.mod_lt _ (by decide)) h.isLt).idx (ix3 0 j l) = ix3 0 ⟨256 * n + j.val, hj⟩ (lane h l) := by
      funext a; apply Fin.ext
      match a with
      | ⟨0, _⟩ => rfl
      | ⟨1, _⟩ => show 256 * (n % 32) + 1 * j.val = _; rw [hnn, one_mul]; rfl
      | ⟨2, _⟩ => show 128 * h.val + 1 * l.val = _; rw [one_mul]; rfl
    have e0 (l : Fin 128) : (qRect h.val h.isLt).idx (ix3 0 r l) = ix3 0 r (lane h l) := by
      funext a; apply Fin.ext
      match a with
      | ⟨0, _⟩ => rfl
      | ⟨1, _⟩ => show 0 + 1 * r.val = _; rw [one_mul, zero_add]; rfl
      | ⟨2, _⟩ => show 128 * h.val + 1 * l.val = _; rw [one_mul]; rfl
    refine congrArg₂ (· * ·) (congrArg x2 (e d)) (congrArg Ideal.exp2 (Finset.sum_congr rfl fun l _ => ?_))
    exact congrArg₂ (· * ·) (congrArg x1 (e l)) (congrArg (· * scale) (congrArg x0 (e0 l)))

/-- One grid point's output block: for each head and lane the weighted sum over all keys, times the reciprocal of the sum in
    lane 64. -/
theorem blockOut_apply (h : Fin 4) (d : Fin 64) (r : Fin 512) :
    blockOut x0 x1 x2 (ix3 0 r ⟨64 * h.val + d.val, by omega⟩)
      = (∑ t : Fin 8192, term x0 x1 x2 h ⟨d.val, by omega⟩ r t) * Ideal.div 1 (∑ t : Fin 8192, term x0 x1 x2 h 64 r t) := by
  have key : ∀ (h' : ℕ) (hh' : h' < 4) (d' : Fin 64), h' = h.val → d' = d →
      k0_pay416 (acc x0 x1 x2 h' hh' 32) (ix3 0 r d') = k0_pay416 (acc x0 x1 x2 h.val h.isLt 32) (ix3 0 r d) := by
    intro h' hh' d' e e'; subst e e'; rfl
  refine (key _ _ _ (by show (64 * h.val + d.val) / 64 = _; omega) (Fin.ext (by show (64 * h.val + d.val) % 64 = _; omega))).trans ?_
  rw [fin_apply, acc_apply _ _ _ _ _ _ _ (le_refl _), acc_apply _ _ _ _ _ _ _ (le_refl _)]
  simp only [Nat.reduceMul, Finset.sum_range, termN, Fin.is_lt, dite_true, Fin.eta]
end

end Cert.KernelIdeal.Mla
-- ==== Proof.MlaArray.lean ====
/- The attention kernel's result array after the run, as a formula over the arrays its windows read. -/
module

public import proofs.«01_k».proof.Proof.MlaValue

@[expose] public section

set_option maxRecDepth 16384

noncomputable section

namespace Cert.KernelIdeal.Mla

open Cert.KernelIdeal Cert.KernelIdeal.Gen Idealize.ShloMosaic Idealize.ShloMosaic.TcCoe Idealize.SL.Sem
open scoped BigOperators

/-- The windows' block indices: the grid is (batch, query tile). -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0] ∧ t.val / 16 < 4 :=
  (by decide +kernel : ∀ t : Fin grid0.N, _)

/-- The unnormalised attention value: lane `d` of head `h` of batch `b`, query `r`, summed over all keys. -/
def wsum (Q : FVec Ideal S4x8192x512 .f32) (K W : FVec Ideal S4x8192x512 .bf16) (b : Fin 4) (h : Fin 4) (d : Fin 128) (r : Fin 8192) : EReal :=
  ∑ t : Fin 8192, W (ix3 b t (lane h d)) * Ideal.exp2 (∑ l : Fin 128, K (ix3 b t (lane h l)) * (Q (ix3 b r (lane h l)) * scale))

/-- The result array: each head's lanes are its unnormalised values times the reciprocal of its lane 64. -/
def result (Q : FVec Ideal S4x8192x512 .f32) (K W : FVec Ideal S4x8192x512 .bf16) : FVec Ideal S4x8192x256 .bf16 := fun i =>
  wsum Q K W ((i 0).cast rfl) ⟨(i 2).val / 64, Nat.div_lt_of_lt_mul (i 2).isLt⟩
      ⟨(i 2).val % 64, Nat.lt_trans (Nat.mod_lt _ (by decide)) (by decide)⟩ ((i 1).cast rfl)
    * Ideal.div 1 (wsum Q K W ((i 0).cast rfl) ⟨(i 2).val / 64, Nat.div_lt_of_lt_mul (i 2).isLt⟩ 64 ((i 1).cast rfl))

/-- The result array at a head's lane. -/
theorem result_apply (Q : FVec Ideal S4x8192x512 .f32) (K W : FVec Ideal S4x8192x512 .bf16) (b : Fin 4) (R : Fin 8192) (h : Fin 4) (d : Fin 64) (e : Fin 256)
    (he : e.val = 64 * h.val + d.val) :
    result Q K W (ix3 b R e) = wsum Q K W b h ⟨d.val, by omega⟩ R * Ideal.div 1 (wsum Q K W b h 64 R) := by
  have key : ∀ (h' : Fin 4) (d' : Fin 128), h' = h → d' = ⟨d.val, by omega⟩ →
      wsum Q K W b h' d' R * Ideal.div 1 (wsum Q K W b h' 64 R)
        = wsum Q K W b h ⟨d.val, by omega⟩ R * Ideal.div 1 (wsum Q K W b h 64 R) := by
    intro h' d' e1 e2; rw [e1, e2]
  exact key _ _ (Fin.ext (by show e.val / 64 = h.val; omega)) (Fin.ext (by show e.val % 64 = d.val; omega))

/-- The block's weighted sum is the array's. -/
theorem sum_eq (x0 : Vec Ideal S1x512x512 .f32) (x1 x2 : Vec Ideal S1x8192x512 .bf16) (Q : FVec Ideal S4x8192x512 .f32) (K W : FVec Ideal S4x8192x512 .bf16)
    (b : Fin 4) (r : Fin 512) (R : Fin 8192) (h : Fin 4) (d : Fin 128)
    (h0 : ∀ l, x0 (ix3 0 r l) = Q (ix3 b R l)) (h1 : ∀ t l, x1 (ix3 0 t l) = K (ix3 b t l)) (h2 : ∀ t l, x2 (ix3 0 t l) = W (ix3 b t l)) :
    (∑ k : Fin 8192, term x0 x1 x2 h d r k) = wsum Q K W b h d R :=
  Finset.sum_congr rfl fun k _ => congrArg₂ (· * ·) (h2 k _) (congrArg Ideal.exp2 (Finset.sum_congr rfl fun l _ =>
    congrArg₂ (· * ·) (h1 k _) (congrArg (· * scale) (h0 _))))

/-- One grid point's block is the array's result on its rows. -/
theorem block_eq (x0 : Vec Ideal S1x512x512 .f32) (x1 x2 : Vec Ideal S1x8192x512 .bf16) (Q : FVec Ideal S4x8192x512 .f32)
    (K W : FVec Ideal S4x8192x512 .bf16) (b : Fin 4) (r : Fin 512) (R : Fin 8192) (h : Fin 4) (d : Fin 64)
    (h0 : ∀ l, x0 (ix3 0 r l) = Q (ix3 b R l)) (h1 : ∀ t l, x1 (ix3 0 t l) = K (ix3 b t l)) (h2 : ∀ t l, x2 (ix3 0 t l) = W (ix3 b t l)) :
    blockOut x0 x1 x2 (ix3 0 r ⟨64 * h.val + d.val, by omega⟩) = result Q K W (ix3 b R ⟨64 * h.val + d.val, by omega⟩) :=
  (blockOut_apply x0 x1 x2 h d r).trans ((congrArg₂ (fun u v : EReal => u * Ideal.div 1 v)
    (sum_eq x0 x1 x2 Q K W b r R h ⟨d.val, by omega⟩ h0 h1 h2) (sum_eq x0 x1 x2 Q K W b r R h 64 h0 h1 h2)).trans
    (result_apply Q K W b R h d _ rfl).symm)

/-- The query window's block at a grid point: rows of its batch and tile. -/
theorem read0 (A : FVec Ideal S4x8192x512 .f32) (t : Fin cfg0.N) (ht : t.val / 16 < 4) (r l : Fin 512) :
    ((cfg0.win 0).blk t).view.read (Elt Ideal) A (ix3 0 r l)
      = A (ix3 (⟨t.val / 16, ht⟩ : Fin 4) (⟨t.val % 16 * 512 + r.val, by omega⟩ : Fin 8192) l) :=
  have e : ((cfg0.win 0).blk t).view.emb (ix3 0 r l)
      = ix3 (⟨t.val / 16, ht⟩ : Fin 4) (⟨t.val % 16 * 512 + r.val, by omega⟩ : Fin 8192) l := by
    blk_ext [(idx t).1]
  congrArg A e

/-- The key window's block at a grid point: all rows of its batch. -/
theorem read1 (A : FVec Ideal S4x8192x512 .bf16) (t : Fin cfg0.N) (ht : t.val / 16 < 4) (k : Fin 8192) (l : Fin 512) :
    ((cfg0.win 1).blk t).view.read (Elt Ideal) A (ix3 0 k l) = A (ix3 (⟨t.val / 16, ht⟩ : Fin 4) k l) :=
  have e : ((cfg0.win 1).blk t).view.emb (ix3 0 k l) = ix3 (⟨t.val / 16, ht⟩ : Fin 4) k l := by
    blk_ext [(idx t).2.1]
  congrArg A e

/-- The value window's block at a grid point: all rows of its batch. -/
theorem read2 (A : FVec Ideal S4x8192x512 .bf16) (t : Fin cfg0.N) (ht : t.val / 16 < 4) (k : Fin 8192) (l : Fin 512) :
    ((cfg0.win 2).blk t).view.read (Elt Ideal) A (ix3 0 k l) = A (ix3 (⟨t.val / 16, ht⟩ : Fin 4) k l) :=
  have e : ((cfg0.win 2).blk t).view.emb (ix3 0 k l) = ix3 (⟨t.val / 16, ht⟩ : Fin 4) k l := by
    blk_ext [(idx t).2.2.1]
  congrArg A e

/-- The result window's block at a grid point. -/
theorem emb3 (t : Fin cfg0.N) (ht : t.val / 16 < 4) (r : Fin 512) (e : Fin 256) :
    ((cfg0.win 3).blk t).view.emb (ix3 0 r e)
      = ix3 (⟨t.val / 16, ht⟩ : Fin 4) (⟨t.val % 16 * 512 + r.val, by omega⟩ : Fin 8192) e := by
  blk_ext [(idx t).2.2.2.1]

/-- One grid point's block, computed from the blocks of three arrays, is the block of their result. -/
theorem point (Q : FVec Ideal S4x8192x512 .f32) (K W : FVec Ideal S4x8192x512 .bf16) (t : Fin cfg0.N) (y : S1x512x256.Idx) :
    blockOut (F := Ideal) (((cfg0.win 0).blk t).view.read (Elt Ideal) Q) (((cfg0.win 1).blk t).view.read (Elt Ideal) K)
        (((cfg0.win 2).blk t).view.read (Elt Ideal) W) y
      = result Q K W (((cfg0.win 3).blk t).view.emb y) := by
  have ht := (idx t).2.2.2.2
  obtain ⟨u, r, e, rfl⟩ : ∃ (u : Fin 1) (r : Fin 512) (e : Fin 256), y = ix3 u r e := ⟨y 0, y 1, y 2, eq_ix3 y⟩
  obtain rfl : u = 0 := Subsingleton.elim _ _
  obtain ⟨h, d, rfl⟩ : ∃ (h : Fin 4) (d : Fin 64), e = ⟨64 * h.val + d.val, by omega⟩ :=
    ⟨⟨e.val / 64, by omega⟩, ⟨e.val % 64, by omega⟩, Fin.ext (by show e.val = 64 * (e.val / 64) + e.val % 64; omega)⟩
  exact (block_eq _ _ _ Q K W ⟨t.val / 16, ht⟩ r ⟨t.val % 16 * 512 + r.val, by omega⟩ h d
    (fun l => read0 Q t ht r l) (fun k l => read1 K t ht k l) (fun k l => read2 W t ht k l)).trans
    (congrArg (result Q K W) (emb3 t ht r _).symm)

variable (m : (ℓ : Loc nD τ sig) → Buf (Elt Ideal) ℓ)

/-- The result buffer after the run. -/
theorem final (c : Dev nD) : (dats m 0 c).arrAt 3 cfg0.N = result (V m c main_v1) (V m c main_v4) (V m c main_v9) := by
  refine (dats m 0 c).arrAt_eq_of_covers 3 _ (by decide +kernel) fun t _ y => ?_
  blk_simp
  rw [after0_3]
  unfold outsAt0
  rw [out_eq]
  exact point (V m c main_v1) (V m c main_v4) (V m c main_v9) t y

end Cert.KernelIdeal.Mla
-- ==== Proof.MlaHost.lean ====
/- The arrays the attention kernel's windows read, as the host code before it leaves them. -/
module

public import proofs.«01_k».proof.Proof.MlaArray
public import Idealize.ShloMosaic.Lib.Tactic.CleanTypes

@[expose] public section

set_option maxRecDepth 16384

noncomputable section

namespace Cert.KernelIdeal.Mla

open Cert.KernelIdeal Cert.KernelIdeal.Gen Idealize.ShloMosaic Idealize.ShloMosaic.TcCoe Idealize.SL.Sem
open scoped BigOperators

variable (m : (ℓ : Loc nD τ sig) → Buf (Elt Ideal) ℓ)

/-- The queries padded to 128 lanes. -/
def padQ (x : FVec Ideal S4x8192x4x96 .f32) : FVec Ideal S4x8192x512 .f32 :=
  shapeCast S4x8192x512 (pad S4x8192x4x128 ![0, 0, 0, 0] ![0, 0, 0, 32] ![0, 0, 0, 0] x
    (sitofp .f32 (constantI S_ 32 0#32) : FVec Ideal S_ .f32) pads_S4x8192x4x96_S4x8192x4x128_000_000_000_0320 h_S_ : FVec Ideal S4x8192x4x128 .f32)
    shapeCasts_S4x8192x4x128_S4x8192x512

/-- The values with a lane of ones, padded to 128 lanes. -/
def padV (x : FVec Ideal S4x8192x4x64 .f32) : FVec Ideal S4x8192x512 .bf16 :=
  truncf .bf16 (shapeCast S4x8192x512 (pad S4x8192x4x128 ![0, 0, 0, 0] ![0, 0, 0, 63] ![0, 0, 0, 0]
    (concatenate S4x8192x4x65 3 [⟨S4x8192x4x64, x⟩, ⟨S4x8192x4x1, (broadcastInDim S4x8192x4x1 ![] bcast_S_S4x8192x4x1
      (constant S_ .f32 0x3F800000#32 : FVec Ideal S_ .f32) : FVec Ideal S4x8192x4x1 .f32)⟩] concatenates_S4x8192x4x64_S4x8192x4x1_S4x8192x4x65_d3 : FVec Ideal S4x8192x4x65 .f32)
    (sitofp .f32 (constantI S_ 32 0#32) : FVec Ideal S_ .f32) pads_S4x8192x4x65_S4x8192x4x128_000_000_000_0630 h_S_ : FVec Ideal S4x8192x4x128 .f32)
    shapeCasts_S4x8192x4x128_S4x8192x512 : FVec Ideal S4x8192x512 .f32) bitsLt_bf16_f32

/-- The query window's array. -/
theorem V1 (c : Dev nD) : V m c main_v1 = padQ (m ((c : Thread nD τ).loc main_arg0)) := by
  unfold V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  rfl

/-- The key window's array. -/
theorem V4 (c : Dev nD) : V m c main_v4 = (truncf .bf16 (padQ (m ((c : Thread nD τ).loc main_arg1))) bitsLt_bf16_f32 : FVec Ideal S4x8192x512 .bf16) := by
  unfold V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  rfl

/-- The value window's array. -/
theorem V9 (c : Dev nD) : V m c main_v9 = padV (m ((c : Thread nD τ).loc main_arg2)) := by
  unfold V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  rfl

/-- The integer zero converts to zero. -/
theorem sitofp_zero : (FloatOps.sitofp FTy.f32 0#32 : Ideal .f32) = (0 : EReal) := by
  show ((((0#32).toInt : ℝ)) : EReal) = 0
  norm_num

/-- The padded queries (or keys) at a lane: the head's component, or zero beyond its 96. -/
theorem padQ_apply (x : FVec Ideal S4x8192x4x96 .f32) (b : Fin 4) (s : Fin 8192) (h : Fin 4) (l : Fin 128) :
    padQ x (ix3 b s (lane h l)) = if hl : l.val < 96 then x (ix4 b s h ⟨l.val, hl⟩) else 0 := by
  have e1 : (128 * h.val + l.val) / 128 = h.val := by omega
  have e2 : (128 * h.val + l.val) % 128 = l.val := by omega
  pointwise [padQ]
  rw [sitofp_zero]
  by_cases hl : l.val < 96
  · rw [dif_pos ⟨by omega, by omega⟩, dif_pos hl]
    exact congrArg x (congrArg₂ (ix4 b s) (Fin.ext e1) (Fin.ext e2))
  · rw [dif_neg (by omega), dif_neg hl]

/-- The padded values at a lane below 64: the head's component. -/
theorem padV_apply (x : FVec Ideal S4x8192x4x64 .f32) (b : Fin 4) (s : Fin 8192) (h : Fin 4) (l : Fin 64) :
    padV x (ix3 b s (lane h ⟨l.val, by omega⟩)) = x (ix4 b s h l) := by
  have e1 : (128 * h.val + l.val) / 128 = h.val := by omega
  have e2 : (128 * h.val + l.val) % 128 = l.val := by omega
  pointwise [padV]
  rw [dif_pos ⟨by omega, by omega⟩, dif_pos (by omega)]
  exact congrArg x (congrArg₂ (ix4 b s) (Fin.ext e1) (Fin.ext e2))

/-- The padded values in lane 64: one. -/
theorem padV_one (x : FVec Ideal S4x8192x4x64 .f32) (b : Fin 4) (s : Fin 8192) (h : Fin 4) :
    padV x (ix3 b s (lane h 64)) = 1 := by
  pointwise [padV]
  rw [dif_pos ⟨by omega, by omega⟩, dif_neg (by omega)]

end Cert.KernelIdeal.Mla
-- ==== Proof.MlaRef.lean ====
/- The attention reference, read at an index: softmax of the scaled products of queries and keys, times the values. -/
module

public import proofs.«01_k».proof.Proof.Gen.ReferenceIdeal.Run
public import proofs.«01_k».proof.Proof.Gen.ReferenceIdeal
public import Idealize.ShloMosaic.Lib.Pointwise

@[expose] public section

set_option maxRecDepth 16384

noncomputable section

namespace Cert.ReferenceIdeal.Mla

open Cert.ReferenceIdeal Cert.ReferenceIdeal.Gen Idealize.ShloMosaic Idealize.SL.Sem
open scoped BigOperators

/-- The scores: products of queries and keys over the square root of 96. -/
def scores (q k : FVec Ideal S4x8192x4x96 .f32) : FVec Ideal S4x4x8192x8192 .f32 :=
  Host.divf (Host.dotGeneral dot_S4x8192x4x96_S4x8192x4x96_S4x4x8192x8192_3_3_1_1_02_02 none q k)
    (broadcastInDim S4x4x8192x8192 ![] bcast_S_S4x4x8192x8192 (Host.sqrt (constant S_ .f32 0x42C00000#32)))

/-- The largest score of each query. -/
def rmax (s : FVec Ideal S4x4x8192x8192 .f32) : FVec Ideal S4x4x8192 .f32 :=
  maximumf (broadcastInDim S4x4x8192 ![] bcast_S_S4x4x8192 (constant S_ .f32 0xFF800000#32))
    (Host.reduce FloatOps.maximumf s (constant S_ .f32 0xFF800000#32) reducesTo_S4x4x8192x8192_S4x4x8192_d3 h_S_)

/-- The exponentials of the scores less their query's largest. -/
def exps (s : FVec Ideal S4x4x8192x8192 .f32) : FVec Ideal S4x4x8192x8192 .f32 :=
  Host.exp (subf s (broadcastInDim S4x4x8192x8192 ![0, 1, 2, 3] bcast_S4x4x8192x1_S4x4x8192x8192_0_1_2_3
    (broadcastInDim S4x4x8192x1 ![0, 1, 2] bcast_S4x4x8192_S4x4x8192x1_0_1_2 (rmax s))))

/-- Each row divided by its sum. -/
def normed (e : FVec Ideal S4x4x8192x8192 .f32) : FVec Ideal S4x4x8192x8192 .f32 :=
  Host.divf e (broadcastInDim S4x4x8192x8192 ![0, 1, 2, 3] bcast_S4x4x8192x1_S4x4x8192x8192_0_1_2_3
    (broadcastInDim S4x4x8192x1 ![0, 1, 2] bcast_S4x4x8192_S4x4x8192x1_0_1_2
      (Host.reduceAdd e (constant S_ .f32 0x00000000#32) reducesTo_S4x4x8192x8192_S4x4x8192_d3 h_S_)))

/-- The weighted values, heads side by side. -/
def weighted (p : FVec Ideal S4x4x8192x8192 .f32) (v : FVec Ideal S4x8192x4x64 .f32) : FVec Ideal S4x8192x256 .bf16 :=
  truncf .bf16 (shapeCast S4x8192x256 (transpose S4x8192x4x64 [0, 3, 1, 2]
    (Host.dotGeneral dot_S4x8192x4x64_S4x4x8192x8192_S4x4x64x8192_1_3_3_2_02_01 none v p) transposes_S4x4x64x8192_S4x8192x4x64_0_3_1_2)
    shapeCasts_S4x8192x4x64_S4x8192x256) bitsLt_bf16_f32

/-- The reference's result. -/
def out (q k : FVec Ideal S4x8192x4x96 .f32) (v : FVec Ideal S4x8192x4x64 .f32) : FVec Ideal S4x8192x256 .bf16 :=
  weighted (normed (exps (scores q k))) v

/-- A score: a product over 96 components, divided by the square root of 96. -/
theorem scores_apply (q k : FVec Ideal S4x8192x4x96 .f32) (b h : Fin 4) (r t : Fin 8192) :
    scores q k (ix4 b h r t) = Ideal.div (∑ l : Fin 96, q (ix4 b r h l) * k (ix4 b t h l)) (Ideal.sqrt ((96 : ℝ) : EReal)) := by
  have e : (Ideal.ofBits FTy.f32 0x42C00000#32 : EReal) = ((96 : ℝ) : EReal) := by
    simp [Ideal.ofBits, Ideal.ieee, -EReal.coe_mul]; norm_num
  pointwise [scores]
  rw [e]

/-- The largest of finitely many real numbers, at least one, is a real number. -/
theorem fold_real {ι : Type} (S : Finset ι) (hne : S.Nonempty) (f : ι → EReal) (hf : ∀ i, ∃ x : ℝ, f i = (x : EReal)) :
    ∃ x : ℝ, S.fold max ⊥ f = (x : EReal) := by
  obtain ⟨i, _, hi⟩ := Finset.exists_mem_eq_sup S hne f
  obtain ⟨x, hx⟩ := hf i
  exact ⟨x, (show S.sup f = _ from hi.trans hx)⟩

/-- The pattern of negative infinity. -/
theorem ofBits_neg_inf : (Ideal.ofBits FTy.f32 0xFF800000#32 : EReal) = ⊥ := by simp [Ideal.ofBits, Ideal.ieee]

/-- The index a reduction over keys keeps. -/
theorem drop_key (j : S4x4x8192.Idx) : reducesTo_S4x4x8192x8192_S4x4x8192_d3.drop (ix4 (j 0) (j 1) (j 2) 0) = j := by
  funext a
  match a with
  | ⟨0, _⟩ => rfl
  | ⟨1, _⟩ => rfl
  | ⟨2, _⟩ => rfl

/-- The largest score as a fold. -/
theorem rmax_fold (s : FVec Ideal S4x4x8192x8192 .f32) (j : S4x4x8192.Idx) :
    Host.reduce FloatOps.maximumf s (constant S_ .f32 0xFF800000#32) reducesTo_S4x4x8192x8192_S4x4x8192_d3 h_S_ j
      = Finset.fold max (Ideal.ofBits FTy.f32 0xFF800000#32) s
        (Finset.univ.filter fun i => reducesTo_S4x4x8192x8192_S4x4x8192_d3.drop i = j) :=
  Host.reduce_eq_fold _ _ _ _ _ _

/-- The elementwise maximum read at an index. -/
theorem maximumf_at (a b : FVec Ideal S4x4x8192 .f32) (j : S4x4x8192.Idx) : maximumf a b j = max (a j) (b j) := rfl

/-- A scalar constant repeated, read at an index. -/
theorem neg_inf_at (j : S4x4x8192.Idx) : broadcastInDim S4x4x8192 ![] bcast_S_S4x4x8192
    (constant (F := Ideal) S_ .f32 0xFF800000#32) j = Ideal.ofBits FTy.f32 0xFF800000#32 := rfl

/-- Where every score is a real number, so is each query's largest. -/
theorem rmax_real (s : FVec Ideal S4x4x8192x8192 .f32) (hs : ∀ i, ∃ x : ℝ, s i = (x : EReal)) (j : S4x4x8192.Idx) :
    ∃ x : ℝ, rmax s j = (x : EReal) := by
  obtain ⟨x, hx⟩ := fold_real (Finset.univ.filter fun i => reducesTo_S4x4x8192x8192_S4x4x8192_d3.drop i = j)
    ⟨_, Finset.mem_filter.mpr ⟨Finset.mem_univ _, drop_key j⟩⟩ s hs
  unfold rmax
  rw [maximumf_at, rmax_fold, neg_inf_at, ofBits_neg_inf, hx]
  exact ⟨x, max_eq_right bot_le⟩

/-- An exponential of a score less the largest. -/
theorem exps_apply (s : FVec Ideal S4x4x8192x8192 .f32) (b h : Fin 4) (r t : Fin 8192) :
    exps s (ix4 b h r t) = Ideal.exp (s (ix4 b h r t) - rmax s (ix3 b h r)) := by
  pointwise [exps]

/-- A weight: an exponential over its row's sum. -/
theorem normed_apply (e : FVec Ideal S4x4x8192x8192 .f32) (b h : Fin 4) (r t : Fin 8192) :
    normed e (ix4 b h r t) = Ideal.div (e (ix4 b h r t)) (∑ u : Fin 8192, e (ix4 b h r u)) := by
  pointwise [normed]

/-- The result at a head's lane: the weights' sum of the values. -/
theorem weighted_apply (p : FVec Ideal S4x4x8192x8192 .f32) (v : FVec Ideal S4x8192x4x64 .f32) (b h : Fin 4) (r : Fin 8192) (d : Fin 64) :
    weighted p v (ix3 b r ⟨64 * h.val + d.val, by omega⟩) = ∑ t : Fin 8192, v (ix4 b t h d) * p (ix4 b h r t) := by
  pointwise [weighted]

/-- The reference's run ends with `out` of its arguments, and leaves them. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.Mla
-- ==== Proof.MlaMath.lean ====
/- The softmax identity over the extended reals: dividing once at the end, and subtracting no maximum, gives the same value. -/
module

public import Idealize.ShloMosaic.PureOps.Ideal
public import Mathlib.Algebra.BigOperators.Fin

@[expose] public section

noncomputable section

namespace Cert.Attention

open Idealize.ShloMosaic
open scoped BigOperators

/-- A finite sum of reals, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor passes into a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- Division of reals by a nonzero real. -/
theorem div_coe (x y : ℝ) (hy : y ≠ 0) : Ideal.div (x : EReal) (y : EReal) = ((x / y : ℝ) : EReal) := by
  have h : (y : EReal) ≠ 0 := by exact_mod_cast hy
  unfold Ideal.div
  rw [if_neg h, ← EReal.coe_inv, ← EReal.coe_mul, div_eq_mul_inv]

/-- Weights times exponentials, divided once by the sum of the exponentials, are the softmax weights' sum. -/
theorem softmax_eq {ι : Type} [Fintype ι] [Nonempty ι] (w : ι → EReal) (a : ι → ℝ) (M : ℝ) :
    (∑ t, w t * ((Real.exp (a t) : ℝ) : EReal)) * Ideal.div 1 (∑ t, 1 * ((Real.exp (a t) : ℝ) : EReal))
      = ∑ t, w t * Ideal.div (Ideal.exp ((a t : EReal) - (M : EReal))) (∑ u, Ideal.exp ((a u : EReal) - (M : EReal))) := by
  have hS : 0 < ∑ t, Real.exp (a t) := Finset.sum_pos (fun t _ => Real.exp_pos _) Finset.univ_nonempty
  have hT : 0 < ∑ t, Real.exp (a t - M) := Finset.sum_pos (fun t _ => Real.exp_pos _) Finset.univ_nonempty
  have hTS : ∑ t, Real.exp (a t - M) = (∑ t, Real.exp (a t)) / Real.exp M := by
    rw [Finset.sum_div]; exact Finset.sum_congr rfl fun t _ => Real.exp_sub _ _
  have he : ∀ t, Ideal.exp ((a t : EReal) - (M : EReal)) = ((Real.exp (a t - M) : ℝ) : EReal) := fun t => by
    rw [← EReal.coe_sub]; rfl
  have h1 : Ideal.div 1 (∑ t, 1 * ((Real.exp (a t) : ℝ) : EReal)) = ((1 / ∑ t, Real.exp (a t) : ℝ) : EReal) := by
    rw [Finset.sum_congr rfl fun t _ => one_mul _, coe_sum]
    exact div_coe 1 _ hS.ne'
  rw [h1, sum_mul_coe _ _ _ (by positivity)]
  refine Finset.sum_congr rfl fun t _ => ?_
  rw [Finset.sum_congr rfl fun u _ => he u, he, coe_sum, div_coe _ _ hT.ne', mul_assoc, ← EReal.coe_mul, hTS, Real.exp_sub]
  congr 2
  have := Real.exp_pos M
  field_simp

/-- A power of two of a score times the reciprocal of the natural logarithm of two is the exponential of the score. -/
theorem exp2_score (x : ℝ) : Ideal.exp2 (((x * (Real.log 2)⁻¹ : ℝ)) : EReal) = ((Real.exp x : ℝ) : EReal) := by
  show ((Real.rpow 2 (x * (Real.log 2)⁻¹) : ℝ) : EReal) = _
  have h2 : Real.log 2 ≠ 0 := (Real.log_pos one_lt_two).ne'
  congr 1
  show (2 : ℝ) ^ (x * (Real.log 2)⁻¹) = _
  rw [Real.rpow_def_of_pos two_pos]
  congr 1
  field_simp

/-- A dot product of vectors padded with zeros to `n + p` entries, one of them scaled, is the scaled dot product. -/
theorem padded_dot (n p : ℕ) (q k : Fin n → ℝ) (c : ℝ) :
    (∑ l : Fin (n + p), (if h : l.val < n then ((k ⟨l.val, h⟩ : ℝ) : EReal) else 0)
        * ((if h : l.val < n then ((q ⟨l.val, h⟩ : ℝ) : EReal) else 0) * (c : EReal)))
      = (((∑ l : Fin n, q l * k l) * c : ℝ) : EReal) := by
  rw [Fin.sum_univ_add, Finset.sum_eq_zero (s := (Finset.univ : Finset (Fin p))) (by intro l _; simp), add_zero, Finset.sum_mul, ← coe_sum]
  refine Finset.sum_congr rfl fun l _ => ?_
  simp only [Fin.val_castAdd, l.isLt, dif_pos, Fin.eta, ← EReal.coe_mul]
  congr 1
  ring

/-- An extended real whose absolute value is below the largest float's pattern of infinity is a real. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => simp at hlt
  | top => simp at hlt
  | coe r => exact ⟨r, rfl⟩

end Cert.Attention

end
-- ==== Proof.MlaEq.lean ====
/- The attention kernel's result is the reference's, when the queries and keys are real numbers. -/
module

public import proofs.«01_k».proof.Proof.MlaHost
public import proofs.«01_k».proof.Proof.MlaRef
public import proofs.«01_k».proof.Proof.MlaMath
public import proofs.«01_k».proof.Defs
public import proofs.«01_k».proof.Proof.Gen.Pre_finite
public import Idealize.ShloMosaic.Lib.ReduceAll

@[expose] public section

set_option maxRecDepth 16384

noncomputable section

namespace Cert.Mla

open Cert.KernelIdeal.Mla Cert.ReferenceIdeal.Mla Idealize.ShloMosaic Cert.Attention
open scoped BigOperators

abbrev A96 := FVec Ideal Cert.KernelIdeal.S4x8192x4x96 .f32
abbrev A64 := FVec Ideal Cert.KernelIdeal.S4x8192x4x64 .f32

/-- Under the precondition the queries and the keys are real numbers. -/
theorem real_of_pre [Cert.Pre_finite.Facts] (q k : A96) (v : A64)
    (h : Cert.Pre_finite.fn (F := Ideal) q k v = fun _ => 1#1) :
    (∀ i, ∃ r : ℝ, q i = r) ∧ ∀ i, ∃ r : ℝ, k i = r := by
  haveI : Subsingleton Cert.Pre_finite.S_.Idx := ⟨fun a b => funext fun i => i.elim0⟩
  have h0 := congrFun h (fun i : Fin 0 => i.elim0)
  obtain ⟨h1, h2⟩ := IntOp.andi_eq_one.mp h0
  exact ⟨fun i => real_of_abs_lt _ (Host.reduce_andi_all _ _ _ _ _ h1 i), fun i => real_of_abs_lt _ (Host.reduce_andi_all _ _ _ _ _ h2 i)⟩

/-- A scaled score of the kernel, raised to a power of two, is the exponential of the reference's score. -/
theorem exp2_eq (q k : A96) (rq rk : Cert.KernelIdeal.S4x8192x4x96.Idx → ℝ) (hq : ∀ i, q i = rq i) (hk : ∀ i, k i = rk i)
    (b h : Fin 4) (r t : Fin 8192) :
    Ideal.exp2 (∑ l : Fin 128, padQ k (ix3 b t (lane h l)) * (padQ q (ix3 b r (lane h l)) * scale))
      = ((Real.exp ((∑ l : Fin 96, rq (ix4 b r h l) * rk (ix4 b t h l)) / Real.sqrt 96) : ℝ) : EReal) := by
  have e := padded_dot 96 32 (fun l => rq (ix4 b r h l)) (fun l => rk (ix4 b t h l)) ((Real.sqrt 96)⁻¹ * (Real.log 2)⁻¹)
  rw [← exp2_score, div_eq_mul_inv, mul_assoc, ← e]
  refine congrArg Ideal.exp2 (Finset.sum_congr rfl fun l _ => ?_)
  rw [padQ_apply, padQ_apply]
  simp only [hq, hk]
  rfl

/-- The reference's score is a real. -/
theorem scores_eq (q k : A96) (rq rk : Cert.KernelIdeal.S4x8192x4x96.Idx → ℝ) (hq : ∀ i, q i = rq i) (hk : ∀ i, k i = rk i)
    (b h : Fin 4) (r t : Fin 8192) :
    scores q k (ix4 b h r t) = (((∑ l : Fin 96, rq (ix4 b r h l) * rk (ix4 b t h l)) / Real.sqrt 96 : ℝ) : EReal) := by
  have hs : Ideal.sqrt ((96 : ℝ) : EReal) = ((Real.sqrt 96 : ℝ) : EReal) := by
    show (if (96 : ℝ) < 0 then ⊥ else ((Real.sqrt 96 : ℝ) : EReal)) = _
    rw [if_neg (by norm_num)]
  rw [scores_apply, hs, ← div_coe _ _ (by positivity), ← coe_sum]
  refine congrArg (Ideal.div · _) (Finset.sum_congr rfl fun l _ => ?_)
  rw [hq, hk, EReal.coe_mul]

/-- The two result arrays are equal at every head's lane. -/
theorem result_eq_at (q k : A96) (v : A64) (rq rk : Cert.KernelIdeal.S4x8192x4x96.Idx → ℝ) (hq : ∀ i, q i = rq i) (hk : ∀ i, k i = rk i)
    (b h : Fin 4) (r : Fin 8192) (d : Fin 64) :
    result (padQ q) (padQ k) (padV v) (ix3 b r ⟨64 * h.val + d.val, by omega⟩) = out q k v (ix3 b r ⟨64 * h.val + d.val, by omega⟩) := by
  obtain ⟨M, hM⟩ := rmax_real (scores q k) (fun i => by
    obtain ⟨b, h, r, t, rfl⟩ : ∃ b h r t, i = ix4 b h r t := ⟨i 0, i 1, i 2, i 3, (ix4_eta _).symm⟩
    exact ⟨_, scores_eq q k rq rk hq hk b h r t⟩) (ix3 b h r)
  rw [result_apply _ _ _ b r h d _ rfl]
  unfold out wsum
  rw [weighted_apply]
  simp only [normed_apply, exps_apply, hM, scores_eq q k rq rk hq hk, exp2_eq q k rq rk hq hk, padV_apply, padV_one]
  exact softmax_eq _ _ M

/-- The two result arrays are equal. -/
theorem result_eq (q k : A96) (v : A64) (hq : ∀ i, ∃ r : ℝ, q i = r) (hk : ∀ i, ∃ r : ℝ, k i = r) :
    result (padQ q) (padQ k) (padV v) = out q k v := by
  choose rq hq using hq
  choose rk hk using hk
  funext i
  obtain ⟨b, r, e, rfl⟩ : ∃ b r e, i = ix3 b r e := ⟨i 0, i 1, i 2, (ix3_eta _).symm⟩
  have he : e = ⟨64 * (⟨e.val / 64, by omega⟩ : Fin 4).val + (⟨e.val % 64, Nat.mod_lt _ (by decide)⟩ : Fin 64).val, by simp only; omega⟩ :=
    Fin.ext (by simp only; omega)
  rw [he]
  exact result_eq_at q k v rq rk hq hk b _ r _

end Cert.Mla

end
-- ==== Proof.MergeRun.lean ====
/- What one grid point of the merge and feed-forward kernel computes, as a composition of named vector operations: the hidden
   row, the normalised branch, the four gated branches, the residual, and eleven steps of the feed-forward. -/
module

public import proofs.«01_k».proof.Proof.Gen.Kernel2Ideal.Value
public import Idealize.ShloMosaic.Lib.Pipeline.ValueKit

@[expose] public section

noncomputable section

namespace Cert.Kernel2Ideal.Merge

open Cert.Kernel2Ideal Cert.Kernel2Ideal.Gen Idealize.ShloMosaic Idealize.SL.Sem

variable {F : FTy → Type} [FloatOps F]

/-- Columns `256 n …` of the gate half of the feed-forward's first weight. -/
def gRect (n : ℕ) (hn : n < 11) : Rect S1024x5632 :=
  Rect.unit ![0, 256 * n] S1024x256.size (by intro a; fin_cases a <;> simp [Shape.size] <;> omega)

/-- Columns `2816 + 256 n …` of it: the other half. -/
def uRect (n : ℕ) (hn : n < 11) : Rect S1024x5632 :=
  Rect.unit ![0, 2816 + 256 * n] S1024x256.size (by intro a; fin_cases a <;> simp [Shape.size] <;> omega)

/-- Chunk `n` of the feed-forward's second weight. -/
def dRect (n : ℕ) (hn : n < 11) : Rect S11x256x1024 :=
  Rect.unit ![n, 0, 0] S1x256x1024.size (by intro a; fin_cases a <;> simp [Shape.size] <;> omega)

/-- Each row divided by its root mean square, times a gain. -/
def rmsV (x : FVec F S512x1024 .f32) (g : Vec F S1x1024 .f32) : FVec F S512x1024 .bf16 :=
  truncf .bf16 (mulf (mulf x (broadcastTo S512x1024 (rsqrt (addf (divf
      (shapeCast S512x1 (multiReduction .add [1] S512 (mulf x x) 0x00000000#32 reduces_S512x1024_S512 (.inl rfl) rfl) shapeCasts_S512_S512x1 : FVec F S512x1 .f32)
      (broadcast S512x1 (Scalar.ofBits .f32 0x44800000#32 : F .f32))) (broadcast S512x1 (Scalar.ofBits .f32 0x358637BD#32 : F .f32)))) broadcasts_S512x1_S512x1024))
    (broadcastTo S512x1024 (shapeCast S1x1024 g shapeCasts_S1x1024_S1x1024 : FVec F S1x1024 .f32) broadcasts_S1x1024_S512x1024)) bitsLt_bf16_f32

/-- The logistic gates of a block of rows for one branch. -/
def sigV (h : FVec F S512x1024 .bf16) (w : Vec F S1024x1024 .bf16) : FVec F S512x1024 .f32 :=
  divf (broadcast S512x1024 (Scalar.ofBits .f32 0x3F800000#32 : F .f32)) (addf (broadcast S512x1024 (Scalar.ofBits .f32 0x3F800000#32 : F .f32))
    (exp (subf (broadcast S512x1024 (Scalar.ofBits .f32 0x00000000#32 : F .f32))
      (matmul dot_S512x1024_S1024x1024_S512x1024_1_0_0_1_n_n none h (shapeCast S1024x1024 w shapeCasts_S1024x1024_S1024x1024 : FVec F S1024x1024 .bf16)
        (constant S512x1024 .f32 0x00000000#32)))))

/-- One gated branch. -/
def gateV (h : FVec F S512x1024 .bf16) (w : Vec F S1024x1024 .bf16) (o : FVec F S512x256 .bf16) (b : Vec F S256x1024 .bf16) : FVec F S512x1024 .f32 :=
  mulf (sigV h w) (matmul dot_S512x256_S256x1024_S512x1024_1_0_0_1_n_n none o (shapeCast S256x1024 b shapeCasts_S256x1024_S256x1024 : FVec F S256x1024 .bf16)
    (constant S512x1024 .f32 0x00000000#32))

/-- Rows plus projected rows. -/
def resV (x m : FVec F S512x1024 .f32) (w : Vec F S1024x1024 .bf16) : FVec F S512x1024 .f32 :=
  addf x (matmul dot_S512x1024_S1024x1024_S512x1024_1_0_0_1_n_n none (truncf .bf16 m bitsLt_bf16_f32)
    (shapeCast S1024x1024 w shapeCasts_S1024x1024_S1024x1024 : FVec F S1024x1024 .bf16) (constant S512x1024 .f32 0x00000000#32))

/-- A product of the rows with 256 columns of the feed-forward's first weight. -/
def upV (h : FVec F S512x1024 .bf16) (w : Vec F S1024x256 .bf16) : FVec F S512x256 .f32 :=
  matmul dot_S512x1024_S1024x256_S512x256_1_0_0_1_n_n none h (shapeCast S1024x256 w shapeCasts_S1024x256_S1024x256 : FVec F S1024x256 .bf16)
    (constant S512x256 .f32 0x00000000#32)

/-- 256 inner values of the feed-forward for each row. -/
def actV (h : FVec F S512x1024 .bf16) (wg wu : Vec F S1024x256 .bf16) : FVec F S512x256 .bf16 :=
  truncf .bf16 (mulf (mulf (upV h wg) (divf (broadcast S512x256 (Scalar.ofBits .f32 0x3F800000#32 : F .f32))
    (addf (broadcast S512x256 (Scalar.ofBits .f32 0x3F800000#32 : F .f32))
      (exp (subf (broadcast S512x256 (Scalar.ofBits .f32 0x00000000#32 : F .f32)) (upV h wg)))))) (upV h wu)) bitsLt_bf16_f32

/-- A chunk of inner values through the feed-forward's second weight, added to the rows. -/
def downV (acc : FVec F S512x1024 .f32) (a : FVec F S512x256 .bf16) (w : Vec F S1x256x1024 .bf16) : FVec F S512x1024 .f32 :=
  addf acc (matmul dot_S512x256_S256x1024_S512x1024_1_0_0_1_n_n none a (shapeCast S256x1024 w shapeCasts_S1x256x1024_S256x1024 : FVec F S256x1024 .bf16)
    (constant S512x1024 .f32 0x00000000#32))

/-- The rows after `n` chunks of the feed-forward. -/
def acc (x2 : FVec F S512x1024 .f32) (h : FVec F S512x1024 .bf16) (wgu : Vec F S1024x5632 .bf16) (wd : Vec F S11x256x1024 .bf16) : ℕ → FVec F S512x1024 .f32
  | 0 => x2
  | n + 1 => downV (acc x2 h wgu wd n) (actV h (View.ld wgu (gRect (n % 11) (Nat.mod_lt _ (by decide)))) (View.ld wgu (uRect (n % 11) (Nat.mod_lt _ (by decide)))))
      (View.ld wd (dRect (n % 11) (Nat.mod_lt _ (by decide))))

section
variable (x0 : Vec F S1x512x1024 .f32) (x1 : Vec F S1x512x256 .bf16) (x2 : Vec F S1x512x256 .bf16) (x3 : Vec F S1x512x256 .bf16) (x4 : Vec F S1x512x256 .bf16) (x5 : Vec F S1x512x256 .bf16) (x6 : Vec F S1x512x256 .bf16) (x7 : Vec F S1x1024 .f32) (x8 : Vec F S1024x4096 .bf16) (x9 : Vec F S256x1024 .bf16) (x10 : Vec F S256x1024 .bf16) (x11 : Vec F S256x1024 .bf16) (x12 : Vec F S256x1024 .bf16) (x13 : Vec F S1024x1024 .bf16) (x14 : Vec F S1x256 .f32) (x15 : Vec F S256x256 .bf16) (x16 : Vec F S1x1024 .f32) (x17 : Vec F S1024x5632 .bf16) (x18 : Vec F S11x256x1024 .bf16)

/-- The rows before the feed-forward. -/
def mid (x0 : Vec F S1x512x1024 .f32) (x1 x2 x3 x4 x5 x6 : Vec F S1x512x256 .bf16) (x7 : Vec F S1x1024 .f32) (x8 : Vec F S1024x4096 .bf16)
    (x9 x10 x11 x12 : Vec F S256x1024 .bf16) (x13 : Vec F S1024x1024 .bf16) (x14 : Vec F S1x256 .f32) (x15 : Vec F S256x256 .bf16) : FVec F S512x1024 .f32 :=
  resV (k0_pay2 (View.ld x0 r0_0))
    (addf (addf (addf (gateV (rmsV (k0_pay2 (View.ld x0 r0_0)) (View.ld x7 r0_1)) (View.ld x8 r0_5) (k0_pay6 (View.ld x1 r0_2)) (View.ld x9 r0_6))
        (gateV (rmsV (k0_pay2 (View.ld x0 r0_0)) (View.ld x7 r0_1)) (View.ld x8 r0_7) (k0_pay6 (View.ld x2 r0_2)) (View.ld x10 r0_6)))
        (gateV (rmsV (k0_pay2 (View.ld x0 r0_0)) (View.ld x7 r0_1)) (View.ld x8 r0_8) (k0_pay6 (View.ld x3 r0_2)) (View.ld x11 r0_6)))
      (gateV (rmsV (k0_pay2 (View.ld x0 r0_0)) (View.ld x7 r0_1)) (View.ld x8 r0_9)
        (k0_pay5 (k0_pay4 (View.ld x4 r0_2) (View.ld x5 r0_2) (View.ld x15 r0_3) (View.ld x14 r0_4)) (View.ld x6 r0_2)) (View.ld x12 r0_6)))
    (View.ld x13 r0_10)

/-- One grid point's output block. -/
def blockOut : FVec F S1x512x1024 .f32 :=
  shapeCast S1x512x1024 (acc (mid x0 x1 x2 x3 x4 x5 x6 x7 x8 x9 x10 x11 x12 x13 x14 x15)
    (rmsV (mid x0 x1 x2 x3 x4 x5 x6 x7 x8 x9 x10 x11 x12 x13 x14 x15) (View.ld x16 r0_1)) x17 x18 11) shapeCasts_S512x1024_S1x512x1024

/-- The rows the kernel keeps before the feed-forward. -/
theorem mid_eq : k0_pay12 (k0_pay27 x0 x1 x2 x3 x4 x5 x6 x7 x8 x9 x10 x11 x12 x13 x14 x15 x16 x17 x18) (k0_pay29 x0 x1 x2 x3 x4 x5 x6 x7 x8 x9 x10 x11 x12 x13 x14 x15 x16 x17 x18) (k0_pay30 x0 x1 x2 x3 x4 x5 x6 x7 x8 x9 x10 x11 x12 x13 x14 x15 x16 x17 x18) (k0_pay31 x0 x1 x2 x3 x4 x5 x6 x7 x8 x9 x10 x11 x12 x13 x14 x15 x16 x17 x18) (View.ld x12 r0_6) (View.ld x13 r0_10)
    = mid x0 x1 x2 x3 x4 x5 x6 x7 x8 x9 x10 x11 x12 x13 x14 x15 := by
  rfl

/-- The normalised rows the kernel keeps. -/
theorem hid_eq : k0_pay32 x0 x1 x2 x3 x4 x5 x6 x7 x8 x9 x10 x11 x12 x13 x14 x15 x16 x17 x18 = rmsV (mid x0 x1 x2 x3 x4 x5 x6 x7 x8 x9 x10 x11 x12 x13 x14 x15) (View.ld x16 r0_1) := by
  rfl

/-- What the kernel writes is `blockOut`. -/
theorem out_eq : out0_19 x0 x1 x2 x3 x4 x5 x6 x7 x8 x9 x10 x11 x12 x13 x14 x15 x16 x17 x18 = blockOut x0 x1 x2 x3 x4 x5 x6 x7 x8 x9 x10 x11 x12 x13 x14 x15 x16 x17 x18 := by
  unfold out0_19
  refine (View.canon_cons_unit_lit _ _ _ (by decide)).trans ?_
  rfl
end

end Cert.Kernel2Ideal.Merge
-- ==== Proof.MergeMath.lean ====
/- The merge and feed-forward of one row, as formulas over the extended reals, and the mean over a group of 64 lanes. -/
module

public import Idealize.ShloMosaic.PureOps.Ideal
public import Mathlib.Algebra.BigOperators.Fin
public import proofs.«01_k».proof.Proof.MlaMath

@[expose] public section

noncomputable section

namespace Cert.Merge

open Idealize.ShloMosaic
open scoped BigOperators

/-- The number added under the square root of a norm. -/
def eps : EReal := Ideal.ofBits .f32 0x358637BD#32

/-- The logistic function. -/
def logi (z : EReal) : EReal := Ideal.div 1 (1 + Ideal.exp (-z))

/-- The logistic function with its argument subtracted from zero. -/
theorem logi_sub (z : EReal) : Ideal.div 1 (1 + Ideal.exp (0 - z)) = logi z := by rw [zero_sub]; rfl

/-- A row of 1024 divided by its root mean square, times a gain. -/
def rms (x g : Fin 1024 → EReal) (j : Fin 1024) : EReal :=
  x j * Ideal.rsqrt (Ideal.div (∑ l, x l * x l) (Ideal.ofBits .f32 0x44800000#32) + eps) * g j

/-- A gate times one output of a branch's projection. -/
def gate (h w : Fin 1024 → EReal) (o b : Fin 256 → EReal) : EReal := logi (∑ l, h l * w l) * ∑ c, o c * b c

/-- Lane `d` of the group of 64 that lane `c` lies in. -/
abbrev mate (c : Fin 256) (d : Fin 64) : Fin 256 := ⟨64 * (c.val / 64) + d.val, by omega⟩

/-- Lane `c`'s place in its group. -/
abbrev place (c : Fin 256) : Fin 64 := ⟨c.val % 64, Nat.mod_lt _ (by decide)⟩

/-- Inner value `k` of the feed-forward's chunk `n`. -/
abbrev chunk (n : Fin 11) (k : Fin 256) : Fin 2816 := ⟨256 * n.val + k.val, by omega⟩

/-- Groups of 64 lanes, each divided by its root mean square, times a gain, times a gate. -/
def head (o : Fin 256 → EReal) (g : Fin 64 → EReal) (z : Fin 256 → EReal) (c : Fin 256) : EReal :=
  o c * Ideal.rsqrt (Ideal.div (∑ d, o (mate c d) * o (mate c d)) (Ideal.ofBits .f32 0x42800000#32) + eps) * g (place c) * logi (z c)

/-- The four gated branches, added. -/
def merged (h : Fin 1024 → EReal) (w : Fin 1024 → Fin 4096 → EReal) (o0 o1 o2 o3 : Fin 256 → EReal)
    (b0 b1 b2 b3 : Fin 256 → Fin 1024 → EReal) (j : Fin 1024) : EReal :=
  gate h (fun l => w l ⟨j.val, by omega⟩) o0 (fun c => b0 c j) + gate h (fun l => w l ⟨1024 + j.val, by omega⟩) o1 (fun c => b1 c j)
    + gate h (fun l => w l ⟨2048 + j.val, by omega⟩) o2 (fun c => b2 c j) + gate h (fun l => w l ⟨3072 + j.val, by omega⟩) o3 (fun c => b3 c j)

/-- A row plus a projected row. -/
def res (x m : Fin 1024 → EReal) (wo : Fin 1024 → Fin 1024 → EReal) (j : Fin 1024) : EReal := x j + ∑ l, m l * wo l j

/-- One inner value of the feed-forward. -/
def act (h wg wu : Fin 1024 → EReal) : EReal := (∑ l, h l * wg l) * logi (∑ l, h l * wg l) * ∑ l, h l * wu l

/-- The summand of the feed-forward's inner value `k` in output `j`. -/
def inner (h : Fin 1024 → EReal) (w : Fin 1024 → Fin 5632 → EReal) (wd : Fin 2816 → Fin 1024 → EReal) (j : Fin 1024) (k : Fin 2816) : EReal :=
  act h (fun l => w l ⟨k.val, by omega⟩) (fun l => w l ⟨2816 + k.val, by omega⟩) * wd k j

/-- One row of the result. -/
def row (x ln : Fin 1024 → EReal) (w : Fin 1024 → Fin 4096 → EReal) (o0 o1 o2 o3 : Fin 256 → EReal)
    (b0 b1 b2 b3 : Fin 256 → Fin 1024 → EReal) (wo : Fin 1024 → Fin 1024 → EReal) (lnf : Fin 1024 → EReal)
    (wgu : Fin 1024 → Fin 5632 → EReal) (wd : Fin 2816 → Fin 1024 → EReal) (j : Fin 1024) : EReal :=
  res x (merged (rms x ln) w o0 o1 o2 o3 b0 b1 b2 b3) wo j
    + ∑ k, inner (rms (res x (merged (rms x ln) w o0 o1 o2 o3 b0 b1 b2 b3) wo) lnf) wgu wd j k

/-- The pattern of 64. -/
theorem ofBits_64 : (Ideal.ofBits FTy.f32 0x42800000#32 : EReal) = ((64 : ℝ) : EReal) := by
  simp [Ideal.ofBits, Ideal.ieee, -EReal.coe_mul]; norm_num

/-- The pattern of one sixty-fourth. -/
theorem ofBits_inv64 : (Ideal.ofBits FTy.f32 0x3C800000#32 : EReal) = (((64 : ℝ)⁻¹ : ℝ) : EReal) := by
  simp [Ideal.ofBits, Ideal.ieee, -EReal.coe_mul]; norm_num

/-- A sum of products with a matrix that is one sixty-fourth within each group of 64 and zero elsewhere is the group's mean. -/
theorem group_mean (f G : Fin 256 → EReal) (c : Fin 256)
    (hG : ∀ i, G i = if i.val / 64 = c.val / 64 then (((64 : ℝ)⁻¹ : ℝ) : EReal) else 0) :
    (∑ i, f i * G i) = Ideal.div (∑ d, f (mate c d)) (Ideal.ofBits .f32 0x42800000#32) := by
  have e : ∀ i, f i * G i = if i.val / 64 = c.val / 64 then f i * (((64 : ℝ)⁻¹ : ℝ) : EReal) else 0 := fun i => by
    rw [hG]; split <;> simp
  rw [Finset.sum_congr rfl fun i _ => e i, ← Finset.sum_filter, ofBits_64]
  have h64 : ((64 : ℝ) : EReal) ≠ 0 := by norm_num
  unfold Ideal.div
  rw [if_neg h64, ← EReal.coe_inv, Cert.Attention.sum_mul_coe _ _ _ (by norm_num)]
  refine Finset.sum_bij' (fun i _ => place i) (fun d _ => mate c d) (fun _ _ => Finset.mem_univ _) ?_ ?_ ?_ ?_
  · intro d _
    refine Finset.mem_filter.mpr ⟨Finset.mem_univ _, ?_⟩
    show (64 * (c.val / 64) + d.val) / 64 = _
    omega
  · intro i hi
    have := (Finset.mem_filter.mp hi).2
    exact Fin.ext (by show 64 * (c.val / 64) + i.val % 64 = i.val; omega)
  · intro d _
    exact Fin.ext (by show (64 * (c.val / 64) + d.val) % 64 = d.val; omega)
  · intro i hi
    have := (Finset.mem_filter.mp hi).2
    refine congrArg (f · * _) (Fin.ext ?_)
    show i.val = 64 * (c.val / 64) + i.val % 64
    omega

end Cert.Merge

end
-- ==== Proof.MergeValue.lean ====
/- The merge and feed-forward kernel's output block, read at an index: each row is the row formula of its blocks' rows. -/
module

public import proofs.«01_k».proof.Proof.MergeRun
public import proofs.«01_k».proof.Proof.MergeMath
public import Idealize.ShloMosaic.Lib.Pointwise

@[expose] public section

set_option maxRecDepth 16384

noncomputable section

namespace Cert.Kernel2Ideal.Merge

open Cert.Kernel2Ideal Cert.Kernel2Ideal.Gen Idealize.ShloMosaic Idealize.SL.Sem Cert.Merge
open scoped BigOperators

/-- A normalised row at an index. -/
theorem rmsV_apply (x : FVec Ideal S512x1024 .f32) (g : Vec Ideal S1x1024 .f32) (r : Fin 512) (j : Fin 1024) :
    rmsV x g (ix2 r j) = rms (fun l => x (ix2 r l)) (fun l => g (ix2 0 l)) j := by
  pointwise [rmsV]
  rfl

/-- A gate at an index. -/
theorem sigV_apply (h : FVec Ideal S512x1024 .bf16) (w : Vec Ideal S1024x1024 .bf16) (r : Fin 512) (j : Fin 1024) :
    sigV h w (ix2 r j) = logi (∑ l : Fin 1024, h (ix2 r l) * w (ix2 l j)) := by
  pointwise [sigV]
  exact logi_sub _

/-- A gated branch at an index. -/
theorem gateV_apply (h : FVec Ideal S512x1024 .bf16) (w : Vec Ideal S1024x1024 .bf16) (o : FVec Ideal S512x256 .bf16) (b : Vec Ideal S256x1024 .bf16)
    (r : Fin 512) (j : Fin 1024) :
    gateV h w o b (ix2 r j) = gate (fun l => h (ix2 r l)) (fun l => w (ix2 l j)) (fun c => o (ix2 r c)) (fun c => b (ix2 c j)) := by
  pointwise [gateV]
  rw [sigV_apply]
  rfl

/-- Rows plus projected rows, at an index. -/
theorem resV_apply (x m : FVec Ideal S512x1024 .f32) (w : Vec Ideal S1024x1024 .bf16) (r : Fin 512) (j : Fin 1024) :
    resV x m w (ix2 r j) = res (fun l => x (ix2 r l)) (fun l => m (ix2 r l)) (fun l j => w (ix2 l j)) j := by
  pointwise [resV]
  rfl

/-- A product with the feed-forward's first weight, at an index. -/
theorem upV_apply (h : FVec Ideal S512x1024 .bf16) (w : Vec Ideal S1024x256 .bf16) (r : Fin 512) (k : Fin 256) :
    upV h w (ix2 r k) = ∑ l : Fin 1024, h (ix2 r l) * w (ix2 l k) := by
  pointwise [upV]

/-- An inner value at an index. -/
theorem actV_apply (h : FVec Ideal S512x1024 .bf16) (wg wu : Vec Ideal S1024x256 .bf16) (r : Fin 512) (k : Fin 256) :
    actV h wg wu (ix2 r k) = act (fun l => h (ix2 r l)) (fun l => wg (ix2 l k)) (fun l => wu (ix2 l k)) := by
  pointwise [actV]
  rw [upV_apply, upV_apply, logi_sub]
  rfl

/-- A chunk added to the rows, at an index. -/
theorem downV_apply (a : FVec Ideal S512x1024 .f32) (v : FVec Ideal S512x256 .bf16) (w : Vec Ideal S1x256x1024 .bf16) (r : Fin 512) (j : Fin 1024) :
    downV a v w (ix2 r j) = a (ix2 r j) + ∑ k : Fin 256, v (ix2 r k) * w (ix3 0 k j) := by
  pointwise [downV]

/-- The normalised branch at an index. -/
theorem head_apply (o1 o2 z : Vec Ideal S1x512x256 .bf16) (G : Vec Ideal S256x256 .bf16) (g : Vec Ideal S1x256 .f32) (g64 : Fin 64 → EReal)
    (hG : ∀ i c, G (ix2 i c) = if i.val / 64 = c.val / 64 then (((64 : ℝ)⁻¹ : ℝ) : EReal) else 0) (hg : ∀ c, g (ix2 0 c) = g64 (place c))
    (r : Fin 512) (c : Fin 256) :
    k0_pay5 (k0_pay4 o1 o2 G g) z (ix2 r c) = head (fun c => o1 (ix3 0 r c) + o2 (ix3 0 r c)) g64 (fun c => z (ix3 0 r c)) c := by
  pointwise [k0_pay5, k0_pay4]
  rw [hg, logi_sub, group_mean _ (fun x => G (ix2 x c)) c fun i => hG i c]
  rfl

/-- The block of rows at an index. -/
theorem pay2_apply (x : Vec Ideal S1x512x1024 .f32) (r : Fin 512) (j : Fin 1024) : k0_pay2 x (ix2 r j) = x (ix3 0 r j) := by
  pointwise [k0_pay2]

/-- A branch's block of rows at an index. -/
theorem pay6_apply (x : Vec Ideal S1x512x256 .bf16) (r : Fin 512) (c : Fin 256) : k0_pay6 x (ix2 r c) = x (ix3 0 r c) := by
  pointwise [k0_pay6]

/-- The gate weight's columns of the first branch. -/
theorem ld5 (w : Vec Ideal S1024x4096 .bf16) (l j : Fin 1024) : View.ld w r0_5 (ix2 l j) = w (ix2 l ⟨j.val, by omega⟩) :=
  View.ld_unit_apply_of _ _ _ _ _ _ fun a => by fin_cases a <;> simp [ix2]

/-- Its columns of the second branch. -/
theorem ld7 (w : Vec Ideal S1024x4096 .bf16) (l j : Fin 1024) : View.ld w r0_7 (ix2 l j) = w (ix2 l ⟨1024 + j.val, by omega⟩) :=
  View.ld_unit_apply_of _ _ _ _ _ _ fun a => by fin_cases a <;> simp [ix2]

/-- Its columns of the third branch. -/
theorem ld8 (w : Vec Ideal S1024x4096 .bf16) (l j : Fin 1024) : View.ld w r0_8 (ix2 l j) = w (ix2 l ⟨2048 + j.val, by omega⟩) :=
  View.ld_unit_apply_of _ _ _ _ _ _ fun a => by fin_cases a <;> simp [ix2]

/-- Its columns of the fourth branch. -/
theorem ld9 (w : Vec Ideal S1024x4096 .bf16) (l j : Fin 1024) : View.ld w r0_9 (ix2 l j) = w (ix2 l ⟨3072 + j.val, by omega⟩) :=
  View.ld_unit_apply_of _ _ _ _ _ _ fun a => by fin_cases a <;> simp [ix2]

/-- A chunk of the gate half of the feed-forward's first weight. -/
theorem ldg (w : Vec Ideal S1024x5632 .bf16) (n : ℕ) (hn : n < 11) (l : Fin 1024) (k : Fin 256) :
    View.ld w (gRect n hn) (ix2 l k) = w (ix2 l ⟨256 * n + k.val, by omega⟩) :=
  View.ld_unit_apply_of _ _ _ _ _ _ fun a => by fin_cases a <;> simp [ix2]

/-- A chunk of its other half. -/
theorem ldu (w : Vec Ideal S1024x5632 .bf16) (n : ℕ) (hn : n < 11) (l : Fin 1024) (k : Fin 256) :
    View.ld w (uRect n hn) (ix2 l k) = w (ix2 l ⟨2816 + (256 * n + k.val), by omega⟩) :=
  View.ld_unit_apply_of _ _ _ _ _ _ fun a => by fin_cases a <;> simp [ix2, Nat.add_assoc]

/-- A chunk of the feed-forward's second weight. -/
theorem ldd (w : Vec Ideal S11x256x1024 .bf16) (n : ℕ) (hn : n < 11) (k : Fin 256) (j : Fin 1024) :
    View.ld w (dRect n hn) (ix3 0 k j) = w (ix3 ⟨n, hn⟩ k j) :=
  View.ld_unit_apply_of _ _ _ _ _ _ fun a => by fin_cases a <;> simp [ix3]

/-- The feed-forward's summand at any natural number. -/
def innerN (h : Fin 1024 → EReal) (w : Fin 1024 → Fin 5632 → EReal) (wd : Fin 2816 → Fin 1024 → EReal) (j : Fin 1024) (k : ℕ) : EReal :=
  if hk : k < 2816 then inner h w wd j ⟨k, hk⟩ else 0

/-- The rows after `n` chunks: the inner values of those chunks are summed. -/
theorem acc_apply (a : FVec Ideal S512x1024 .f32) (h : FVec Ideal S512x1024 .bf16) (w : Vec Ideal S1024x5632 .bf16) (v : Vec Ideal S11x256x1024 .bf16)
    (wd : Fin 2816 → Fin 1024 → EReal) (hwd : ∀ (n : Fin 11) (k : Fin 256) (j : Fin 1024), v (ix3 n k j) = wd ⟨256 * n.val + k.val, by omega⟩ j)
    (r : Fin 512) (j : Fin 1024) (n : ℕ) (hn : n ≤ 11) :
    acc a h w v n (ix2 r j) = a (ix2 r j)
      + ∑ t ∈ Finset.range (256 * n), innerN (fun l => h (ix2 r l)) (fun l k => w (ix2 l k)) wd j t := by
  induction n with
  | zero => simp [acc]
  | succ n ih =>
    rw [Nat.mul_succ, Finset.sum_range_add, ← add_assoc, ← ih (by omega)]
    refine (downV_apply _ _ _ r j).trans ?_
    refine congrArg _ ?_
    rw [Finset.sum_range]
    refine Finset.sum_congr rfl fun k _ => ?_
    have hk : 256 * n + k.val < 2816 := by have := k.isLt; omega
    unfold innerN
    rw [dif_pos hk]
    have hm : n % 11 = n := Nat.mod_eq_of_lt (by omega)
    unfold Merge.inner
    refine congrArg₂ (· * ·) ((actV_apply _ _ _ r k).trans ?_) ((ldd v (n % 11) _ k j).trans ?_)
    · refine congrArg₂ (act _) (funext fun l => (ldg w (n % 11) _ l k).trans ?_) (funext fun l => (ldu w (n % 11) _ l k).trans ?_)
      · exact congrArg (fun i => w (ix2 l i)) (Fin.ext (by show 256 * (n % 11) + k.val = _; rw [hm]))
      · exact congrArg (fun i => w (ix2 l i)) (Fin.ext (by show 2816 + (256 * (n % 11) + k.val) = _; rw [hm]))
    · rw [hwd]
      exact congrArg (fun i => wd i j) (Fin.ext (by show 256 * (n % 11) + k.val = _; rw [hm]))

section
variable (x0 : Vec Ideal S1x512x1024 .f32) (x1 x2 x3 x4 x5 x6 : Vec Ideal S1x512x256 .bf16) (x7 : Vec Ideal S1x1024 .f32) (x8 : Vec Ideal S1024x4096 .bf16)
  (x9 x10 x11 x12 : Vec Ideal S256x1024 .bf16) (x13 : Vec Ideal S1024x1024 .bf16) (x14 : Vec Ideal S1x256 .f32) (x15 : Vec Ideal S256x256 .bf16)
  (x16 : Vec Ideal S1x1024 .f32) (x17 : Vec Ideal S1024x5632 .bf16) (x18 : Vec Ideal S11x256x1024 .bf16)
  (g : Fin 64 → EReal) (wd : Fin 2816 → Fin 1024 → EReal)
  (hG : ∀ i c, x15 (ix2 i c) = if i.val / 64 = c.val / 64 then (((64 : ℝ)⁻¹ : ℝ) : EReal) else 0) (hg : ∀ c, x14 (ix2 0 c) = g (place c))
  (hwd : ∀ (n : Fin 11) (k : Fin 256) (j : Fin 1024), x18 (ix3 n k j) = wd ⟨256 * n.val + k.val, by omega⟩ j)

include hG hg in
/-- The rows before the feed-forward, at an index. -/
theorem mid_apply (r : Fin 512) (j : Fin 1024) : mid x0 x1 x2 x3 x4 x5 x6 x7 x8 x9 x10 x11 x12 x13 x14 x15 (ix2 r j)
    = res (fun l => x0 (ix3 0 r l)) (merged (rms (fun l => x0 (ix3 0 r l)) (fun l => x7 (ix2 0 l))) (fun l k => x8 (ix2 l k))
        (fun c => x1 (ix3 0 r c)) (fun c => x2 (ix3 0 r c)) (fun c => x3 (ix3 0 r c))
        (head (fun c => x4 (ix3 0 r c) + x5 (ix3 0 r c)) g (fun c => x6 (ix3 0 r c)))
        (fun c j => x9 (ix2 c j)) (fun c j => x10 (ix2 c j)) (fun c j => x11 (ix2 c j)) (fun c j => x12 (ix2 c j))) (fun l j => x13 (ix2 l j)) j := by
  have w0 (x : Vec Ideal S1x512x1024 .f32) : View.ld x r0_0 = x := View.ld_unit_lit _ _ (by decide)
  have w1 (x : Vec Ideal S1x1024 .f32) : View.ld x r0_1 = x := View.ld_unit_lit _ _ (by decide)
  have w2 (x : Vec Ideal S1x512x256 .bf16) : View.ld x r0_2 = x := View.ld_unit_lit _ _ (by decide)
  have w3 (x : Vec Ideal S256x256 .bf16) : View.ld x r0_3 = x := View.ld_unit_lit _ _ (by decide)
  have w4 (x : Vec Ideal S1x256 .f32) : View.ld x r0_4 = x := View.ld_unit_lit _ _ (by decide)
  have w6 (x : Vec Ideal S256x1024 .bf16) : View.ld x r0_6 = x := View.ld_unit_lit _ _ (by decide)
  have w10 (x : Vec Ideal S1024x1024 .bf16) : View.ld x r0_10 = x := View.ld_unit_lit _ _ (by decide)
  have ha (a b : FVec Ideal S512x1024 .f32) (l : Fin 1024) : addf a b (ix2 r l) = a (ix2 r l) + b (ix2 r l) := rfl
  unfold mid
  rw [w0, w1, w2 x1, w2 x2, w2 x3, w2 x4, w2 x5, w2 x6, w3, w4, w6 x9, w6 x10, w6 x11, w6 x12, w10, resV_apply]
  simp only [ha, gateV_apply, rmsV_apply, pay2_apply, pay6_apply, head_apply x4 x5 x6 x15 x14 g hG hg]
  refine congrArg (fun m => res _ m _ j) (funext fun k => ?_)
  unfold merged
  exact congrArg₂ (· + ·) (congrArg₂ (· + ·) (congrArg₂ (· + ·)
    (congrArg (fun w => gate _ w _ _) (funext fun l => ld5 x8 l k)) (congrArg (fun w => gate _ w _ _) (funext fun l => ld7 x8 l k)))
    (congrArg (fun w => gate _ w _ _) (funext fun l => ld8 x8 l k))) (congrArg (fun w => gate _ w _ _) (funext fun l => ld9 x8 l k))

include hG hg hwd in
/-- One grid point's output block at an index: the row formula. -/
theorem blockOut_apply (r : Fin 512) (j : Fin 1024) :
    blockOut x0 x1 x2 x3 x4 x5 x6 x7 x8 x9 x10 x11 x12 x13 x14 x15 x16 x17 x18 (ix3 0 r j)
      = row (fun l => x0 (ix3 0 r l)) (fun l => x7 (ix2 0 l)) (fun l k => x8 (ix2 l k))
        (fun c => x1 (ix3 0 r c)) (fun c => x2 (ix3 0 r c)) (fun c => x3 (ix3 0 r c))
        (head (fun c => x4 (ix3 0 r c) + x5 (ix3 0 r c)) g (fun c => x6 (ix3 0 r c)))
        (fun c j => x9 (ix2 c j)) (fun c j => x10 (ix2 c j)) (fun c j => x11 (ix2 c j)) (fun c j => x12 (ix2 c j)) (fun l j => x13 (ix2 l j))
        (fun l => x16 (ix2 0 l)) (fun l k => x17 (ix2 l k)) wd j := by
  have w1 (x : Vec Ideal S1x1024 .f32) : View.ld x r0_1 = x := View.ld_unit_lit _ _ (by decide)
  have hs (y : FVec Ideal S512x1024 .f32) : shapeCast S1x512x1024 y shapeCasts_S512x1024_S1x512x1024 (ix3 0 r j) = y (ix2 r j) := by
    pointwise
  unfold blockOut
  rw [hs, acc_apply _ _ _ _ wd hwd r j 11 (le_refl _), w1]
  simp only [rmsV_apply, mid_apply x0 x1 x2 x3 x4 x5 x6 x7 x8 x9 x10 x11 x12 x13 x14 x15 g hG hg]
  simp only [Nat.reduceMul, Finset.sum_range, innerN, Fin.is_lt, dite_true, Fin.eta]
  rfl
end

end Cert.Kernel2Ideal.Merge
-- ==== Proof.MergeArray.lean ====
/- The merge and feed-forward kernel's result array after the run: every row is the row formula of the arrays its windows read. -/
module

public import proofs.«01_k».proof.Proof.MergeValue

@[expose] public section

set_option maxRecDepth 16384
set_option maxHeartbeats 4000000

noncomputable section

namespace Cert.Kernel2Ideal.Merge

open Cert.Kernel2Ideal Cert.Kernel2Ideal.Gen Idealize.ShloMosaic Idealize.ShloMosaic.TcCoe Idealize.SL.Sem Cert.Merge
open scoped BigOperators

/-- The block indices of the windows that move with the grid, which is (batch, row tile). -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![t.val / 16, t.val % 16, 0]
    ∧ win0_5.index t = ![t.val / 16, t.val % 16, 0] ∧ win0_6.index t = ![t.val / 16, t.val % 16, 0] ∧ win0_19.index t = ![t.val / 16, t.val % 16, 0]
    ∧ t.val / 16 < 4 :=
  (by decide +kernel : ∀ t : Fin grid0.N, _)

/-- The other windows hold their arrays whole. -/
theorem whole (t : Fin cfg0.N) : (∀ y : S1x1024.Idx, ((cfg0.win 7).blk t).view.emb y = y)
    ∧ (∀ y : S1024x4096.Idx, ((cfg0.win 8).blk t).view.emb y = y)
    ∧ (∀ y : S256x1024.Idx, ((cfg0.win 9).blk t).view.emb y = y)
    ∧ (∀ y : S256x1024.Idx, ((cfg0.win 10).blk t).view.emb y = y)
    ∧ (∀ y : S256x1024.Idx, ((cfg0.win 11).blk t).view.emb y = y)
    ∧ (∀ y : S256x1024.Idx, ((cfg0.win 12).blk t).view.emb y = y)
    ∧ (∀ y : S1024x1024.Idx, ((cfg0.win 13).blk t).view.emb y = y)
    ∧ (∀ y : S1x256.Idx, ((cfg0.win 14).blk t).view.emb y = y)
    ∧ (∀ y : S256x256.Idx, ((cfg0.win 15).blk t).view.emb y = y)
    ∧ (∀ y : S1x1024.Idx, ((cfg0.win 16).blk t).view.emb y = y)
    ∧ (∀ y : S1024x5632.Idx, ((cfg0.win 17).blk t).view.emb y = y)
    ∧ (∀ y : S11x256x1024.Idx, ((cfg0.win 18).blk t).view.emb y = y) := by
  refine ⟨?_, ?_, ?_, ?_, ?_, ?_, ?_, ?_, ?_, ?_, ?_, ?_⟩ <;>
    exact fun y => funext fun a => Fin.ext (by fin_cases a <;> (show 0 * _ + 1 * _ = _; omega))

/-- Row `r` of a moving window's block is a row of its batch and tile. -/
theorem rows (t : Fin cfg0.N) (ht : t.val / 16 < 4) (r : Fin 512) :
    (∀ l : Fin 1024, ((cfg0.win 0).blk t).view.emb (ix3 0 r l) = ix3 (⟨t.val / 16, ht⟩ : Fin 4) (⟨t.val % 16 * 512 + r.val, by omega⟩ : Fin 8192) l)
    ∧ (∀ l : Fin 256, ((cfg0.win 1).blk t).view.emb (ix3 0 r l) = ix3 (⟨t.val / 16, ht⟩ : Fin 4) (⟨t.val % 16 * 512 + r.val, by omega⟩ : Fin 8192) l)
    ∧ (∀ l : Fin 256, ((cfg0.win 2).blk t).view.emb (ix3 0 r l) = ix3 (⟨t.val / 16, ht⟩ : Fin 4) (⟨t.val % 16 * 512 + r.val, by omega⟩ : Fin 8192) l)
    ∧ (∀ l : Fin 256, ((cfg0.win 3).blk t).view.emb (ix3 0 r l) = ix3 (⟨t.val / 16, ht⟩ : Fin 4) (⟨t.val % 16 * 512 + r.val, by omega⟩ : Fin 8192) l)
    ∧ (∀ l : Fin 256, ((cfg0.win 4).blk t).view.emb (ix3 0 r l) = ix3 (⟨t.val / 16, ht⟩ : Fin 4) (⟨t.val % 16 * 512 + r.val, by omega⟩ : Fin 8192) l)
    ∧ (∀ l : Fin 256, ((cfg0.win 5).blk t).view.emb (ix3 0 r l) = ix3 (⟨t.val / 16, ht⟩ : Fin 4) (⟨t.val % 16 * 512 + r.val, by omega⟩ : Fin 8192) l)
    ∧ (∀ l : Fin 256, ((cfg0.win 6).blk t).view.emb (ix3 0 r l) = ix3 (⟨t.val / 16, ht⟩ : Fin 4) (⟨t.val % 16 * 512 + r.val, by omega⟩ : Fin 8192) l)
    ∧ (∀ l : Fin 1024, ((cfg0.win 19).blk t).view.emb (ix3 0 r l) = ix3 (⟨t.val / 16, ht⟩ : Fin 4) (⟨t.val % 16 * 512 + r.val, by omega⟩ : Fin 8192) l) := by
  obtain ⟨i0, i1, i2, i3, i4, i5, i6, i19, _⟩ := idx t
  refine ⟨fun l => ?_, fun l => ?_, fun l => ?_, fun l => ?_, fun l => ?_, fun l => ?_, fun l => ?_, fun l => ?_⟩
  · blk_ext [i0]
  · blk_ext [i1]
  · blk_ext [i2]
  · blk_ext [i3]
  · blk_ext [i4]
  · blk_ext [i5]
  · blk_ext [i6]
  · blk_ext [i19]

section
variable (A0 : FVec Ideal S4x8192x1024 .f32) (A1 A2 A3 A4 A5 A6 : FVec Ideal S4x8192x256 .bf16) (A7 : FVec Ideal S1x1024 .f32) (A8 : FVec Ideal S1024x4096 .bf16)
  (A9 A10 A11 A12 : FVec Ideal S256x1024 .bf16) (A13 : FVec Ideal S1024x1024 .bf16) (A14 : FVec Ideal S1x256 .f32) (A15 : FVec Ideal S256x256 .bf16)
  (A16 : FVec Ideal S1x1024 .f32) (A17 : FVec Ideal S1024x5632 .bf16) (A18 : FVec Ideal S11x256x1024 .bf16)
  (g : Fin 64 → EReal) (wd : Fin 2816 → Fin 1024 → EReal)

/-- Row `R` of batch `b` of the result. -/
def resultRow (b : Fin 4) (R : Fin 8192) : Fin 1024 → EReal :=
  row (fun l => A0 (ix3 b R l)) (fun l => A7 (ix2 0 l)) (fun l k => A8 (ix2 l k))
    (fun c => A1 (ix3 b R c)) (fun c => A2 (ix3 b R c)) (fun c => A3 (ix3 b R c))
    (head (fun c => A4 (ix3 b R c) + A5 (ix3 b R c)) g (fun c => A6 (ix3 b R c)))
    (fun c j => A9 (ix2 c j)) (fun c j => A10 (ix2 c j)) (fun c j => A11 (ix2 c j)) (fun c j => A12 (ix2 c j)) (fun l j => A13 (ix2 l j))
    (fun l => A16 (ix2 0 l)) (fun l k => A17 (ix2 l k)) wd

/-- The result array. -/
def result : FVec Ideal S4x8192x1024 .f32 := fun i =>
  resultRow A0 A1 A2 A3 A4 A5 A6 A7 A8 A9 A10 A11 A12 A13 A16 A17 g wd ((i 0).cast rfl) ((i 1).cast rfl) ((i 2).cast rfl)

variable (hG : ∀ i c, A15 (ix2 i c) = if i.val / 64 = c.val / 64 then (((64 : ℝ)⁻¹ : ℝ) : EReal) else 0) (hg : ∀ c, A14 (ix2 0 c) = g (place c))
  (hwd : ∀ (n : Fin 11) (k : Fin 256) (j : Fin 1024), A18 (ix3 n k j) = wd (chunk n k) j)

include hG hg hwd in
/-- One grid point's block, computed from the blocks of the arrays, is the block of their result. -/
theorem point (t : Fin cfg0.N) (y : S1x512x1024.Idx) :
    blockOut (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) (((cfg0.win 4).blk t).view.read (Elt Ideal) A4)
        (((cfg0.win 5).blk t).view.read (Elt Ideal) A5) (((cfg0.win 6).blk t).view.read (Elt Ideal) A6) (((cfg0.win 7).blk t).view.read (Elt Ideal) A7)
        (((cfg0.win 8).blk t).view.read (Elt Ideal) A8) (((cfg0.win 9).blk t).view.read (Elt Ideal) A9) (((cfg0.win 10).blk t).view.read (Elt Ideal) A10)
        (((cfg0.win 11).blk t).view.read (Elt Ideal) A11) (((cfg0.win 12).blk t).view.read (Elt Ideal) A12) (((cfg0.win 13).blk t).view.read (Elt Ideal) A13)
        (((cfg0.win 14).blk t).view.read (Elt Ideal) A14) (((cfg0.win 15).blk t).view.read (Elt Ideal) A15) (((cfg0.win 16).blk t).view.read (Elt Ideal) A16)
        (((cfg0.win 17).blk t).view.read (Elt Ideal) A17) (((cfg0.win 18).blk t).view.read (Elt Ideal) A18) y
      = result A0 A1 A2 A3 A4 A5 A6 A7 A8 A9 A10 A11 A12 A13 A16 A17 g wd (((cfg0.win 19).blk t).view.emb y) := by
  have ht : t.val / 16 < 4 := (idx t).2.2.2.2.2.2.2.2
  obtain ⟨u, r, j, rfl⟩ : ∃ (u : Fin 1) (r : Fin 512) (j : Fin 1024), y = ix3 u r j := ⟨y 0, y 1, y 2, eq_ix3 y⟩
  obtain rfl : u = 0 := Subsingleton.elim _ _
  have hR : t.val % 16 * 512 + r.val < 8192 := by omega
  obtain ⟨e0, e1, e2, e3, e4, e5, e6, e19⟩ := rows t ht r
  obtain ⟨e7, e8, e9, e10, e11, e12, e13, e14, e15, e16, e17, e18⟩ := whole t
  refine (blockOut_apply _ _ _ _ _ _ _ _ _ _ _ _ _ _ _ _ _ _ _ g wd (fun i c => (congrArg A15 (e15 (ix2 i c))).trans (hG i c))
    (fun c => (congrArg A14 (e14 (ix2 0 c))).trans (hg c)) (fun n k j => (congrArg A18 (e18 (ix3 n k j))).trans (hwd n k j)) r j).trans ?_
  rw [e19]
  show _ = resultRow A0 A1 A2 A3 A4 A5 A6 A7 A8 A9 A10 A11 A12 A13 A16 A17 g wd ⟨t.val / 16, ht⟩ ⟨t.val % 16 * 512 + r.val, hR⟩ j
  unfold resultRow
  have f0 : (fun l => ((cfg0.win 0).blk t).view.read (Elt Ideal) A0 (ix3 0 r l)) = _ := funext fun l => congrArg A0 (e0 l)
  have f1 : (fun l => ((cfg0.win 1).blk t).view.read (Elt Ideal) A1 (ix3 0 r l)) = _ := funext fun l => congrArg A1 (e1 l)
  have f2 : (fun l => ((cfg0.win 2).blk t).view.read (Elt Ideal) A2 (ix3 0 r l)) = _ := funext fun l => congrArg A2 (e2 l)
  have f3 : (fun l => ((cfg0.win 3).blk t).view.read (Elt Ideal) A3 (ix3 0 r l)) = _ := funext fun l => congrArg A3 (e3 l)
  have f6 : (fun l => ((cfg0.win 6).blk t).view.read (Elt Ideal) A6 (ix3 0 r l)) = _ := funext fun l => congrArg A6 (e6 l)
  have f7 : (fun l => ((cfg0.win 7).blk t).view.read (Elt Ideal) A7 (ix2 0 l)) = _ := funext fun l => congrArg A7 (e7 (ix2 0 l))
  have f8 : (fun l k => ((cfg0.win 8).blk t).view.read (Elt Ideal) A8 (ix2 l k)) = _ := funext₂ fun l k => congrArg A8 (e8 (ix2 l k))
  have f9 : (fun l k => ((cfg0.win 9).blk t).view.read (Elt Ideal) A9 (ix2 l k)) = _ := funext₂ fun l k => congrArg A9 (e9 (ix2 l k))
  have f10 : (fun l k => ((cfg0.win 10).blk t).view.read (Elt Ideal) A10 (ix2 l k)) = _ := funext₂ fun l k => congrArg A10 (e10 (ix2 l k))
  have f11 : (fun l k => ((cfg0.win 11).blk t).view.read (Elt Ideal) A11 (ix2 l k)) = _ := funext₂ fun l k => congrArg A11 (e11 (ix2 l k))
  have f12 : (fun l k => ((cfg0.win 12).blk t).view.read (Elt Ideal) A12 (ix2 l k)) = _ := funext₂ fun l k => congrArg A12 (e12 (ix2 l k))
  have f13 : (fun l k => ((cfg0.win 13).blk t).view.read (Elt Ideal) A13 (ix2 l k)) = _ := funext₂ fun l k => congrArg A13 (e13 (ix2 l k))
  have f16 : (fun l => ((cfg0.win 16).blk t).view.read (Elt Ideal) A16 (ix2 0 l)) = _ := funext fun l => congrArg A16 (e16 (ix2 0 l))
  have f17 : (fun l k => ((cfg0.win 17).blk t).view.read (Elt Ideal) A17 (ix2 l k)) = _ := funext₂ fun l k => congrArg A17 (e17 (ix2 l k))
  rw [f0, f1, f2, f3, f6, f7, f8, f9, f10, f11, f12, f13, f16, f17]
  exact congrArg (fun o => row _ _ _ _ _ _ (head o g _) _ _ _ _ _ _ _ _ j)
    (funext fun l => congrArg₂ (fun a b : EReal => a + b) (congrArg A4 (e4 l)) (congrArg A5 (e5 l)))
end

variable (m : (ℓ : Loc nD τ sig) → Buf (Elt Ideal) ℓ)

/-- The result buffer after the run. -/
theorem final (c : Dev nD) (g : Fin 64 → EReal) (wd : Fin 2816 → Fin 1024 → EReal)
    (hG : ∀ i k, (V m c main_v20 : FVec Ideal S256x256 .bf16) (ix2 i k) = if i.val / 64 = k.val / 64 then (((64 : ℝ)⁻¹ : ℝ) : EReal) else 0)
    (hg : ∀ k, (V m c main_v19 : FVec Ideal S1x256 .f32) (ix2 0 k) = g (place k))
    (hwd : ∀ (n : Fin 11) (k : Fin 256) (j : Fin 1024), (V m c main_v24 : FVec Ideal S11x256x1024 .bf16) (ix3 n k j) = wd (chunk n k) j) :
    (dats m 0 c).arrAt 19 cfg0.N = result (V m c main_arg0) (V m c main_v25) (V m c main_v26) (V m c main_v27) (V m c main_v29) (V m c main_v31)
      (V m c main_v32) (V m c main_v0) (V m c main_v2) (V m c main_v5) (V m c main_v8) (V m c main_v11) (V m c main_v14) (V m c main_v15)
      (V m c main_v21) (V m c main_v22) g wd := by
  refine (dats m 0 c).arrAt_eq_of_covers 19 _ (by decide +kernel) fun t _ y => ?_
  blk_simp
  rw [after0_19, out_eq]
  exact point (V m c main_arg0) (V m c main_v25) (V m c main_v26) (V m c main_v27) (V m c main_v29) (V m c main_v31)
      (V m c main_v32) (V m c main_v0) (V m c main_v2) (V m c main_v5) (V m c main_v8) (V m c main_v11) (V m c main_v14) (V m c main_v15)
      (V m c main_v19) (V m c main_v20) (V m c main_v21) (V m c main_v22) (V m c main_v24) g wd hG hg hwd t y

end Cert.Kernel2Ideal.Merge
-- ==== Proof.MergeHost.lean ====
/- The arrays the merge and feed-forward kernel's windows read, as the host code before it leaves them. -/
module

public import proofs.«01_k».proof.Proof.MergeArray
public import Idealize.ShloMosaic.Lib.Tactic.CleanTypes

@[expose] public section

set_option maxRecDepth 16384

noncomputable section

namespace Cert.Kernel2Ideal.Merge

open Cert.Kernel2Ideal Cert.Kernel2Ideal.Gen Idealize.ShloMosaic Idealize.ShloMosaic.TcCoe Idealize.SL.Sem Cert.Merge
open scoped BigOperators

/-- A gain as a row. -/
def rowV (g : FVec Ideal S1024 .f32) : FVec Ideal S1x1024 .f32 := shapeCast S1x1024 g shapeCasts_S1024_S1x1024

/-- The gates' columns of the input projection. -/
def colsV (w : FVec Ideal S1024x6944 .f32) : FVec Ideal S1024x4096 .bf16 :=
  truncf .bf16 (extractStridedSlice S1024x4096 ![0, 2848] w slices_S1024x6944_S1024x4096_0_2848 : FVec Ideal S1024x4096 .f32) bitsLt_bf16_f32

/-- One branch's projection. -/
def branchV (b : FVec Ideal S1x256x1024 .f32) : FVec Ideal S256x1024 .bf16 :=
  truncf .bf16 (shapeCast S256x1024 b shapeCasts_S1x256x1024_S256x1024 : FVec Ideal S256x1024 .f32) bitsLt_bf16_f32

/-- Heads side by side. -/
def sideV (o : FVec Ideal S4x8192x4x64 .f32) : FVec Ideal S4x8192x256 .bf16 :=
  truncf .bf16 (shapeCast S4x8192x256 o shapeCasts_S4x8192x4x64_S4x8192x256 : FVec Ideal S4x8192x256 .f32) bitsLt_bf16_f32

/-- The head gain repeated for the four heads. -/
def tileV (g : FVec Ideal S64 .f32) : FVec Ideal S1x256 .f32 :=
  shapeCast S1x256 (shapeCast S256 (broadcastInDim S4x64 ![0, 1] bcast_S1x64_S4x64_0_1 (shapeCast S1x64 g shapeCasts_S64_S1x64 : FVec Ideal S1x64 .f32) : FVec Ideal S4x64 .f32)
    shapeCasts_S4x64_S256 : FVec Ideal S256 .f32) shapeCasts_S256_S1x256

/-- The matrix that averages groups of 64 lanes. -/
def meanV : FVec Ideal S256x256 .bf16 := truncf .bf16 (fun i => FloatOps.ofBits .f32 (lit0 (S256x256.rowMajor i)) : FVec Ideal S256x256 .f32) bitsLt_bf16_f32

/-- The feed-forward's last weight in chunks. -/
def chunkV (w : FVec Ideal S2816x1024 .f32) : FVec Ideal S11x256x1024 .bf16 :=
  truncf .bf16 (shapeCast S11x256x1024 w shapeCasts_S2816x1024_S11x256x1024 : FVec Ideal S11x256x1024 .f32) bitsLt_bf16_f32

variable (m : (ℓ : Loc nD τ sig) → Buf (Elt Ideal) ℓ)

/-- The windows' arrays, each as one expression of an argument. -/
theorem arrays (c : Dev nD) :
    V m c main_v0 = rowV (m ((c : Thread nD τ).loc main_arg1))
    ∧ V m c main_v2 = colsV (m ((c : Thread nD τ).loc main_arg2))
    ∧ V m c main_v5 = branchV (extractStridedSlice S1x256x1024 ![0, 0, 0] (m ((c : Thread nD τ).loc main_arg10)) slices_S4x256x1024_S1x256x1024_0_0_0)
    ∧ V m c main_v8 = branchV (extractStridedSlice S1x256x1024 ![1, 0, 0] (m ((c : Thread nD τ).loc main_arg10)) slices_S4x256x1024_S1x256x1024_1_0_0)
    ∧ V m c main_v11 = branchV (extractStridedSlice S1x256x1024 ![2, 0, 0] (m ((c : Thread nD τ).loc main_arg10)) slices_S4x256x1024_S1x256x1024_2_0_0)
    ∧ V m c main_v14 = branchV (extractStridedSlice S1x256x1024 ![3, 0, 0] (m ((c : Thread nD τ).loc main_arg10)) slices_S4x256x1024_S1x256x1024_3_0_0)
    ∧ V m c main_v15 = (truncf .bf16 (m ((c : Thread nD τ).loc main_arg11) : FVec Ideal S1024x1024 .f32) bitsLt_bf16_f32 : FVec Ideal S1024x1024 .bf16)
    ∧ V m c main_v19 = tileV (m ((c : Thread nD τ).loc main_arg9))
    ∧ V m c main_v20 = meanV
    ∧ V m c main_v21 = rowV (m ((c : Thread nD τ).loc main_arg12))
    ∧ V m c main_v22 = (truncf .bf16 (m ((c : Thread nD τ).loc main_arg13) : FVec Ideal S1024x5632 .f32) bitsLt_bf16_f32 : FVec Ideal S1024x5632 .bf16)
    ∧ V m c main_v24 = chunkV (m ((c : Thread nD τ).loc main_arg14))
    ∧ V m c main_v25 = (truncf .bf16 (m ((c : Thread nD τ).loc main_arg3) : FVec Ideal S4x8192x256 .f32) bitsLt_bf16_f32 : FVec Ideal S4x8192x256 .bf16)
    ∧ V m c main_v26 = (truncf .bf16 (m ((c : Thread nD τ).loc main_arg4) : FVec Ideal S4x8192x256 .f32) bitsLt_bf16_f32 : FVec Ideal S4x8192x256 .bf16)
    ∧ V m c main_v27 = (truncf .bf16 (m ((c : Thread nD τ).loc main_arg5) : FVec Ideal S4x8192x256 .f32) bitsLt_bf16_f32 : FVec Ideal S4x8192x256 .bf16)
    ∧ V m c main_v29 = sideV (m ((c : Thread nD τ).loc main_arg6))
    ∧ V m c main_v31 = sideV (m ((c : Thread nD τ).loc main_arg7))
    ∧ V m c main_v32 = (truncf .bf16 (m ((c : Thread nD τ).loc main_arg8) : FVec Ideal S4x8192x256 .f32) bitsLt_bf16_f32 : FVec Ideal S4x8192x256 .bf16) := by
  unfold V
  refine ⟨?_, ?_, ?_, ?_, ?_, ?_, ?_, ?_, ?_, ?_, ?_, ?_, ?_, ?_, ?_, ?_, ?_, ?_⟩ <;>
    (simp only [hostOps0, List.flatten_cons, List.flatten_nil, List.append_nil, List.cons_append, List.nil_append]
     after_results
     all_goals rfl)

/-- A gain's row at an index. -/
theorem rowV_apply (g : FVec Ideal S1024 .f32) (l : Fin 1024) : rowV g (ix2 0 l) = g (ix1 l) := by
  pointwise [rowV]

/-- The gates' columns at an index. -/
theorem colsV_apply (w : FVec Ideal S1024x6944 .f32) (l : Fin 1024) (k : Fin 4096) : colsV w (ix2 l k) = w (ix2 l ⟨2848 + k.val, by omega⟩) := by
  pointwise [colsV]

/-- A branch's projection at an index. -/
theorem branchV_apply (b : FVec Ideal S1x256x1024 .f32) (c : Fin 256) (j : Fin 1024) : branchV b (ix2 c j) = b (ix3 0 c j) := by
  pointwise [branchV]

/-- Heads side by side at an index. -/
theorem sideV_apply (o : FVec Ideal S4x8192x4x64 .f32) (n : Fin 4) (r : Fin 8192) (c : Fin 256) :
    sideV o (ix3 n r c) = o (ix4 n r ⟨c.val / 64, by omega⟩ (place c)) := by
  pointwise [sideV]

/-- The repeated gain at a lane. -/
theorem tileV_apply (g : FVec Ideal S64 .f32) (c : Fin 256) : tileV g (ix2 0 c) = g (ix1 (place c)) := by
  pointwise [tileV]

/-- The chunks at an index. -/
theorem chunkV_apply (w : FVec Ideal S2816x1024 .f32) (n : Fin 11) (k : Fin 256) (j : Fin 1024) :
    chunkV w (ix3 n k j) = w (ix2 (chunk n k) j) := by
  pointwise [chunkV]
  exact congrArg (fun q => w (ix2 q j)) (Fin.ext (show n.val * 256 + k.val = 256 * n.val + k.val by omega))

end Cert.Kernel2Ideal.Merge

end
-- ==== Proof.MergeTable.lean ====
/- The constant matrix of the merge and feed-forward kernel averages groups of 64 lanes. -/
module

public import proofs.«01_k».proof.Proof.MergeHost

@[expose] public section

set_option maxRecDepth 16384

noncomputable section

namespace Cert.Kernel2Ideal.Merge

open Cert.Kernel2Ideal Cert.Kernel2Ideal.Gen Idealize.ShloMosaic Cert.Merge

/-- A word of row `a` and lane `b` of the table is the pattern of one sixty-fourth if they lie in the same group, and else zero. -/
abbrev Right (a b : Nat) : Prop := lit0t (256 * a + b) = if a / 64 = b / 64 then 0x3C800000#32 else 0x00000000#32

/-- The rows of the first group. -/
theorem rows0 : ∀ a : Fin 64, ∀ b : Fin 256, Right a.val b.val := by decide +kernel

/-- The rows of the second group. -/
theorem rows1 : ∀ a : Fin 64, ∀ b : Fin 256, Right (64 + a.val) b.val := by decide +kernel

/-- The rows of the third group. -/
theorem rows2 : ∀ a : Fin 64, ∀ b : Fin 256, Right (128 + a.val) b.val := by decide +kernel

/-- The rows of the last group. -/
theorem rows3 : ∀ a : Fin 64, ∀ b : Fin 256, Right (192 + a.val) b.val := by decide +kernel

/-- Every row of the table. -/
theorem table (a b : Fin 256) : Right a.val b.val := by
  rcases (by omega : a.val < 64 ∨ 64 ≤ a.val ∧ a.val < 128 ∨ 128 ≤ a.val ∧ a.val < 192 ∨ 192 ≤ a.val) with h | h | h | h
  · exact rows0 ⟨a.val, h⟩ b
  · simpa only [Nat.add_sub_cancel' h.1] using rows1 ⟨a.val - 64, by omega⟩ b
  · simpa only [Nat.add_sub_cancel' h.1] using rows2 ⟨a.val - 128, by omega⟩ b
  · simpa only [Nat.add_sub_cancel' h] using rows3 ⟨a.val - 192, by omega⟩ b

/-- The matrix at an index. -/
theorem meanV_apply (a b : Fin 256) : meanV (ix2 a b) = if a.val / 64 = b.val / 64 then (((64 : ℝ)⁻¹ : ℝ) : EReal) else 0 := by
  have e : (S256x256.rowMajor (ix2 a b)).val = 256 * a.val + b.val :=
    (Shape.rowMajor_val_two _).trans (show a.val * 256 + b.val = 256 * a.val + b.val by omega)
  have z : (Ideal.ofBits FTy.f32 0x00000000#32 : EReal) = 0 := by simp [Ideal.ofBits, Ideal.ieee]
  show Ideal.ofBits FTy.f32 (lit0t (S256x256.rowMajor (ix2 a b)).val) = _
  rw [e, table a b]
  split
  · exact ofBits_inv64
  · exact z

end Cert.Kernel2Ideal.Merge

end
-- ==== Proof.MergeRef.lean ====
/- The merge and feed-forward reference, read at an index: each row is the row formula of its arguments' rows. -/
module

public import proofs.«01_k».proof.Proof.Gen.Reference2Ideal.Run
public import proofs.«01_k».proof.Proof.Gen.Reference2Ideal
public import proofs.«01_k».proof.Proof.MergeMath
public import Idealize.ShloMosaic.Lib.Pointwise

@[expose] public section

set_option maxRecDepth 16384

noncomputable section

namespace Cert.Reference2Ideal.Merge

open Cert.Reference2Ideal Cert.Reference2Ideal.Gen Idealize.ShloMosaic Idealize.SL.Sem Cert.Merge
open scoped BigOperators

/-- The logistic function of every element. -/
def logiR {S : Shape} (b : S_.BroadcastsInDim S (![] : Fin 0 → Fin S.rank)) (z : FVec Ideal S .f32) : FVec Ideal S .f32 :=
  Host.divf (broadcastInDim S ![] b (constant S_ .f32 0x3F800000#32)) (addf (broadcastInDim S ![] b (constant S_ .f32 0x3F800000#32)) (Host.exp (Host.negf z)))

/-- The recurrent branch: the two directions' sum, normalised within each head, times its gain and its gate. -/
def headR (f b : FVec Ideal S4x8192x4x64 .f32) (z : FVec Ideal S4x8192x256 .f32) (g : FVec Ideal S64 .f32) : FVec Ideal S4x8192x4x64 .f32 :=
  mulf (mulf (mulf (addf f b) (broadcastInDim S4x8192x4x64 ![0, 1, 2, 3] bcast_S4x8192x4x1_S4x8192x4x64_0_1_2_3
    (Host.rsqrt (addf (Host.divf (broadcastInDim S4x8192x4x1 ![0, 1, 2] bcast_S4x8192x4_S4x8192x4x1_0_1_2
      (Host.reduceAdd (mulf (addf f b) (addf f b)) (constant S_ .f32 0x00000000#32) reducesTo_S4x8192x4x64_S4x8192x4_d3 h_S_))
      (broadcastInDim S4x8192x4x1 ![] bcast_S_S4x8192x4x1 (constant S_ .f32 0x42800000#32)))
      (broadcastInDim S4x8192x4x1 ![] bcast_S_S4x8192x4x1 (constant S_ .f32 0x358637BD#32))))))
    (broadcastInDim S4x8192x4x64 ![0, 1, 2, 3] bcast_S1x1x1x64_S4x8192x4x64_0_1_2_3 (broadcastInDim S1x1x1x64 ![3] bcast_S64_S1x1x1x64_3 g)))
    (logiR bcast_S_S4x8192x4x64 (shapeCast S4x8192x4x64 z shapeCasts_S4x8192x256_S4x8192x4x64))

/-- The recurrent branch with its heads side by side. -/
def sideR (o : FVec Ideal S4x8192x4x64 .f32) : FVec Ideal S4x8192x256 .f32 := shapeCast S4x8192x256 o shapeCasts_S4x8192x4x64_S4x8192x256

/-- Rows divided by their root mean squares, times a gain. -/
def rmsR (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2
    (Host.rsqrt (addf (Host.divf (broadcastInDim S4x8192x1 ![0, 1] bcast_S4x8192_S4x8192x1_0_1
      (Host.reduceAdd (mulf x x) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The gates' logits. -/
def logitsR (h : FVec Ideal S4x8192x1024 .f32) (w : FVec Ideal S1024x6944 .f32) : FVec Ideal S4x8192x4096 .f32 :=
  Host.dotGeneral dot_S4x8192x1024_S1024x4096_S4x8192x4096_2_0_01_1_n_n none h (extractStridedSlice S1024x4096 ![0, 2848] w slices_S1024x6944_S1024x4096_0_2848)

/-- A gate times a branch's projection. -/
def gateR (z : FVec Ideal S4x8192x1024 .f32) (o : FVec Ideal S4x8192x256 .f32) (b : FVec Ideal S1x256x1024 .f32) : FVec Ideal S4x8192x1024 .f32 :=
  mulf (logiR bcast_S_S4x8192x1024 z)
    (Host.dotGeneral dot_S4x8192x256_S256x1024_S4x8192x1024_2_0_01_1_n_n none o (shapeCast S256x1024 b shapeCasts_S1x256x1024_S256x1024))

/-- The four gated branches, added. -/
def mergedR (z : FVec Ideal S4x8192x4096 .f32) (o0 o1 o2 o3 : FVec Ideal S4x8192x256 .f32) (b : FVec Ideal S4x256x1024 .f32) : FVec Ideal S4x8192x1024 .f32 :=
  addf (addf (addf (addf (broadcastInDim S4x8192x1024 ![] bcast_S_S4x8192x1024 (constant S_ .f32 0x00000000#32))
    (gateR (extractStridedSlice S4x8192x1024 ![0, 0, 0] z slices_S4x8192x4096_S4x8192x1024_0_0_0) o0
      (extractStridedSlice S1x256x1024 ![0, 0, 0] b slices_S4x256x1024_S1x256x1024_0_0_0)))
    (gateR (extractStridedSlice S4x8192x1024 ![0, 0, 1024] z slices_S4x8192x4096_S4x8192x1024_0_0_1024) o1
      (extractStridedSlice S1x256x1024 ![1, 0, 0] b slices_S4x256x1024_S1x256x1024_1_0_0)))
    (gateR (extractStridedSlice S4x8192x1024 ![0, 0, 2048] z slices_S4x8192x4096_S4x8192x1024_0_0_2048) o2
      (extractStridedSlice S1x256x1024 ![2, 0, 0] b slices_S4x256x1024_S1x256x1024_2_0_0)))
    (gateR (extractStridedSlice S4x8192x1024 ![0, 0, 3072] z slices_S4x8192x4096_S4x8192x1024_0_0_3072) o3
      (extractStridedSlice S1x256x1024 ![3, 0, 0] b slices_S4x256x1024_S1x256x1024_3_0_0))

/-- Rows plus projected rows. -/
def resR (x z : FVec Ideal S4x8192x1024 .f32) (w : FVec Ideal S1024x1024 .f32) : FVec Ideal S4x8192x1024 .f32 :=
  addf x (Host.dotGeneral dot_S4x8192x1024_S1024x1024_S4x8192x1024_2_0_01_1_n_n none z w)

/-- The feed-forward's inner values, of the product with its first weight. -/
def actR (u : FVec Ideal S4x8192x5632 .f32) : FVec Ideal S4x8192x2816 .f32 :=
  mulf (mulf (extractStridedSlice S4x8192x2816 ![0, 0, 0] u slices_S4x8192x5632_S4x8192x2816_0_0_0)
    (logiR bcast_S_S4x8192x2816 (extractStridedSlice S4x8192x2816 ![0, 0, 0] u slices_S4x8192x5632_S4x8192x2816_0_0_0)))
    (extractStridedSlice S4x8192x2816 ![0, 0, 2816] u slices_S4x8192x5632_S4x8192x2816_0_0_2816)

/-- The feed-forward. -/
def ffnR (h : FVec Ideal S4x8192x1024 .f32) (w : FVec Ideal S1024x5632 .f32) (wd : FVec Ideal S2816x1024 .f32) : FVec Ideal S4x8192x1024 .f32 :=
  Host.dotGeneral dot_S4x8192x2816_S2816x1024_S4x8192x1024_2_0_01_1_n_n none
    (actR (Host.dotGeneral dot_S4x8192x1024_S1024x5632_S4x8192x5632_2_0_01_1_n_n none h w)) wd

/-- The rows with their feed-forward added. -/
def lastR (y : FVec Ideal S4x8192x1024 .f32) (g : FVec Ideal S1024 .f32) (w : FVec Ideal S1024x5632 .f32) (wd : FVec Ideal S2816x1024 .f32) :
    FVec Ideal S4x8192x1024 .f32 := addf y (ffnR (rmsR y g) w wd)

/-- The reference's result. -/
def out (a0 : FVec Ideal S4x8192x1024 .f32) (a1 : FVec Ideal S1024 .f32) (a2 : FVec Ideal S1024x6944 .f32) (a3 a4 a5 : FVec Ideal S4x8192x256 .f32)
    (a6 a7 : FVec Ideal S4x8192x4x64 .f32) (a8 : FVec Ideal S4x8192x256 .f32) (a9 : FVec Ideal S64 .f32) (a10 : FVec Ideal S4x256x1024 .f32)
    (a11 : FVec Ideal S1024x1024 .f32) (a12 : FVec Ideal S1024 .f32) (a13 : FVec Ideal S1024x5632 .f32) (a14 : FVec Ideal S2816x1024 .f32) :
    FVec Ideal S4x8192x1024 .f32 :=
  lastR (resR a0 (mergedR (logitsR (rmsR a0 a1) a2) a3 a4 a5 (sideR (headR a6 a7 a8 a9)) a10) a11) a12 a13 a14

/-- The logistic function read at an index. -/
theorem logiR_apply {S : Shape} (b : S_.BroadcastsInDim S (![] : Fin 0 → Fin S.rank)) (z : FVec Ideal S .f32) (i : S.Idx) :
    logiR b z i = logi (z i) := by
  have e : (Ideal.ofBits FTy.f32 0x3F800000#32 : EReal) = 1 := by simp [Ideal.ofBits, Ideal.ieee, -EReal.coe_mul]; norm_num
  show Ideal.div (Ideal.ofBits FTy.f32 0x3F800000#32) (Ideal.ofBits FTy.f32 0x3F800000#32 + Ideal.exp (-(z i))) = _
  rw [e]
  rfl

/-- The recurrent branch read at a head's lane. -/
theorem headR_apply (f b : FVec Ideal S4x8192x4x64 .f32) (z : FVec Ideal S4x8192x256 .f32) (g : FVec Ideal S64 .f32)
    (n : Fin 4) (r : Fin 8192) (h : Fin 4) (d : Fin 64) :
    headR f b z g (ix4 n r h d) = (f (ix4 n r h d) + b (ix4 n r h d))
      * Ideal.rsqrt (Ideal.div (∑ e : Fin 64, (f (ix4 n r h e) + b (ix4 n r h e)) * (f (ix4 n r h e) + b (ix4 n r h e))) (Ideal.ofBits .f32 0x42800000#32) + eps)
      * g (ix1 d) * logi (z (ix3 n r ⟨h.val * 64 + d.val, by omega⟩)) := by
  pointwise [headR]
  rw [logiR_apply]
  pointwise []
  rfl

/-- A lane of the branch with its heads side by side. -/
theorem sideR_apply (o : FVec Ideal S4x8192x4x64 .f32) (n : Fin 4) (r : Fin 8192) (c : Fin 256) :
    sideR o (ix3 n r c) = o (ix4 n r ⟨c.val / 64, by omega⟩ (place c)) := by
  pointwise [sideR]

/-- A normalised row at an index. -/
theorem rmsR_apply (x : FVec Ideal S4x8192x1024 .f32) (g : FVec Ideal S1024 .f32) (n : Fin 4) (r : Fin 8192) (j : Fin 1024) :
    rmsR x g (ix3 n r j) = rms (fun l => x (ix3 n r l)) (fun l => g (ix1 l)) j := by
  pointwise [rmsR]
  rfl

/-- A gate's logit. -/
theorem logitsR_apply (h : FVec Ideal S4x8192x1024 .f32) (w : FVec Ideal S1024x6944 .f32) (n : Fin 4) (r : Fin 8192) (k : Fin 4096) :
    logitsR h w (ix3 n r k) = ∑ l : Fin 1024, h (ix3 n r l) * w (ix2 l ⟨2848 + k.val, by omega⟩) := by
  pointwise [logitsR]

/-- A gated branch at an index. -/
theorem gateR_apply (z : FVec Ideal S4x8192x1024 .f32) (o : FVec Ideal S4x8192x256 .f32) (b : FVec Ideal S1x256x1024 .f32) (n : Fin 4) (r : Fin 8192) (j : Fin 1024) :
    gateR z o b (ix3 n r j) = logi (z (ix3 n r j)) * ∑ c : Fin 256, o (ix3 n r c) * b (ix3 0 c j) := by
  pointwise [gateR]
  rw [logiR_apply]

/-- The merged row at an index. -/
theorem mergedR_apply (h : FVec Ideal S4x8192x1024 .f32) (w : FVec Ideal S1024x6944 .f32) (o0 o1 o2 o3 : FVec Ideal S4x8192x256 .f32) (b : FVec Ideal S4x256x1024 .f32)
    (n : Fin 4) (r : Fin 8192) (j : Fin 1024) :
    mergedR (logitsR h w) o0 o1 o2 o3 b (ix3 n r j) = merged (fun l => h (ix3 n r l)) (fun l k => w (ix2 l ⟨2848 + k.val, by omega⟩))
      (fun c => o0 (ix3 n r c)) (fun c => o1 (ix3 n r c)) (fun c => o2 (ix3 n r c)) (fun c => o3 (ix3 n r c))
      (fun c j => b (ix3 0 c j)) (fun c j => b (ix3 1 c j)) (fun c j => b (ix3 2 c j)) (fun c j => b (ix3 3 c j)) j := by
  pointwise [mergedR]
  simp only [gateR_apply, zero_add]
  pointwise []
  simp only [logitsR_apply]
  rfl

/-- A row plus a projected row, at an index. -/
theorem resR_apply (x z : FVec Ideal S4x8192x1024 .f32) (w : FVec Ideal S1024x1024 .f32) (n : Fin 4) (r : Fin 8192) (j : Fin 1024) :
    resR x z w (ix3 n r j) = res (fun l => x (ix3 n r l)) (fun l => z (ix3 n r l)) (fun l j => w (ix2 l j)) j := by
  pointwise [resR]
  rfl

/-- An inner value at an index. -/
theorem actR_apply (u : FVec Ideal S4x8192x5632 .f32) (n : Fin 4) (r : Fin 8192) (k : Fin 2816) :
    actR u (ix3 n r k) = u (ix3 n r ⟨k.val, by omega⟩) * logi (u (ix3 n r ⟨k.val, by omega⟩)) * u (ix3 n r ⟨2816 + k.val, by omega⟩) := by
  pointwise [actR]
  rw [logiR_apply]
  pointwise []

/-- The feed-forward at an index. -/
theorem ffnR_apply (h : FVec Ideal S4x8192x1024 .f32) (w : FVec Ideal S1024x5632 .f32) (wd : FVec Ideal S2816x1024 .f32) (n : Fin 4) (r : Fin 8192) (j : Fin 1024) :
    ffnR h w wd (ix3 n r j) = ∑ k : Fin 2816, Merge.inner (fun l => h (ix3 n r l)) (fun l k => w (ix2 l k)) (fun k j => wd (ix2 k j)) j k := by
  pointwise [ffnR]
  simp only [actR_apply]
  pointwise []
  rfl

/-- The result at an index. -/
theorem out_apply (a0 : FVec Ideal S4x8192x1024 .f32) (a1 : FVec Ideal S1024 .f32) (a2 : FVec Ideal S1024x6944 .f32) (a3 a4 a5 : FVec Ideal S4x8192x256 .f32)
    (a6 a7 : FVec Ideal S4x8192x4x64 .f32) (a8 : FVec Ideal S4x8192x256 .f32) (a9 : FVec Ideal S64 .f32) (a10 : FVec Ideal S4x256x1024 .f32)
    (a11 : FVec Ideal S1024x1024 .f32) (a12 : FVec Ideal S1024 .f32) (a13 : FVec Ideal S1024x5632 .f32) (a14 : FVec Ideal S2816x1024 .f32)
    (n : Fin 4) (r : Fin 8192) (j : Fin 1024) :
    out a0 a1 a2 a3 a4 a5 a6 a7 a8 a9 a10 a11 a12 a13 a14 (ix3 n r j)
      = row (fun l => a0 (ix3 n r l)) (fun l => a1 (ix1 l)) (fun l k => a2 (ix2 l ⟨2848 + k.val, by omega⟩))
        (fun c => a3 (ix3 n r c)) (fun c => a4 (ix3 n r c)) (fun c => a5 (ix3 n r c))
        (fun c => headR a6 a7 a8 a9 (ix4 n r ⟨c.val / 64, by omega⟩ (place c)))
        (fun c j => a10 (ix3 0 c j)) (fun c j => a10 (ix3 1 c j)) (fun c j => a10 (ix3 2 c j)) (fun c j => a10 (ix3 3 c j))
        (fun l j => a11 (ix2 l j)) (fun l => a12 (ix1 l)) (fun l k => a13 (ix2 l k)) (fun k j => a14 (ix2 k j)) j := by
  unfold out lastR
  pointwise []
  simp only [ffnR_apply, rmsR_apply, resR_apply, mergedR_apply, sideR_apply]
  rfl

/-- The term the reference's run ends with is `out` of its arguments. -/
theorem res_eq (m : (ℓ : Loc nD τ sig) → Buf (Elt Ideal) ℓ) (c : Dev nD) : Value.res_main_v108 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) := by
  unfold Value.res_main_v108
  rfl

end Cert.Reference2Ideal.Merge

end
-- ==== Proof.MergeEq.lean ====
/- The merge and feed-forward kernel's result is the reference's. -/
module

public import proofs.«01_k».proof.Proof.MergeTable
public import proofs.«01_k».proof.Proof.MergeRef

@[expose] public section

set_option maxRecDepth 16384

noncomputable section

namespace Cert.Merge

open Cert.Kernel2Ideal.Merge Cert.Reference2Ideal.Merge Idealize.ShloMosaic Idealize.ShloMosaic.TcCoe Idealize.SL.Sem
open scoped BigOperators

/-- The recurrent branch of the row formula is the reference's, lane by lane. -/
theorem head_eq (f b : FVec Ideal Cert.Kernel2Ideal.S4x8192x4x64 .f32) (z : FVec Ideal Cert.Kernel2Ideal.S4x8192x256 .f32)
    (g : FVec Ideal Cert.Kernel2Ideal.S64 .f32) (n : Fin 4) (r : Fin 8192) (c : Fin 256) :
    head (fun c => sideV f (ix3 n r c) + sideV b (ix3 n r c)) (fun d => g (ix1 d)) (fun c => z (ix3 n r c)) c
      = headR f b z g (ix4 n r ⟨c.val / 64, by omega⟩ (place c)) := by
  have q : ∀ d : Fin 64, (⟨(mate c d).val / 64, by omega⟩ : Fin 4) = ⟨c.val / 64, by omega⟩ := fun d =>
    Fin.ext (show (64 * (c.val / 64) + d.val) / 64 = c.val / 64 by omega)
  have p : ∀ d : Fin 64, place (mate c d) = d := fun d => Fin.ext (show (64 * (c.val / 64) + d.val) % 64 = d.val by omega)
  have e : (⟨c.val / 64 * 64 + (place c).val, by show c.val / 64 * 64 + c.val % 64 < 256; omega⟩ : Fin 256) = c :=
    Fin.ext (show c.val / 64 * 64 + c.val % 64 = c.val by omega)
  rw [headR_apply]
  unfold head
  simp only [sideV_apply, q, p]
  exact congrArg (fun k => _ * logi (z (ix3 n r k))) e.symm

/-- The two result arrays are equal. -/
theorem result_eq (a0 : FVec Ideal Cert.Kernel2Ideal.S4x8192x1024 .f32) (a1 : FVec Ideal Cert.Kernel2Ideal.S1024 .f32)
    (a2 : FVec Ideal Cert.Kernel2Ideal.S1024x6944 .f32) (a3 a4 a5 : FVec Ideal Cert.Kernel2Ideal.S4x8192x256 .f32)
    (a6 a7 : FVec Ideal Cert.Kernel2Ideal.S4x8192x4x64 .f32) (a8 : FVec Ideal Cert.Kernel2Ideal.S4x8192x256 .f32)
    (a9 : FVec Ideal Cert.Kernel2Ideal.S64 .f32) (a10 : FVec Ideal Cert.Kernel2Ideal.S4x256x1024 .f32)
    (a11 : FVec Ideal Cert.Kernel2Ideal.S1024x1024 .f32) (a12 : FVec Ideal Cert.Kernel2Ideal.S1024 .f32)
    (a13 : FVec Ideal Cert.Kernel2Ideal.S1024x5632 .f32) (a14 : FVec Ideal Cert.Kernel2Ideal.S2816x1024 .f32) :
    result a0 a3 a4 a5 (sideV a6) (sideV a7) a8 (rowV a1) (colsV a2)
        (branchV (extractStridedSlice Cert.Kernel2Ideal.S1x256x1024 ![0, 0, 0] a10 Cert.Kernel2Ideal.Gen.slices_S4x256x1024_S1x256x1024_0_0_0))
        (branchV (extractStridedSlice Cert.Kernel2Ideal.S1x256x1024 ![1, 0, 0] a10 Cert.Kernel2Ideal.Gen.slices_S4x256x1024_S1x256x1024_1_0_0))
        (branchV (extractStridedSlice Cert.Kernel2Ideal.S1x256x1024 ![2, 0, 0] a10 Cert.Kernel2Ideal.Gen.slices_S4x256x1024_S1x256x1024_2_0_0))
        (branchV (extractStridedSlice Cert.Kernel2Ideal.S1x256x1024 ![3, 0, 0] a10 Cert.Kernel2Ideal.Gen.slices_S4x256x1024_S1x256x1024_3_0_0))
        a11 (rowV a12) a13 (fun d => a9 (ix1 d)) (fun k j => a14 (ix2 k j))
      = out a0 a1 a2 a3 a4 a5 a6 a7 a8 a9 a10 a11 a12 a13 a14 := by
  funext i
  obtain ⟨n, r, j, rfl⟩ : ∃ (n : Fin 4) (r : Fin 8192) (j : Fin 1024), i = ix3 n r j := ⟨i 0, i 1, i 2, eq_ix3 i⟩
  rw [out_apply]
  show resultRow _ _ _ _ _ _ _ _ _ _ _ _ _ _ _ _ _ _ n r j = _
  unfold resultRow
  rw [funext fun c => head_eq a6 a7 a8 a9 n r c]
  simp only [rowV_apply, colsV_apply, branchV_apply]
  pointwise []

open Cert.Kernel2Ideal Cert.Kernel2Ideal.Gen in
/-- The kernel's result array is the reference's result of the same arguments. -/
theorem kernel_eq (m : (ℓ : Loc nD τ sig) → Buf (Elt Ideal) ℓ) (c : Dev nD) : (dats m 0 c).arrAt 19 cfg0.N
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) := by
  obtain ⟨v0, v2, v5, v8, v11, v14, v15, v19, v20, v21, v22, v24, v25, v26, v27, v29, v31, v32⟩ := arrays m c
  refine (final m c (fun d => m ((c.tc : Thread nD τ).loc main_arg9) (ix1 d)) (fun k j => m ((c.tc : Thread nD τ).loc main_arg14) (ix2 k j))
    (fun i k => (congrFun v20 _).trans (meanV_apply i k)) (fun k => (congrFun v19 _).trans (tileV_apply _ k))
    (fun n k j => (congrFun v24 _).trans (chunkV_apply _ n k j))).trans ?_
  simp only [V_main_arg0, v0, v2, v5, v8, v11, v14, v15, v21, v22, v25, v26, v27, v29, v31, v32]
  exact result_eq _ _ _ _ _ _ _ _ _ _ _ _ _ _ _

end Cert.Merge

end
-- ==== Proof.DiffRun.lean ====
/- What one grid point of the differential attention kernel computes, as a recursion over its 256 accumulation steps: the
   run's stores into the scratch accumulator are the list `pieces 256`, and the four output slices each read two slabs of it. -/
module

public import proofs.«01_k».proof.Proof.Gen.Kernel3Ideal.Value
public import Idealize.ShloMosaic.Lib.Pipeline.ReadBack
public import Idealize.ShloMosaic.Lib.WholeRead
public import Idealize.ShloMosaic.Lib.Pipeline.ValueKit
public import Idealize.ShloMosaic.Lib.Pointwise

@[expose] public section

noncomputable section

namespace Cert.Kernel3Ideal.Diff

open Cert.Kernel3Ideal Cert.Kernel3Ideal.Gen Idealize.ShloMosaic Idealize.SL.Sem

variable {F : FTy → Type} [FloatOps F] [Named F]

/-- Slab `g` of the accumulator: the rows of one map. -/
def slab (g : ℕ) (hg : g < 8) : Rect S8x128x512 :=
  Rect.unit ![g, 0, 0] S1x128x512.size (by intro a; fin_cases a <;> simp [Shape.size] <;> omega)

/-- Key chunk `n` of 256 rows, all lanes. -/
def kRect (n : ℕ) (hn : n < 32) : Rect S1x8192x256 :=
  Rect.unit ![0, 256 * n, 0] S1x256x256.size (by intro a; fin_cases a <;> simp [Shape.size] <;> omega)

/-- Value chunk `n` of 256 rows, the lanes of head `h`. -/
def vRect (n h : ℕ) (hn : n < 32) (hh : h < 4) : Rect S1x8192x512 :=
  Rect.unit ![0, 256 * n, 128 * h] S1x256x128.size (by intro a; fin_cases a <;> simp [Shape.size] <;> omega)

/-- The scaled queries with the lanes outside map `g` cleared. -/
def masked (g : ℕ) (q : Vec F S1x512x256 .f32) : FVec F S512x256 .bf16 :=
  select (broadcastTo S512x256 (shapeCast S1x256 (cmpi .eq k0_pay3 (broadcast S1x256 (BitVec.ofNat 32 g)) : IVec S1x256 1)
      shapeCasts_S1x256_S1x256 : IVec S1x256 1) broadcasts_S1x256_S512x256 : IVec S512x256 1)
    (k0_pay2 q) (broadcast S512x256 (Scalar.ofBits .bf16 0x0000#16 : F .bf16))

/-- One accumulation step: `acc + vᵀ·2^(k·qᵀ)`, for one chunk of keys and the masked queries `q`. -/
def step (q : FVec F S512x256 .bf16) (k : Vec F S1x256x256 .bf16) (v : Vec F S1x256x128 .bf16) (acc : Vec F S1x128x512 .f32) :
    Vec F S1x128x512 .f32 :=
  shapeCast S1x128x512
    (addf (shapeCast S128x512 acc shapeCasts_S1x128x512_S128x512 : FVec F S128x512 .f32)
      (matmul dot_S256x128_S256x512_S128x512_0_0_1_1_n_n none
        (shapeCast S256x128 v shapeCasts_S1x256x128_S256x128 : FVec F S256x128 .bf16)
        (truncf .bf16
          (exp2 (matmul dot_S256x256_S512x256_S256x512_1_1_0_0_n_n none
            (shapeCast S256x256 k shapeCasts_S1x256x256_S256x256 : FVec F S256x256 .bf16) q
            (constant S256x512 .f32 0x00000000#32) : FVec F S256x512 .f32)) bitsLt_bf16_f32 : FVec F S256x512 .bf16)
        (constant S128x512 .f32 0x00000000#32) : FVec F S128x512 .f32)) shapeCasts_S128x512_S1x128x512

/-- A step of equal operands. -/
theorem step_congr {q q' : FVec F S512x256 .bf16} {k k' : Vec F S1x256x256 .bf16} {v v' : Vec F S1x256x128 .bf16}
    {a a' : Vec F S1x128x512 .f32} (hq : q = q') (hk : k = k') (hv : v = v') (ha : a = a') : step q k v a = step q' k' v' a' := by
  subst hq hk hv ha; rfl

/-- The whole query block. -/
def qRect : Rect S1x512x256 := Rect.unit ![0, 0, 0] S1x512x256.size inb_S1x512x256_S1x512x256_0_0_0

section
variable (arg3 : Memref sig .tc .vmem S1x512x256 .f32) (harg3 : arg3.IsWhole) (arg4 : Memref sig .tc .vmem S1x8192x256 .bf16)
  (harg4 : arg4.IsWhole) (arg5 : Memref sig .tc .vmem S1x8192x512 .bf16) (harg5 : arg5.IsWhole)
  (arg8 : Memref sig .tc .vmem S8x128x512 .f32)
  (x1 : Vec F S1x512x256 .f32) (x2 : Vec F S1x8192x256 .bf16) (x3 : Vec F S1x8192x512 .bf16)

/-- The stores into the accumulator after `m` steps: step `m` adds chunk `m / 8` of the keys to map `m % 8`. -/
def pieces (m : ℕ) : List (View.Piece (Elt F) S8x128x512 .f32) :=
  Nat.rec [⟨Rect.unit ![0, 0, 0] S8x128x512.size inb_S8x128x512_S8x128x512_0_0_0, k0_pay12⟩]
    (fun m L => ⟨slab (m % 8) (Nat.mod_lt _ (by decide)),
      step (masked (m % 8) (View.readAt (Elt F) arg3.view qRect.toLoadRect (harg3.unread x1)))
        (View.readAt (Elt F) arg4.view (kRect (m / 8 % 32) (Nat.mod_lt _ (by decide))).toLoadRect (harg4.unread x2))
        (View.readAt (Elt F) arg5.view (vRect (m / 8 % 32) (m % 8 / 2) (Nat.mod_lt _ (by decide)) (by omega)).toLoadRect (harg5.unread x3))
        (arg8.view.readCov L (slab (m % 8) (Nat.mod_lt _ (by decide))).toLoadRect)⟩ :: L) m

/-- No step: the accumulator cleared. -/
theorem pieces_zero : pieces arg3 harg3 arg4 harg4 arg5 harg5 arg8 x1 x2 x3 0
    = [⟨Rect.unit ![0, 0, 0] S8x128x512.size inb_S8x128x512_S8x128x512_0_0_0, k0_pay12⟩] := rfl

/-- One step more: one store more. -/
theorem pieces_succ (m : ℕ) : pieces arg3 harg3 arg4 harg4 arg5 harg5 arg8 x1 x2 x3 (m + 1)
    = ⟨slab (m % 8) (Nat.mod_lt _ (by decide)),
      step (masked (m % 8) (View.readAt (Elt F) arg3.view qRect.toLoadRect (harg3.unread x1)))
        (View.readAt (Elt F) arg4.view (kRect (m / 8 % 32) (Nat.mod_lt _ (by decide))).toLoadRect (harg4.unread x2))
        (View.readAt (Elt F) arg5.view (vRect (m / 8 % 32) (m % 8 / 2) (Nat.mod_lt _ (by decide)) (by omega)).toLoadRect (harg5.unread x3))
        (arg8.view.readCov (pieces arg3 harg3 arg4 harg4 arg5 harg5 arg8 x1 x2 x3 m) (slab (m % 8) (Nat.mod_lt _ (by decide))).toLoadRect)⟩
      :: pieces arg3 harg3 arg4 harg4 arg5 harg5 arg8 x1 x2 x3 m := rfl

/-- The run's stores into the accumulator are the recursion's. -/
theorem hs_eq (c : Dev nD) : kernelRun0_A.sl.HS0_257 c arg3 harg3 arg4 harg4 arg5 harg5 arg8 x1 x2 x3
    = pieces arg3 harg3 arg4 harg4 arg5 harg5 arg8 x1 x2 x3 256 := by
  rfl

/-- Map `g`'s accumulator after its first `n` chunks of keys. -/
def acc (g : ℕ) (hg : g < 8) (n : ℕ) : Vec F S1x128x512 .f32 :=
  Nat.rec (fun _ => Scalar.ofBits .f32 0x00000000#32)
    (fun n a => step (masked g x1) (View.ld x2 (kRect (n % 32) (Nat.mod_lt _ (by decide))))
      (View.ld x3 (vRect (n % 32) (g / 2) (Nat.mod_lt _ (by decide)) (by omega))) a) n

omit [FloatOps F] [Named F] in
/-- A load of a box of a whole buffer reads the box of its contents. -/
theorem readAt_ld {sp : Space} {s : Shape} {e : EltTy} {m : Memref sig .tc sp s e} (h : m.IsWhole) (X : Vec F s e) (r : Rect s) :
    View.readAt (Elt F) m.view r.toLoadRect (h.unread X) = View.ld X r :=
  funext fun x => h.readAt_unread X r.toLoadRect x

omit [FloatOps F] [Named F] in
/-- The box of the whole query block reads it whole. -/
theorem ld_q : View.ld x1 qRect = x1 :=
  funext fun x => congrArg x1 (funext fun a => Fin.ext (by
    fin_cases a <;> (show 0 + 1 * _ = _; omega)))

/-- Slabs of two maps share no cell. -/
theorem slab_disj (h h' : ℕ) (hh : h < 8) (hh' : h' < 8) (hne : h ≠ h') : LoadRect.disj (slab h hh) (slab h' hh').toLoadRect = true := by
  interval_cases h <;> interval_cases h' <;> first | exact absurd rfl hne | rfl

/-- After `m` steps map `g`'s slab holds its accumulator after the chunks it has had. -/
theorem read_pieces (g : ℕ) (hg : g < 8) (m : ℕ) (hm : m ≤ 256) :
    arg8.view.readCov (pieces arg3 harg3 arg4 harg4 arg5 harg5 arg8 x1 x2 x3 m) (slab g hg).toLoadRect
      = acc x1 x2 x3 g hg ((m + 7 - g) / 8) := by
  induction m with
  | zero =>
    have : (0 + 7 - g) / 8 = 0 := by omega
    rw [this]
    rw [pieces_zero, View.readCov_fill _ _ _ _ _ (by decide)]
    rfl
  | succ m ih =>
    have ih := ih (by omega)
    by_cases hc : m % 8 = g
    · subst hc
      have e : (m + 1 + 7 - m % 8) / 8 = (m + 7 - m % 8) / 8 + 1 := by omega
      have e2 : (m + 7 - m % 8) / 8 = m / 8 := by omega
      rw [e, e2]
      rw [e2] at ih
      rw [pieces_succ]
      refine (View.readCov_cons_toLoadRect arg8.view _ _ _).trans ?_
      exact step_congr (congrArg _ ((readAt_ld harg3 x1 _).trans (ld_q x1))) (readAt_ld harg4 x2 _) (readAt_ld harg5 x3 _) ih
    · have e : (m + 1 + 7 - g) / 8 = (m + 7 - g) / 8 := by omega
      rw [e, ← ih, pieces_succ]
      exact View.readCov_skip arg8.view _ _ _ _ (slab_disj _ _ _ _ hc)

/-- The slab of map `g` as the run's last loads read it. -/
theorem read_last (c : Dev nD) (g : ℕ) (hg : g < 8) :
    arg8.view.readCov (kernelRun0_A.sl.HS0_257 c arg3 harg3 arg4 harg4 arg5 harg5 arg8 x1 x2 x3) (slab g hg).toLoadRect
      = acc x1 x2 x3 g hg 32 := by
  rw [hs_eq, read_pieces _ _ _ _ _ _ _ _ _ _ g hg 256 (le_refl _)]
  congr 1
  omega
end

end Cert.Kernel3Ideal.Diff
-- ==== Proof.DiffOut.lean ====
/- What one grid point of the differential attention kernel leaves in its output block: each head's lanes, from two maps. -/
module

public import proofs.«01_k».proof.Proof.DiffRun

@[expose] public section

noncomputable section

namespace Cert.Kernel3Ideal.Diff

open Cert.Kernel3Ideal Cert.Kernel3Ideal.Gen Idealize.ShloMosaic Idealize.SL.Sem

variable {F : FTy → Type} [FloatOps F] [Named F]

/-- The output's lanes of head `h`. -/
def oRect (h : ℕ) (hh : h < 4) : Rect S1x512x256 :=
  Rect.unit ![0, 0, 64 * h] S1x512x64.size (by intro a; fin_cases a <;> simp [Shape.size] <;> omega)

/-- The whole gain block. -/
def gRect : Rect S1x64 := Rect.unit ![0, 0] S1x64.size inb_S1x64_S1x64_0_0

omit [FloatOps F] [Named F] in
/-- The box of the whole gain block reads it whole. -/
theorem ld_g (x4 : Vec F S1x64 .f32) : View.ld x4 gRect = x4 :=
  funext fun x => congrArg x4 (funext fun a => Fin.ext (by
    fin_cases a <;> (show 0 + 1 * _ = _; omega)))

/-- The scalar the run loads is the one entry of its operand. -/
theorem lam_read (c : Dev nD) (arg2 : Memref sig .tc .smem S1 .f32) (harg2 : arg2.IsWhole) (x0 : Vec F S1 .f32) :
    kernelRun0_A.sl.r_3 c arg2 harg2 x0 = x0 (ix1 0) := by
  unfold kernelRun0_A.sl.r_3
  exact (harg2.readAt_unread x0 _ _).trans (congrArg x0 (funext fun a => by fin_cases a; exact Subsingleton.elim (α := Fin 1) _ _))

/-- Head `h`'s lanes, from its two maps. -/
def head (x0 : Vec F S1 .f32) (x1 : Vec F S1x512x256 .f32) (x2 : Vec F S1x8192x256 .bf16) (x3 : Vec F S1x8192x512 .bf16) (x4 : Vec F S1x64 .f32)
    (h : ℕ) (hh : h < 4) : FVec F S1x512x64 .bf16 :=
  k0_pay866 (x0 (ix1 0)) (acc x1 x2 x3 (2 * h) (by omega) 32) (acc x1 x2 x3 (2 * h + 1) (by omega) 32) x4

section
variable (arg2 : Memref sig .tc .smem S1 .f32) (harg2 : arg2.IsWhole)
  (arg3 : Memref sig .tc .vmem S1x512x256 .f32) (harg3 : arg3.IsWhole) (arg4 : Memref sig .tc .vmem S1x8192x256 .bf16)
  (harg4 : arg4.IsWhole) (arg5 : Memref sig .tc .vmem S1x8192x512 .bf16) (harg5 : arg5.IsWhole)
  (arg6 : Memref sig .tc .vmem S1x64 .f32) (harg6 : arg6.IsWhole)
  (arg7 : Memref sig .tc .vmem S1x512x256 .bf16) (harg7 : arg7.IsWhole)
  (arg8 : Memref sig .tc .vmem S8x128x512 .f32) (harg8 : arg8.IsWhole)
  (x0 : Vec F S1 .f32) (x1 : Vec F S1x512x256 .f32) (x2 : Vec F S1x8192x256 .bf16) (x3 : Vec F S1x8192x512 .bf16) (x4 : Vec F S1x64 .f32)

/-- Head `h`'s lanes as the run reads their sources. -/
theorem head_read (c : Dev nD) (h : ℕ) (hh : h < 4) : head x0 x1 x2 x3 x4 h hh
    = k0_pay866 (kernelRun0_A.sl.r_3 c arg2 harg2 x0)
      (arg8.view.readCov (kernelRun0_A.sl.HS0_257 c arg3 harg3 arg4 harg4 arg5 harg5 arg8 x1 x2 x3) (slab (2 * h) (by omega)).toLoadRect)
      (arg8.view.readCov (kernelRun0_A.sl.HS0_257 c arg3 harg3 arg4 harg4 arg5 harg5 arg8 x1 x2 x3) (slab (2 * h + 1) (by omega)).toLoadRect)
      (View.readAt (Elt F) arg6.view gRect.toLoadRect (harg6.unread x4)) := by
  rw [lam_read, read_last, read_last, readAt_ld harg6 x4, ld_g]
  rfl

/-- The run's stores into the output block. -/
theorem run_pieces (c : Dev nD) (i : grid0.Coords) :
    (kernelRun0_A c i arg2 harg2 arg3 harg3 arg4 harg4 arg5 harg5 arg6 harg6 arg7 harg7 arg8 harg8 x0 x1 x2 x3 x4).1
      = [⟨oRect 3 (by decide), head x0 x1 x2 x3 x4 3 (by decide)⟩, ⟨oRect 2 (by decide), head x0 x1 x2 x3 x4 2 (by decide)⟩,
         ⟨oRect 1 (by decide), head x0 x1 x2 x3 x4 1 (by decide)⟩, ⟨oRect 0 (by decide), head x0 x1 x2 x3 x4 0 (by decide)⟩] := by
  simp only [head_read arg2 harg2 arg3 harg3 arg4 harg4 arg5 harg5 arg6 harg6 arg8 x0 x1 x2 x3 x4 c]
  rfl
end

/-- What one grid point leaves in the output block, by head and lane. -/
def blockOut (x0 : Vec F S1 .f32) (x1 : Vec F S1x512x256 .f32) (x2 : Vec F S1x8192x256 .bf16) (x3 : Vec F S1x8192x512 .bf16)
    (x4 : Vec F S1x64 .f32) : Vec F S1x512x256 .bf16 := fun y =>
  head x0 x1 x2 x3 x4 ((y 2).val / 64) (Nat.div_lt_of_lt_mul (y 2).isLt)
    (ix3 (0 : Fin 1) ((y 1).cast rfl : Fin 512) (⟨(y 2).val % 64, Nat.mod_lt _ (by decide)⟩ : Fin 64))

/-- Head `h`'s store is `blockOut` on its lanes. -/
theorem blockOut_piece (x0 : Vec F S1 .f32) (x1 : Vec F S1x512x256 .f32) (x2 : Vec F S1x8192x256 .bf16) (x3 : Vec F S1x8192x512 .bf16)
    (x4 : Vec F S1x64 .f32) (h : ℕ) (hh : h < 4) (x : S1x512x64.Idx) :
    head x0 x1 x2 x3 x4 h hh x = blockOut x0 x1 x2 x3 x4 ((oRect h hh).emb x) := by
  have h2 : (((oRect h hh).emb x) 2).val = 64 * h + (x 2).val := by
    show 64 * h + 1 * (x 2).val = _; omega
  have h1 : (((oRect h hh).emb x) 1).val = (x 1).val := by
    show 0 + 1 * (x 1).val = _; omega
  have hx : (x 2).val < 64 := (x 2).isLt
  have key : ∀ (h' : ℕ) (hh' : h' < 4) (x' : S1x512x64.Idx), h = h' → x = x' →
      head x0 x1 x2 x3 x4 h hh x = head x0 x1 x2 x3 x4 h' hh' x' := by
    intro h' hh' x' e e'; subst e e'; rfl
  unfold blockOut
  refine key _ _ _ (by rw [h2]; omega) ?_
  funext a
  apply Fin.ext
  match a with
  | ⟨0, _⟩ => have : (x 0).val < 1 := (x 0).isLt; show (x 0).val = 0; omega
  | ⟨1, _⟩ => exact h1.symm
  | ⟨2, _⟩ => show (x 2).val = ((oRect h hh).emb x 2).val % 64; rw [h2]; omega

/-- One grid point's output block. -/
theorem out_eq (c : Dev nD) (i : grid0.Coords) (arg2 : Memref sig .tc .smem S1 .f32) (harg2 : arg2.IsWhole)
    (arg3 : Memref sig .tc .vmem S1x512x256 .f32) (harg3 : arg3.IsWhole) (arg4 : Memref sig .tc .vmem S1x8192x256 .bf16)
    (harg4 : arg4.IsWhole) (arg5 : Memref sig .tc .vmem S1x8192x512 .bf16) (harg5 : arg5.IsWhole)
    (arg6 : Memref sig .tc .vmem S1x64 .f32) (harg6 : arg6.IsWhole)
    (arg7 : Memref sig .tc .vmem S1x512x256 .bf16) (harg7 : arg7.IsWhole)
    (arg8 : Memref sig .tc .vmem S8x128x512 .f32) (harg8 : arg8.IsWhole)
    (x0 : Vec F S1 .f32) (x1 : Vec F S1x512x256 .f32) (x2 : Vec F S1x8192x256 .bf16) (x3 : Vec F S1x8192x512 .bf16) (x4 : Vec F S1x64 .f32) :
    out0_A_5 c i arg2 harg2 arg3 harg3 arg4 harg4 arg5 harg5 arg6 harg6 arg7 harg7 arg8 harg8 x0 x1 x2 x3 x4 = blockOut x0 x1 x2 x3 x4 := by
  funext y
  unfold out0_A_5
  refine (View.read_writes_junk_apply_eq_canon _ y _).trans ?_
  have hc := cover0_A_5 c i arg2 harg2 arg3 harg3 arg4 harg4 arg5 harg5 arg6 harg6 arg7 harg7 arg8 harg8 x0 x1 x2 x3 x4 y
  rw [run_pieces] at hc ⊢
  refine View.canon_append_of_piecesOf (blockOut x0 x1 x2 x3 x4) [] _ ?_ y hc
  exact ⟨blockOut_piece x0 x1 x2 x3 x4 3 (by decide), blockOut_piece x0 x1 x2 x3 x4 2 (by decide), blockOut_piece x0 x1 x2 x3 x4 1 (by decide),
    blockOut_piece x0 x1 x2 x3 x4 0 (by decide), trivial⟩

end Cert.Kernel3Ideal.Diff
-- ==== Proof.DiffValue.lean ====
/- The differential attention kernel's output block as a formula: for each head two weighted sums over all keys, each divided by
   the sum of its weights, their difference normalised. -/
module

public import proofs.«01_k».proof.Proof.DiffOut
public import Idealize.ShloMosaic.Lib.WordCmp

@[expose] public section

set_option maxRecDepth 16384

noncomputable section

namespace Cert.Kernel3Ideal.Diff

open Cert.Kernel3Ideal Cert.Kernel3Ideal.Gen Idealize.ShloMosaic Idealize.SL.Sem
open scoped BigOperators

/-- The factor the kernel multiplies the queries by: `1 / (√32 · ln 2)`. -/
def scale : EReal := (((Real.sqrt 32)⁻¹ * (Real.log 2)⁻¹ : ℝ) : EReal)

/-- The kernel's lane groups: lane `l` belongs to map `l / 32`. -/
theorem group_eq : ∀ l : Fin 256, k0_pay3 (ix2 (0 : Fin 1) l) = BitVec.ofNat 32 (l.val / 32) := by
  decide +kernel

/-- The masked queries at an index: scaled in the lanes of the map, zero outside. -/
theorem masked_apply (g : Fin 8) (q : Vec Ideal S1x512x256 .f32) (r : Fin 512) (l : Fin 256) :
    masked g.val q (ix2 r l) = if l.val / 32 = g.val then q (ix3 0 r l) * scale else 0 := by
  pointwise [masked, k0_pay2]
  rw [group_eq, WordCmp.cmpi_eq_eq_toNat]
  have h1 := g.isLt
  have h2 := l.isLt
  have e : ((BitVec.ofNat 32 (l.val / 32)).toNat = (BitVec.ofNat 32 g.val).toNat) ↔ l.val / 32 = g.val := by
    simp only [BitVec.toNat_ofNat]; omega
  by_cases h : l.val / 32 = g.val
  · rw [if_pos h, decide_eq_true (e.mpr h)]
    rfl
  · rw [if_neg h, decide_eq_false (e.not.mpr h)]
    rfl

/-- One accumulation step at an index. -/
theorem step_apply (q : FVec Ideal S512x256 .bf16) (k : Vec Ideal S1x256x256 .bf16) (v : Vec Ideal S1x256x128 .bf16)
    (a : Vec Ideal S1x128x512 .f32) (d : Fin 128) (r : Fin 512) :
    step q k v a (ix3 0 d r) = a (ix3 0 d r)
      + ∑ j : Fin 256, v (ix3 0 j d) * Ideal.exp2 (∑ l : Fin 256, k (ix3 0 j l) * q (ix2 r l)) := by
  pointwise [step]
  rfl

/-- The root mean square normalisation the kernel ends with. -/
def norm (o : Fin 64 → EReal) (d : Fin 64) : EReal :=
  o d * Ideal.rsqrt (Ideal.div (∑ e : Fin 64, o e * o e) (Ideal.ofBits .f32 0x42800000#32) + Ideal.ofBits .f32 0x358637BD#32)

/-- The finalized block at an index: the difference of the two maps, each times a reciprocal of its sum, normalised, times the gain. -/
theorem fin_apply (L : EReal) (a1 a2 : Vec Ideal S1x128x512 .f32) (g : Vec Ideal S1x64 .f32) (r : Fin 512) (d : Fin 64) :
    k0_pay866 (F := Ideal) L a1 a2 g (ix3 0 r d)
      = norm (fun e => a1 (ix3 0 ⟨e.val, by omega⟩ r) * Ideal.div 1 (a1 (ix3 0 64 r))
          - a2 (ix3 0 ⟨e.val, by omega⟩ r) * Ideal.div L (a2 (ix3 0 64 r))) d * g (ix2 0 d) := by
  pointwise [k0_pay866, norm]

/-- Lane `l` of the value head `h`. -/
abbrev lane (h : Fin 4) (l : Fin 128) : Fin 512 := ⟨128 * h.val + l.val, by omega⟩

/-- The value head of map `g`. -/
abbrev headOf (g : Fin 8) : Fin 4 := ⟨g.val / 2, by omega⟩

section
variable (x0 : Vec Ideal S1 .f32) (x1 : Vec Ideal S1x512x256 .f32) (x2 : Vec Ideal S1x8192x256 .bf16) (x3 : Vec Ideal S1x8192x512 .bf16)
  (x4 : Vec Ideal S1x64 .f32)

/-- The weighted value of key `t` in lane `d` of map `g` for query row `r`. -/
def term (g : Fin 8) (d : Fin 128) (r : Fin 512) (t : Fin 8192) : EReal :=
  x3 (ix3 0 t (lane (headOf g) d)) * Ideal.exp2 (∑ l : Fin 256, x2 (ix3 0 t l) * (if l.val / 32 = g.val then x1 (ix3 0 r l) * scale else 0))

/-- The same, at any natural number. -/
def termN (g : Fin 8) (d : Fin 128) (r : Fin 512) (t : ℕ) : EReal :=
  if ht : t < 8192 then term x1 x2 x3 g d r ⟨t, ht⟩ else 0

/-- The accumulator of map `g` after `n` chunks sums the keys of those chunks. -/
theorem acc_apply (g : Fin 8) (d : Fin 128) (r : Fin 512) (n : ℕ) (hn : n ≤ 32) :
    acc x1 x2 x3 g.val g.isLt n (ix3 0 d r) = ∑ t ∈ Finset.range (256 * n), termN x1 x2 x3 g d r t := by
  induction n with
  | zero =>
    show Ideal.ofBits .f32 0x00000000#32 = _
    simp
  | succ n ih =>
    rw [Nat.mul_succ, Finset.sum_range_add, ← ih (by omega)]
    refine (step_apply _ _ _ _ d r).trans ?_
    refine congrArg _ ?_
    rw [Finset.sum_range]
    refine Finset.sum_congr rfl fun j _ => ?_
    have hj : 256 * n + j.val < 8192 := by have := j.isLt; omega
    unfold termN
    rw [dif_pos hj]
    unfold term
    have hnn : n % 32 = n := Nat.mod_eq_of_lt (by omega)
    have ek (l : Fin 256) : (kRect (n % 32) (Nat.mod_lt _ (by decide))).idx (ix3 0 j l) = ix3 0 ⟨256 * n + j.val, hj⟩ l := by
      funext a; apply Fin.ext
      match a with
      | ⟨0, _⟩ => rfl
      | ⟨1, _⟩ => show 256 * (n % 32) + 1 * j.val = _; rw [hnn, one_mul]; rfl
      | ⟨2, _⟩ => show 0 + 1 * l.val = _; rw [one_mul, zero_add]; rfl
    have ev (hh : g.val / 2 < 4) : (vRect (n % 32) (g.val / 2) (Nat.mod_lt _ (by decide)) hh).idx (ix3 0 j d)
        = ix3 0 ⟨256 * n + j.val, hj⟩ (lane (headOf g) d) := by
      funext a; apply Fin.ext
      match a with
      | ⟨0, _⟩ => rfl
      | ⟨1, _⟩ => show 256 * (n % 32) + 1 * j.val = _; rw [hnn, one_mul]; rfl
      | ⟨2, _⟩ => show 128 * (g.val / 2) + 1 * d.val = _; rw [one_mul]; rfl
    refine congrArg₂ (· * ·) (congrArg x3 (ev _)) (congrArg Ideal.exp2 (Finset.sum_congr rfl fun l _ => ?_))
    exact congrArg₂ (· * ·) (congrArg x2 (ek l)) (masked_apply g x1 r l)

/-- The accumulator of map `g` after all chunks sums all keys. -/
theorem acc_all (g : Fin 8) (d : Fin 128) (r : Fin 512) :
    acc x1 x2 x3 g.val g.isLt 32 (ix3 0 d r) = ∑ t : Fin 8192, term x1 x2 x3 g d r t := by
  rw [acc_apply _ _ _ _ _ _ _ (le_refl _)]
  simp only [Nat.reduceMul, Finset.sum_range, termN, Fin.is_lt, dite_true, Fin.eta]

/-- The two maps of head `h`. -/
abbrev map0 (h : Fin 4) : Fin 8 := ⟨2 * h.val, by omega⟩
@[inherit_doc map0] abbrev map1 (h : Fin 4) : Fin 8 := ⟨2 * h.val + 1, by omega⟩

/-- One grid point's output block. -/
theorem blockOut_apply (h : Fin 4) (d : Fin 64) (r : Fin 512) :
    blockOut x0 x1 x2 x3 x4 (ix3 0 r ⟨64 * h.val + d.val, by omega⟩)
      = norm (fun e => (∑ t : Fin 8192, term x1 x2 x3 (map0 h) ⟨e.val, by omega⟩ r t) * Ideal.div 1 (∑ t : Fin 8192, term x1 x2 x3 (map0 h) 64 r t)
          - (∑ t : Fin 8192, term x1 x2 x3 (map1 h) ⟨e.val, by omega⟩ r t) * Ideal.div (x0 (ix1 0)) (∑ t : Fin 8192, term x1 x2 x3 (map1 h) 64 r t)) d
        * x4 (ix2 0 d) := by
  have key : ∀ (h' : ℕ) (hh' : h' < 4) (d' : Fin 64), h' = h.val → d' = d →
      head x0 x1 x2 x3 x4 h' hh' (ix3 0 r d') = head x0 x1 x2 x3 x4 h.val h.isLt (ix3 0 r d) := by
    intro h' hh' d' e e'; subst e e'; rfl
  refine (key _ _ _ (by show (64 * h.val + d.val) / 64 = _; omega) (Fin.ext (by show (64 * h.val + d.val) % 64 = _; omega))).trans ?_
  unfold head
  rw [fin_apply]
  simp only [acc_all _ _ _ (map0 h), acc_all _ _ _ (map1 h)]
end

end Cert.Kernel3Ideal.Diff
-- ==== Proof.DiffArray.lean ====
/- The differential attention kernel's result array after the run, as a formula over the arrays its windows read. -/
module

public import proofs.«01_k».proof.Proof.DiffValue

@[expose] public section

set_option maxRecDepth 16384

noncomputable section

namespace Cert.Kernel3Ideal.Diff

open Cert.Kernel3Ideal Cert.Kernel3Ideal.Gen Idealize.ShloMosaic Idealize.ShloMosaic.TcCoe Idealize.SL.Sem
open scoped BigOperators

/-- The windows' block indices: the grid is (batch, query tile). -/
theorem idx : ∀ t : Fin cfg0.N, win0_1.index t = ![t.val / 16, t.val % 16, 0] ∧ win0_2.index t = ![t.val / 16, 0, 0]
    ∧ win0_3.index t = ![t.val / 16, 0, 0] ∧ win0_5.index t = ![t.val / 16, t.val % 16, 0] ∧ t.val / 16 < 4
    ∧ win0_0.index t = ![0] ∧ win0_4.index t = ![0, 0] :=
  (by decide +kernel : ∀ t : Fin grid0.N, _)

section
variable (L : FVec Ideal S1 .f32) (Q : FVec Ideal S4x8192x256 .f32) (K : FVec Ideal S4x8192x256 .bf16) (W : FVec Ideal S4x8192x512 .bf16)
  (G : FVec Ideal S1x64 .f32)

/-- The unnormalised attention value: lane `d` of map `g` of batch `b`, query `r`, summed over all keys. -/
def wsum (b : Fin 4) (g : Fin 8) (d : Fin 128) (r : Fin 8192) : EReal :=
  ∑ t : Fin 8192, W (ix3 b t (lane (headOf g) d))
    * Ideal.exp2 (∑ l : Fin 256, K (ix3 b t l) * (if l.val / 32 = g.val then Q (ix3 b r l) * scale else 0))

/-- A head's lane before the normalisation: the first map less the second times the factor. -/
def mix (b : Fin 4) (h : Fin 4) (r : Fin 8192) (e : Fin 64) : EReal :=
  wsum Q K W b (map0 h) ⟨e.val, by omega⟩ r * Ideal.div 1 (wsum Q K W b (map0 h) 64 r)
    - wsum Q K W b (map1 h) ⟨e.val, by omega⟩ r * Ideal.div (L (ix1 0)) (wsum Q K W b (map1 h) 64 r)

/-- The result array at a head's lane. -/
def resultAt (b : Fin 4) (R : Fin 8192) (h : Fin 4) (d : Fin 64) : EReal := norm (mix L Q K W b h R) d * G (ix2 0 d)

/-- The result array. -/
def result : FVec Ideal S4x8192x256 .bf16 := fun i =>
  resultAt L Q K W G ((i 0).cast rfl) ((i 1).cast rfl) ⟨(i 2).val / 64, Nat.div_lt_of_lt_mul (i 2).isLt⟩ ⟨(i 2).val % 64, Nat.mod_lt _ (by decide)⟩

/-- The result array at a head's lane. -/
theorem result_apply (b : Fin 4) (R : Fin 8192) (h : Fin 4) (d : Fin 64) (e : Fin 256) (he : e.val = 64 * h.val + d.val) :
    result L Q K W G (ix3 b R e) = resultAt L Q K W G b R h d := by
  have key : ∀ (h' : Fin 4) (d' : Fin 64), h' = h → d' = d → resultAt L Q K W G b R h' d' = resultAt L Q K W G b R h d := by
    intro h' d' e1 e2; rw [e1, e2]
  exact key _ _ (Fin.ext (by show e.val / 64 = h.val; omega)) (Fin.ext (by show e.val % 64 = d.val; omega))

/-- One grid point's block is the array's result on its rows. -/
theorem block_eq (x0 : Vec Ideal S1 .f32) (x1 : Vec Ideal S1x512x256 .f32) (x2 : Vec Ideal S1x8192x256 .bf16) (x3 : Vec Ideal S1x8192x512 .bf16)
    (x4 : Vec Ideal S1x64 .f32) (b : Fin 4) (r : Fin 512) (R : Fin 8192) (h : Fin 4) (d : Fin 64)
    (h0 : x0 (ix1 0) = L (ix1 0)) (h1 : ∀ l, x1 (ix3 0 r l) = Q (ix3 b R l)) (h2 : ∀ t l, x2 (ix3 0 t l) = K (ix3 b t l))
    (h3 : ∀ t l, x3 (ix3 0 t l) = W (ix3 b t l)) (h4 : ∀ d, x4 (ix2 0 d) = G (ix2 0 d)) :
    blockOut x0 x1 x2 x3 x4 (ix3 0 r ⟨64 * h.val + d.val, by omega⟩) = result L Q K W G (ix3 b R ⟨64 * h.val + d.val, by omega⟩) := by
  have hw (g : Fin 8) (e : Fin 128) : (∑ t : Fin 8192, term x1 x2 x3 g e r t) = wsum Q K W b g e R := by
    unfold term wsum
    simp only [h1, h2, h3]
  rw [result_apply L Q K W G b R h d _ rfl, blockOut_apply]
  simp only [hw, h0, h4]
  rfl
end

/-- The factor window holds the whole one-entry array. -/
theorem read0 (A : FVec Ideal S1 .f32) (t : Fin cfg0.N) : ((cfg0.win 0).blk t).view.read (Elt Ideal) A (ix1 0) = A (ix1 0) :=
  have e : ((cfg0.win 0).blk t).view.emb (ix1 0) = ix1 0 := by
    blk_ext [(idx t).2.2.2.2.2.1]
  congrArg A e

/-- The query window's block at a grid point: rows of its batch and tile. -/
theorem read1 (A : FVec Ideal S4x8192x256 .f32) (t : Fin cfg0.N) (ht : t.val / 16 < 4) (r : Fin 512) (l : Fin 256) :
    ((cfg0.win 1).blk t).view.read (Elt Ideal) A (ix3 0 r l)
      = A (ix3 (⟨t.val / 16, ht⟩ : Fin 4) (⟨t.val % 16 * 512 + r.val, by omega⟩ : Fin 8192) l) :=
  have e : ((cfg0.win 1).blk t).view.emb (ix3 0 r l)
      = ix3 (⟨t.val / 16, ht⟩ : Fin 4) (⟨t.val % 16 * 512 + r.val, by omega⟩ : Fin 8192) l := by
    blk_ext [(idx t).1]
  congrArg A e

/-- The key window's block at a grid point: all rows of its batch. -/
theorem read2 (A : FVec Ideal S4x8192x256 .bf16) (t : Fin cfg0.N) (ht : t.val / 16 < 4) (k : Fin 8192) (l : Fin 256) :
    ((cfg0.win 2).blk t).view.read (Elt Ideal) A (ix3 0 k l) = A (ix3 (⟨t.val / 16, ht⟩ : Fin 4) k l) :=
  have e : ((cfg0.win 2).blk t).view.emb (ix3 0 k l) = ix3 (⟨t.val / 16, ht⟩ : Fin 4) k l := by
    blk_ext [(idx t).2.1]
  congrArg A e

/-- The value window's block at a grid point: all rows of its batch. -/
theorem read3 (A : FVec Ideal S4x8192x512 .bf16) (t : Fin cfg0.N) (ht : t.val / 16 < 4) (k : Fin 8192) (l : Fin 512) :
    ((cfg0.win 3).blk t).view.read (Elt Ideal) A (ix3 0 k l) = A (ix3 (⟨t.val / 16, ht⟩ : Fin 4) k l) :=
  have e : ((cfg0.win 3).blk t).view.emb (ix3 0 k l) = ix3 (⟨t.val / 16, ht⟩ : Fin 4) k l := by
    blk_ext [(idx t).2.2.1]
  congrArg A e

/-- The gain window holds the whole array. -/
theorem read4 (A : FVec Ideal S1x64 .f32) (t : Fin cfg0.N) (d : Fin 64) :
    ((cfg0.win 4).blk t).view.read (Elt Ideal) A (ix2 0 d) = A (ix2 0 d) :=
  have e : ((cfg0.win 4).blk t).view.emb (ix2 0 d) = ix2 0 d := by
    blk_ext [(idx t).2.2.2.2.2.2]
  congrArg A e

/-- The result window's block at a grid point. -/
theorem emb5 (t : Fin cfg0.N) (ht : t.val / 16 < 4) (r : Fin 512) (e : Fin 256) :
    ((cfg0.win 5).blk t).view.emb (ix3 0 r e)
      = ix3 (⟨t.val / 16, ht⟩ : Fin 4) (⟨t.val % 16 * 512 + r.val, by omega⟩ : Fin 8192) e := by
  blk_ext [(idx t).2.2.2.1]

/-- One grid point's block, computed from the blocks of the arrays, is the block of their result. -/
theorem point (L : FVec Ideal S1 .f32) (Q : FVec Ideal S4x8192x256 .f32) (K : FVec Ideal S4x8192x256 .bf16) (W : FVec Ideal S4x8192x512 .bf16)
    (G : FVec Ideal S1x64 .f32) (t : Fin cfg0.N) (y : S1x512x256.Idx) :
    blockOut (F := Ideal) (((cfg0.win 0).blk t).view.read (Elt Ideal) L) (((cfg0.win 1).blk t).view.read (Elt Ideal) Q)
        (((cfg0.win 2).blk t).view.read (Elt Ideal) K) (((cfg0.win 3).blk t).view.read (Elt Ideal) W)
        (((cfg0.win 4).blk t).view.read (Elt Ideal) G) y
      = result L Q K W G (((cfg0.win 5).blk t).view.emb y) := by
  have ht := (idx t).2.2.2.2.1
  obtain ⟨u, r, e, rfl⟩ : ∃ (u : Fin 1) (r : Fin 512) (e : Fin 256), y = ix3 u r e := ⟨y 0, y 1, y 2, eq_ix3 y⟩
  obtain rfl : u = 0 := Subsingleton.elim _ _
  obtain ⟨h, d, rfl⟩ : ∃ (h : Fin 4) (d : Fin 64), e = ⟨64 * h.val + d.val, by omega⟩ :=
    ⟨⟨e.val / 64, by omega⟩, ⟨e.val % 64, by omega⟩, Fin.ext (by show e.val = 64 * (e.val / 64) + e.val % 64; omega)⟩
  exact (block_eq L Q K W G _ _ _ _ _ ⟨t.val / 16, ht⟩ r ⟨t.val % 16 * 512 + r.val, by omega⟩ h d
    (read0 L t) (fun l => read1 Q t ht r l) (fun k l => read2 K t ht k l) (fun k l => read3 W t ht k l) (fun d => read4 G t d)).trans
    (congrArg (result L Q K W G) (emb5 t ht r _).symm)

variable (m : (ℓ : Loc nD τ sig) → Buf (Elt Ideal) ℓ)

/-- The result buffer after the run. -/
theorem final (c : Dev nD) : (dats m 0 c).arrAt 5 cfg0.N
    = result (V m c main_v13) (V m c main_v20) (V m c main_v22) (V m c main_v4) (V m c main_v19) := by
  refine (dats m 0 c).arrAt_eq_of_covers 5 _ (by decide +kernel) fun t _ y => ?_
  blk_simp
  rw [after0_5]
  unfold outsAt0
  rw [out_eq]
  exact point (V m c main_v13) (V m c main_v20) (V m c main_v22) (V m c main_v4) (V m c main_v19) t y

end Cert.Kernel3Ideal.Diff
-- ==== Proof.DiffRef.lean ====
/- The differential attention reference, read at an index: the values weighted by the difference of two softmaxes, normalised. -/
module

public import proofs.«01_k».proof.Proof.Gen.Reference3Ideal.Run
public import proofs.«01_k».proof.Proof.Gen.Reference3Ideal
public import proofs.«01_k».proof.Proof.MlaRef
public import Idealize.ShloMosaic.Lib.Pointwise

@[expose] public section

set_option maxRecDepth 16384

noncomputable section

namespace Cert.Reference3Ideal.Diff

open Cert.Reference3Ideal Cert.Reference3Ideal.Gen Idealize.ShloMosaic Idealize.SL.Sem
open Cert.ReferenceIdeal.Mla (exps normed rmax)
open scoped BigOperators

/-- The first of each head's two halves. -/
def half0 (x : FVec Ideal S4x8192x8x32 .f32) : FVec Ideal S4x8192x4x32 .f32 :=
  shapeCast S4x8192x4x32 (extractStridedSlice S4x8192x4x1x32 ![0, 0, 0, 0, 0]
    (shapeCast S4x8192x4x2x32 x shapeCasts_S4x8192x8x32_S4x8192x4x2x32) slices_S4x8192x4x2x32_S4x8192x4x1x32_0_0_0_0_0)
    shapeCasts_S4x8192x4x1x32_S4x8192x4x32

/-- The second. -/
def half1 (x : FVec Ideal S4x8192x8x32 .f32) : FVec Ideal S4x8192x4x32 .f32 :=
  shapeCast S4x8192x4x32 (extractStridedSlice S4x8192x4x1x32 ![0, 0, 0, 1, 0]
    (shapeCast S4x8192x4x2x32 x shapeCasts_S4x8192x8x32_S4x8192x4x2x32) slices_S4x8192x4x2x32_S4x8192x4x1x32_0_0_0_1_0)
    shapeCasts_S4x8192x4x1x32_S4x8192x4x32

/-- The scores: products of queries and keys over the square root of 32. -/
def scores (q k : FVec Ideal S4x8192x4x32 .f32) : FVec Ideal S4x4x8192x8192 .f32 :=
  Host.divf (Host.dotGeneral dot_S4x8192x4x32_S4x8192x4x32_S4x4x8192x8192_3_3_1_1_02_02 none q k)
    (broadcastInDim S4x4x8192x8192 ![] bcast_S_S4x4x8192x8192 (Host.sqrt (constant S_ .f32 0x42000000#32)))

/-- The factor of the second softmax. -/
def lam (a1 b1 a2 b2 : FVec Ideal S32 .f32) (l0 : FVec Ideal S1 .f32) : FVec Ideal S1 .f32 :=
  addf (broadcastInDim S1 ![] bcast_S_S1 (subf
    (Host.exp (Host.reduceAdd (mulf a1 b1) (constant S_ .f32 0x00000000#32) reducesTo_S32_S_d0 h_S_))
    (Host.exp (Host.reduceAdd (mulf a2 b2) (constant S_ .f32 0x00000000#32) reducesTo_S32_S_d0 h_S_)) : FVec Ideal S_ .f32)) l0

/-- The values weighted by the difference of the two softmaxes. -/
def mixed (p1 p2 : FVec Ideal S4x4x8192x8192 .f32) (L : FVec Ideal S1 .f32) (v : FVec Ideal S4x8192x4x64 .f32) : FVec Ideal S4x8192x4x64 .f32 :=
  transpose S4x8192x4x64 [0, 3, 1, 2] (Host.dotGeneral dot_S4x8192x4x64_S4x4x8192x8192_S4x4x64x8192_1_3_3_2_02_01 none v
    (subf p1 (mulf (broadcastInDim S4x4x8192x8192 ![0, 1, 2, 3] bcast_S1x1x1x1_S4x4x8192x8192_0_1_2_3
      (broadcastInDim S1x1x1x1 ![3] bcast_S1_S1x1x1x1_3 L)) p2))) transposes_S4x4x64x8192_S4x8192x4x64_0_3_1_2

/-- Each head divided by its root mean square, times the gain and one less the factor's offset, heads side by side. -/
def finished (o : FVec Ideal S4x8192x4x64 .f32) (g : FVec Ideal S64 .f32) (l0 : FVec Ideal S1 .f32) : FVec Ideal S4x8192x256 .bf16 :=
  truncf .bf16 (shapeCast S4x8192x256 (mulf (mulf (mulf o (broadcastInDim S4x8192x4x64 ![0, 1, 2, 3] bcast_S4x8192x4x1_S4x8192x4x64_0_1_2_3
    (Host.rsqrt (addf (Host.divf (broadcastInDim S4x8192x4x1 ![0, 1, 2] bcast_S4x8192x4_S4x8192x4x1_0_1_2
      (Host.reduceAdd (mulf o o) (constant S_ .f32 0x00000000#32) reducesTo_S4x8192x4x64_S4x8192x4_d3 h_S_))
      (broadcastInDim S4x8192x4x1 ![] bcast_S_S4x8192x4x1 (constant S_ .f32 0x42800000#32)))
      (broadcastInDim S4x8192x4x1 ![] bcast_S_S4x8192x4x1 (constant S_ .f32 0x358637BD#32))))))
    (broadcastInDim S4x8192x4x64 ![0, 1, 2, 3] bcast_S1x1x1x64_S4x8192x4x64_0_1_2_3 (broadcastInDim S1x1x1x64 ![3] bcast_S64_S1x1x1x64_3 g)))
    (broadcastInDim S4x8192x4x64 ![0, 1, 2, 3] bcast_S1x1x1x1_S4x8192x4x64_0_1_2_3 (broadcastInDim S1x1x1x1 ![3] bcast_S1_S1x1x1x1_3
      (subf (broadcastInDim S1 ![] bcast_S_S1 (constant S_ .f32 0x3F800000#32)) l0)))) shapeCasts_S4x8192x4x64_S4x8192x256 : FVec Ideal S4x8192x256 .f32) bitsLt_bf16_f32

/-- The reference's result. -/
def out (q k : FVec Ideal S4x8192x8x32 .f32) (v : FVec Ideal S4x8192x4x64 .f32) (a1 b1 a2 b2 : FVec Ideal S32 .f32) (g : FVec Ideal S64 .f32)
    (l0 : FVec Ideal S1 .f32) : FVec Ideal S4x8192x256 .bf16 :=
  finished (mixed (normed (exps (scores (half0 q) (half0 k)))) (normed (exps (scores (half1 q) (half1 k)))) (lam a1 b1 a2 b2 l0) v) g l0

/-- Component `e` of a head's first half. -/
theorem half0_apply (x : FVec Ideal S4x8192x8x32 .f32) (b : Fin 4) (s : Fin 8192) (h : Fin 4) (e : Fin 32) :
    half0 x (ix4 b s h e) = x (ix4 b s ⟨h.val * 2, by omega⟩ e) := by
  pointwise [half0]

/-- Component `e` of a head's second half. -/
theorem half1_apply (x : FVec Ideal S4x8192x8x32 .f32) (b : Fin 4) (s : Fin 8192) (h : Fin 4) (e : Fin 32) :
    half1 x (ix4 b s h e) = x (ix4 b s ⟨h.val * 2 + 1, by omega⟩ e) := by
  pointwise [half1]

/-- A score: a product over 32 components, divided by the square root of 32. -/
theorem scores_apply (q k : FVec Ideal S4x8192x4x32 .f32) (b h : Fin 4) (r t : Fin 8192) :
    scores q k (ix4 b h r t) = Ideal.div (∑ l : Fin 32, q (ix4 b r h l) * k (ix4 b t h l)) (Ideal.sqrt ((32 : ℝ) : EReal)) := by
  have e : (Ideal.ofBits FTy.f32 0x42000000#32 : EReal) = ((32 : ℝ) : EReal) := by
    simp [Ideal.ofBits, Ideal.ieee, -EReal.coe_mul]; norm_num
  pointwise [scores]
  rw [e]

/-- The factor: the difference of two exponentials of dot products, plus its offset. -/
theorem lam_apply (a1 b1 a2 b2 : FVec Ideal S32 .f32) (l0 : FVec Ideal S1 .f32) :
    lam a1 b1 a2 b2 l0 (ix1 0) = Ideal.exp (∑ l : Fin 32, a1 (ix1 l) * b1 (ix1 l)) - Ideal.exp (∑ l : Fin 32, a2 (ix1 l) * b2 (ix1 l)) + l0 (ix1 0) := by
  pointwise [lam]

/-- A weighted value. -/
theorem mixed_apply (p1 p2 : FVec Ideal S4x4x8192x8192 .f32) (L : FVec Ideal S1 .f32) (v : FVec Ideal S4x8192x4x64 .f32)
    (b h : Fin 4) (r : Fin 8192) (d : Fin 64) :
    mixed p1 p2 L v (ix4 b r h d) = ∑ t : Fin 8192, v (ix4 b t h d) * (p1 (ix4 b h r t) - L (ix1 0) * p2 (ix4 b h r t)) := by
  pointwise [mixed]

/-- The result at a head's lane. -/
theorem finished_apply (o : FVec Ideal S4x8192x4x64 .f32) (g : FVec Ideal S64 .f32) (l0 : FVec Ideal S1 .f32) (b h : Fin 4) (r : Fin 8192) (d : Fin 64) :
    finished o g l0 (ix3 b r ⟨64 * h.val + d.val, by omega⟩)
      = o (ix4 b r h d) * Ideal.rsqrt (Ideal.div (∑ e : Fin 64, o (ix4 b r h e) * o (ix4 b r h e)) (Ideal.ofBits .f32 0x42800000#32)
          + Ideal.ofBits .f32 0x358637BD#32) * g (ix1 d) * (1 - l0 (ix1 0)) := by
  pointwise [finished]

/-- The run's result is `out` of the arguments. -/
theorem res_eq (m : (ℓ : Loc nD τ sig) → Buf (Elt Ideal) ℓ) (c : Dev nD) : Value.res_main_v74 m c
    = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_main_v74
  rfl

end Cert.Reference3Ideal.Diff

end
-- ==== Proof.DiffHost.lean ====
/- The arrays the differential attention kernel's windows read, as the host code before it leaves them. -/
module

public import proofs.«01_k».proof.Proof.DiffArray
public import proofs.«01_k».proof.Proof.DiffRef
public import proofs.«01_k».proof.Proof.MlaHost
public import Idealize.ShloMosaic.Lib.Tactic.CleanTypes

@[expose] public section

set_option maxRecDepth 16384

noncomputable section

namespace Cert.Kernel3Ideal.Diff

open Cert.Kernel3Ideal Cert.Kernel3Ideal.Gen Idealize.ShloMosaic Idealize.ShloMosaic.TcCoe Idealize.SL.Sem
open Cert.KernelIdeal.Mla (padV)
open Cert.Reference3Ideal.Diff (lam)
open scoped BigOperators

variable (m : (ℓ : Loc nD τ sig) → Buf (Elt Ideal) ℓ)

/-- The heads' maps side by side. -/
def flat (x : FVec Ideal S4x8192x8x32 .f32) : FVec Ideal S4x8192x256 .f32 := shapeCast S4x8192x256 x shapeCasts_S4x8192x8x32_S4x8192x256

/-- The gain times one less the factor's offset. -/
def gain (g : FVec Ideal S64 .f32) (l0 : FVec Ideal S1 .f32) : FVec Ideal S1x64 .f32 :=
  mulf (shapeCast S1x64 g shapeCasts_S64_S1x64)
    (broadcastInDim S1x64 ![0, 1] bcast_S1x1_S1x64_0_1 (broadcastInDim S1x1 ![1] bcast_S1_S1x1_1
      (subf (broadcastInDim S1 ![] bcast_S_S1 (constant S_ .f32 0x3F800000#32)) l0)))

/-- The windows' arrays. -/
theorem windows (c : Dev nD) :
    V m c main_v13 = lam (m ((c : Thread nD τ).loc main_arg3)) (m ((c : Thread nD τ).loc main_arg4)) (m ((c : Thread nD τ).loc main_arg5))
      (m ((c : Thread nD τ).loc main_arg6)) (m ((c : Thread nD τ).loc main_arg8))
    ∧ V m c main_v20 = flat (m ((c : Thread nD τ).loc main_arg0))
    ∧ V m c main_v22 = (truncf .bf16 (flat (m ((c : Thread nD τ).loc main_arg1))) bitsLt_bf16_f32 : FVec Ideal S4x8192x256 .bf16)
    ∧ V m c main_v4 = padV (m ((c : Thread nD τ).loc main_arg2))
    ∧ V m c main_v19 = gain (m ((c : Thread nD τ).loc main_arg7)) (m ((c : Thread nD τ).loc main_arg8)) := by
  refine ⟨?_, ?_, ?_, ?_, ?_⟩ <;>
  (unfold V
   simp only [hostOps0, hostOps0_1, hostOps0_2, List.flatten_cons, List.flatten_nil, List.append_nil, List.cons_append, List.nil_append]
   after_results
   try simp -implicitDefEqProofs only [StableHlo.TRef.toBuf, StableHlo.TRef.ofBuf, cast_cast, cast_eq]
   rfl)

/-- The flattened array at lane `e` of map `g`. -/
theorem flat_apply (x : FVec Ideal S4x8192x8x32 .f32) (b : Fin 4) (s : Fin 8192) (g : Fin 8) (e : Fin 32) :
    flat x (ix3 b s ⟨32 * g.val + e.val, by omega⟩) = x (ix4 b s g e) := by
  pointwise [flat]

/-- The gain at a lane. -/
theorem gain_apply (g : FVec Ideal S64 .f32) (l0 : FVec Ideal S1 .f32) (d : Fin 64) :
    gain g l0 (ix2 0 d) = g (ix1 d) * (1 - l0 (ix1 0)) := by
  pointwise [gain]

end Cert.Kernel3Ideal.Diff
-- ==== Proof.DiffMath.lean ====
/- The differential attention identity over the extended reals: the difference of two softmaxes weighting the values is the
   difference of two unnormalised sums, each divided once. -/
module

public import proofs.«01_k».proof.Proof.MlaMath
public import Mathlib.Logic.Equiv.Fin.Basic

@[expose] public section

noncomputable section

namespace Cert.Attention

open Idealize.ShloMosaic
open scoped BigOperators

/-- A softmax weight, computed with a maximum subtracted, is the weight without it. -/
theorem weight_coe {ι : Type} [Fintype ι] [Nonempty ι] (a : ι → ℝ) (M : ℝ) (t : ι) :
    Ideal.div (Ideal.exp ((a t : EReal) - (M : EReal))) (∑ u, Ideal.exp ((a u : EReal) - (M : EReal)))
      = ((Real.exp (a t) / ∑ u, Real.exp (a u) : ℝ) : EReal) := by
  have hS : 0 < ∑ t, Real.exp (a t) := Finset.sum_pos (fun t _ => Real.exp_pos _) Finset.univ_nonempty
  have hT : 0 < ∑ t, Real.exp (a t - M) := Finset.sum_pos (fun t _ => Real.exp_pos _) Finset.univ_nonempty
  have hTS : ∑ t, Real.exp (a t - M) = (∑ t, Real.exp (a t)) / Real.exp M := by
    rw [Finset.sum_div]; exact Finset.sum_congr rfl fun t _ => Real.exp_sub _ _
  have he : ∀ t, Ideal.exp ((a t : EReal) - (M : EReal)) = ((Real.exp (a t - M) : ℝ) : EReal) := fun t => by
    rw [← EReal.coe_sub]; rfl
  rw [Finset.sum_congr rfl fun u _ => he u, he, coe_sum, div_coe _ _ hT.ne', hTS, Real.exp_sub]
  congr 1
  have := Real.exp_pos M
  field_simp

/-- Two unnormalised sums, each divided by the sum of its weights and the second times a factor, subtracted: the values
    weighted by the difference of the softmaxes. -/
theorem diff_eq {ι : Type} [Fintype ι] [Nonempty ι] (w a b : ι → ℝ) (M N L : ℝ) :
    (∑ t, (w t : EReal) * ((Real.exp (a t) : ℝ) : EReal)) * Ideal.div 1 (∑ t, 1 * ((Real.exp (a t) : ℝ) : EReal))
      - (∑ t, (w t : EReal) * ((Real.exp (b t) : ℝ) : EReal)) * Ideal.div (L : EReal) (∑ t, 1 * ((Real.exp (b t) : ℝ) : EReal))
      = ∑ t, (w t : EReal) * (Ideal.div (Ideal.exp ((a t : EReal) - (M : EReal))) (∑ u, Ideal.exp ((a u : EReal) - (M : EReal)))
          - (L : EReal) * Ideal.div (Ideal.exp ((b t : EReal) - (N : EReal))) (∑ u, Ideal.exp ((b u : EReal) - (N : EReal)))) := by
  have hA : 0 < ∑ t, Real.exp (a t) := Finset.sum_pos (fun t _ => Real.exp_pos _) Finset.univ_nonempty
  have hB : 0 < ∑ t, Real.exp (b t) := Finset.sum_pos (fun t _ => Real.exp_pos _) Finset.univ_nonempty
  have h1 : Ideal.div 1 ((∑ t, Real.exp (a t) : ℝ) : EReal) = ((1 / ∑ t, Real.exp (a t) : ℝ) : EReal) := div_coe 1 _ hA.ne'
  simp only [weight_coe]
  simp only [one_mul, ← EReal.coe_mul, ← EReal.coe_sub, coe_sum]
  rw [h1, div_coe _ _ hB.ne', ← EReal.coe_mul, ← EReal.coe_mul, ← EReal.coe_sub]
  congr 1
  rw [Finset.sum_mul, Finset.sum_mul, ← Finset.sum_sub_distrib]
  exact Finset.sum_congr rfl fun t _ => by ring

/-- A dot product over 256 lanes of which one vector keeps only group `g` of 32 is the product over that group. -/
theorem masked_dot (g : Fin 8) (k q : Fin 256 → EReal) :
    (∑ l : Fin 256, k l * (if l.val / 32 = g.val then q l else 0))
      = ∑ e : Fin 32, k ⟨32 * g.val + e.val, by omega⟩ * q ⟨32 * g.val + e.val, by omega⟩ := by
  have e : ∀ (p : Fin 8 × Fin 32), (finProdFinEquiv p : Fin 256) = ⟨32 * p.1.val + p.2.val, by omega⟩ := fun p =>
    Fin.ext (by show p.2.val + 32 * p.1.val = 32 * p.1.val + p.2.val; omega)
  rw [← (finProdFinEquiv (m := 8) (n := 32)).sum_comp, Fintype.sum_prod_type, Finset.sum_eq_single g]
  · refine Finset.sum_congr rfl fun d _ => ?_
    rw [e, if_pos (by show (32 * g.val + d.val) / 32 = _; omega)]
  · intro h _ hne
    refine Finset.sum_eq_zero fun d _ => ?_
    rw [e, if_neg (by have := Fin.val_ne_of_ne hne; show ¬ (32 * h.val + d.val) / 32 = _; omega), mul_zero]
  · intro h; exact absurd (Finset.mem_univ g) h

end Cert.Attention

end
-- ==== Proof.DiffEq.lean ====
/- The differential attention kernel's result is the reference's, when the arrays but the gain are real numbers. -/
module

public import proofs.«01_k».proof.Proof.DiffHost
public import proofs.«01_k».proof.Proof.DiffMath
public import proofs.«01_k».proof.Defs
public import proofs.«01_k».proof.Proof.Gen.Pre_finite3
public import Idealize.ShloMosaic.Lib.ReduceAll

@[expose] public section

set_option maxRecDepth 16384

noncomputable section

namespace Cert.Diff

open Cert.Kernel3Ideal.Diff Cert.Reference3Ideal.Diff Idealize.ShloMosaic Cert.Attention
open Cert.ReferenceIdeal.Mla (exps normed rmax exps_apply normed_apply rmax_real)
open Cert.KernelIdeal.Mla (padV padV_apply padV_one)
open scoped BigOperators

abbrev A32 := FVec Ideal Cert.Kernel3Ideal.S4x8192x8x32 .f32
abbrev A64 := FVec Ideal Cert.Kernel3Ideal.S4x8192x4x64 .f32
abbrev L32 := FVec Ideal Cert.Kernel3Ideal.S32 .f32
abbrev G64 := FVec Ideal Cert.Kernel3Ideal.S64 .f32
abbrev L1 := FVec Ideal Cert.Kernel3Ideal.S1 .f32

/-- Under the precondition every array but the gain holds real numbers. -/
theorem real_of_pre [Cert.Pre_finite3.Facts] (q k : A32) (v : A64) (a1 b1 a2 b2 : L32) (g : G64) (l0 : L1)
    (h : Cert.Pre_finite3.fn (F := Ideal) q k v a1 b1 a2 b2 g l0 = fun _ => 1#1) :
    (∀ i, ∃ r : ℝ, q i = r) ∧ (∀ i, ∃ r : ℝ, k i = r) ∧ (∀ i, ∃ r : ℝ, v i = r) ∧ (∀ i, ∃ r : ℝ, a1 i = r) ∧ (∀ i, ∃ r : ℝ, b1 i = r)
      ∧ (∀ i, ∃ r : ℝ, a2 i = r) ∧ (∀ i, ∃ r : ℝ, b2 i = r) ∧ ∀ i, ∃ r : ℝ, l0 i = r := by
  haveI : Subsingleton Cert.Pre_finite3.S_.Idx := ⟨fun a b => funext fun i => i.elim0⟩
  have h0 := congrFun h (fun i : Fin 0 => i.elim0)
  obtain ⟨h0, hl⟩ := IntOp.andi_eq_one.mp h0
  obtain ⟨h0, hb2⟩ := IntOp.andi_eq_one.mp h0
  obtain ⟨h0, ha2⟩ := IntOp.andi_eq_one.mp h0
  obtain ⟨h0, hb1⟩ := IntOp.andi_eq_one.mp h0
  obtain ⟨h0, ha1⟩ := IntOp.andi_eq_one.mp h0
  obtain ⟨h0, hv⟩ := IntOp.andi_eq_one.mp h0
  obtain ⟨hq, hk⟩ := IntOp.andi_eq_one.mp h0
  exact ⟨fun i => real_of_abs_lt _ (Host.reduce_andi_all _ _ _ _ _ hq i), fun i => real_of_abs_lt _ (Host.reduce_andi_all _ _ _ _ _ hk i),
    fun i => real_of_abs_lt _ (Host.reduce_andi_all _ _ _ _ _ hv i), fun i => real_of_abs_lt _ (Host.reduce_andi_all _ _ _ _ _ ha1 i),
    fun i => real_of_abs_lt _ (Host.reduce_andi_all _ _ _ _ _ hb1 i), fun i => real_of_abs_lt _ (Host.reduce_andi_all _ _ _ _ _ ha2 i),
    fun i => real_of_abs_lt _ (Host.reduce_andi_all _ _ _ _ _ hb2 i), fun i => real_of_abs_lt _ (Host.reduce_andi_all _ _ _ _ _ hl i)⟩

/-- The factor of real vectors is a real. -/
theorem lam_real (a1 b1 a2 b2 : L32) (l0 : L1) (h1 : ∀ i, ∃ r : ℝ, a1 i = r) (h2 : ∀ i, ∃ r : ℝ, b1 i = r) (h3 : ∀ i, ∃ r : ℝ, a2 i = r)
    (h4 : ∀ i, ∃ r : ℝ, b2 i = r) (h5 : ∀ i, ∃ r : ℝ, l0 i = r) : ∃ r : ℝ, lam a1 b1 a2 b2 l0 (ix1 0) = r := by
  choose r1 h1 using h1
  choose r2 h2 using h2
  choose r3 h3 using h3
  choose r4 h4 using h4
  choose r5 h5 using h5
  refine ⟨Real.exp (∑ l : Fin 32, r1 (ix1 l) * r2 (ix1 l)) - Real.exp (∑ l : Fin 32, r3 (ix1 l) * r4 (ix1 l)) + r5 (ix1 0), ?_⟩
  rw [lam_apply]
  simp only [h1, h2, h3, h4, h5, ← EReal.coe_mul, coe_sum]
  rfl

section
variable (q k : A32) (v : A64) (rq rk : Cert.Kernel3Ideal.S4x8192x8x32.Idx → ℝ) (rv : Cert.Kernel3Ideal.S4x8192x4x64.Idx → ℝ)
  (hq : ∀ i, q i = rq i) (hk : ∀ i, k i = rk i) (hv : ∀ i, v i = rv i)

/-- The score of map `g` as a real. -/
def score (b : Fin 4) (g : Fin 8) (r t : Fin 8192) : ℝ := (∑ l : Fin 32, rq (ix4 b r g l) * rk (ix4 b t g l)) / Real.sqrt 32

include hq hk

/-- A masked scaled score of the kernel, raised to a power of two, is the exponential of the score. -/
theorem exp2_eq (b : Fin 4) (g : Fin 8) (r t : Fin 8192) :
    Ideal.exp2 (∑ l : Fin 256, flat k (ix3 b t l) * (if l.val / 32 = g.val then flat q (ix3 b r l) * scale else 0))
      = ((Real.exp (score rq rk b g r t) : ℝ) : EReal) := by
  rw [masked_dot g (fun l => flat k (ix3 b t l)) (fun l => flat q (ix3 b r l) * scale), ← exp2_score]
  refine congrArg Ideal.exp2 ?_
  have e (l : Fin 32) : flat k (ix3 b t ⟨32 * g.val + l.val, by omega⟩) * (flat q (ix3 b r ⟨32 * g.val + l.val, by omega⟩) * scale)
      = ((rk (ix4 b t g l) * (rq (ix4 b r g l) * ((Real.sqrt 32)⁻¹ * (Real.log 2)⁻¹)) : ℝ) : EReal) := by
    rw [flat_apply, flat_apply, hq, hk, EReal.coe_mul, EReal.coe_mul]
    rfl
  rw [Finset.sum_congr rfl fun l _ => e l, coe_sum]
  refine congrArg _ ?_
  unfold score
  rw [div_eq_mul_inv, Finset.sum_mul, Finset.sum_mul]
  exact Finset.sum_congr rfl fun l _ => by ring

/-- The reference's scores of equal reals. -/
theorem scores_coe (x y : FVec Ideal Cert.Reference3Ideal.S4x8192x4x32 .f32) (b h : Fin 4) (g : Fin 8) (r t : Fin 8192)
    (hx : ∀ e, x (ix4 b r h e) = q (ix4 b r g e)) (hy : ∀ e, y (ix4 b t h e) = k (ix4 b t g e)) :
    scores x y (ix4 b h r t) = ((score rq rk b g r t : ℝ) : EReal) := by
  have hs : Ideal.sqrt ((32 : ℝ) : EReal) = ((Real.sqrt 32 : ℝ) : EReal) := by
    show (if (32 : ℝ) < 0 then ⊥ else ((Real.sqrt 32 : ℝ) : EReal)) = _
    rw [if_neg (by norm_num)]
  unfold score
  rw [scores_apply, hs, ← div_coe _ _ (by positivity), ← coe_sum]
  refine congrArg (Ideal.div · _) (Finset.sum_congr rfl fun l _ => ?_)
  rw [hx, hy, hq, hk, EReal.coe_mul]

/-- The first maps' scores. -/
theorem scores0 (b h : Fin 4) (r t : Fin 8192) : scores (half0 q) (half0 k) (ix4 b h r t) = ((score rq rk b (map0 h) r t : ℝ) : EReal) :=
  have e : (⟨h.val * 2, by omega⟩ : Fin 8) = map0 h := Fin.ext (Nat.mul_comm _ _)
  scores_coe q k rq rk hq hk _ _ b h _ r t (fun l => by rw [half0_apply, e]) (fun l => by rw [half0_apply, e])

/-- The second maps' scores. -/
theorem scores1 (b h : Fin 4) (r t : Fin 8192) : scores (half1 q) (half1 k) (ix4 b h r t) = ((score rq rk b (map1 h) r t : ℝ) : EReal) :=
  have e : (⟨h.val * 2 + 1, by omega⟩ : Fin 8) = map1 h := Fin.ext (by show h.val * 2 + 1 = 2 * h.val + 1; omega)
  scores_coe q k rq rk hq hk _ _ b h _ r t (fun l => by rw [half1_apply, e]) (fun l => by rw [half1_apply, e])

/-- An unnormalised attention value of the kernel, its values given. -/
theorem wsum_eq (b : Fin 4) (g : Fin 8) (d : Fin 128) (r : Fin 8192) (w : Fin 8192 → EReal) (hw : ∀ t, padV v (ix3 b t (lane (headOf g) d)) = w t) :
    wsum (flat q) (flat k) (padV v) b g d r = ∑ t, w t * ((Real.exp (score rq rk b g r t) : ℝ) : EReal) := by
  unfold wsum
  simp only [hw, exp2_eq q k rq rk hq hk]

include hv

/-- The two programs agree on every head's lane before the normalisation. -/
theorem mix_eq (L : L1) (rL : ℝ) (hL : L (ix1 0) = rL) (b h : Fin 4) (r : Fin 8192) (d : Fin 64) :
    mix L (flat q) (flat k) (padV v) b h r d
      = mixed (normed (exps (scores (half0 q) (half0 k)))) (normed (exps (scores (half1 q) (half1 k)))) L v (ix4 b r h d) := by
  obtain ⟨M, hM⟩ := rmax_real (scores (half0 q) (half0 k)) (fun i => by
    obtain ⟨b, h, r, t, rfl⟩ : ∃ b h r t, i = ix4 b h r t := ⟨i 0, i 1, i 2, i 3, (ix4_eta _).symm⟩
    exact ⟨_, scores0 q k rq rk hq hk b h r t⟩) (ix3 b h r)
  obtain ⟨N, hN⟩ := rmax_real (scores (half1 q) (half1 k)) (fun i => by
    obtain ⟨b, h, r, t, rfl⟩ : ∃ b h r t, i = ix4 b h r t := ⟨i 0, i 1, i 2, i 3, (ix4_eta _).symm⟩
    exact ⟨_, scores1 q k rq rk hq hk b h r t⟩) (ix3 b h r)
  have e0 : headOf (map0 h) = h := Fin.ext (by show 2 * h.val / 2 = _; omega)
  have e1 : headOf (map1 h) = h := Fin.ext (by show (2 * h.val + 1) / 2 = _; omega)
  have w0 (g : Fin 8) (e : headOf g = h) (t : Fin 8192) : padV v (ix3 b t (lane (headOf g) ⟨d.val, by omega⟩)) = rv (ix4 b t h d) := by
    rw [e]; exact (padV_apply v b t h d).trans (hv _)
  have w1 (g : Fin 8) (t : Fin 8192) : padV v (ix3 b t (lane (headOf g) 64)) = 1 := padV_one v b t (headOf g)
  rw [mixed_apply]
  unfold mix
  rw [wsum_eq q k v rq rk hq hk b (map0 h) _ r _ (w0 _ e0), wsum_eq q k v rq rk hq hk b (map0 h) _ r _ (w1 _),
    wsum_eq q k v rq rk hq hk b (map1 h) _ r _ (w0 _ e1), wsum_eq q k v rq rk hq hk b (map1 h) _ r _ (w1 _), hL]
  simp only [hv, normed_apply, exps_apply, hM, hN, scores0 q k rq rk hq hk, scores1 q k rq rk hq hk]
  exact diff_eq (fun t => rv (ix4 b t h d)) (score rq rk b (map0 h) r) (score rq rk b (map1 h) r) M N rL
end

/-- The two result arrays are equal. -/
theorem result_eq (q k : A32) (v : A64) (a1 b1 a2 b2 : L32) (g : G64) (l0 : L1) (hq : ∀ i, ∃ r : ℝ, q i = r) (hk : ∀ i, ∃ r : ℝ, k i = r)
    (hv : ∀ i, ∃ r : ℝ, v i = r) (hL : ∃ r : ℝ, lam a1 b1 a2 b2 l0 (ix1 0) = r) :
    result (lam a1 b1 a2 b2 l0) (flat q) (flat k) (padV v) (gain g l0) = out q k v a1 b1 a2 b2 g l0 := by
  choose rq hq using hq
  choose rk hk using hk
  choose rv hv using hv
  obtain ⟨rL, hL⟩ := hL
  funext i
  obtain ⟨b, r, e, rfl⟩ : ∃ b r e, i = ix3 b r e := ⟨i 0, i 1, i 2, (ix3_eta _).symm⟩
  obtain ⟨h, d, rfl⟩ : ∃ (h : Fin 4) (d : Fin 64), e = ⟨64 * h.val + d.val, by omega⟩ :=
    ⟨⟨e.val / 64, by omega⟩, ⟨e.val % 64, by omega⟩, Fin.ext (by show e.val = 64 * (e.val / 64) + e.val % 64; omega)⟩
  rw [result_apply _ _ _ _ _ b r h d _ rfl]
  unfold out resultAt
  rw [finished_apply, gain_apply, ← mul_assoc]
  have em : mix (lam a1 b1 a2 b2 l0) (flat q) (flat k) (padV v) b h r = fun d => mixed (normed (exps (scores (half0 q) (half0 k))))
      (normed (exps (scores (half1 q) (half1 k)))) (lam a1 b1 a2 b2 l0) v (ix4 b r h d) :=
    funext fun d => mix_eq q k v rq rk rv hq hk hv _ rL hL b h r d
  rw [em]
  rfl

end Cert.Diff

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Pre_finite3
public import Idealize.ShloMosaic.Adequacy
public import Idealize.ShloMosaic.Init
public import Idealize.ShloMosaic.Lib.Claim
public import proofs.«01_k».proof.Proof.MlaEq
public import proofs.«01_k».proof.Proof.MergeEq
public import proofs.«01_k».proof.Proof.DiffEq

@[expose] public section

noncomputable section

namespace Cert.Proof

open Idealize.ShloMosaic Idealize.SL.Sem

/-- The reference's run ends, leaves its arguments and every semaphore counter at zero. -/
theorem frame_ReferenceIdeal : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Mla.run_out m g)

/-- The kernel over the extended reals computes the reference's attention wherever the queries and keys are finite. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have key : ∀ c : Dev Cert.KernelIdeal.nD, (Cert.KernelIdeal.Gen.dats m 0 c).arrAt 3 Cert.KernelIdeal.cfg0.N
      = Cert.ReferenceIdeal.Mla.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := fun c => by
    obtain ⟨hq, hk⟩ := Cert.Mla.real_of_pre _ _ _ (hpre c)
    rw [Cert.KernelIdeal.Mla.final, Cert.KernelIdeal.Mla.V1, Cert.KernelIdeal.Mla.V4, Cert.KernelIdeal.Mla.V9]
    exact Cert.Mla.result_eq _ _ _ hq hk
  refine ⟨_, (θ_run _ _ _).mono (fun r h c => h c) (Cert.KernelIdeal.Value.run_blocks m g),
    (θ_run _ _ _).mono (fun r h c => ⟨(h c).1.trans ?_, (h c).2⟩) (Cert.ReferenceIdeal.Mla.run_out m' g')⟩
  obtain ⟨e0, e1, e2⟩ := hagree c
  rw [e0, e1, e2]
  exact (key c).symm

/-- The second reference's run ends, leaves its arguments and every semaphore counter at zero. -/
theorem frame_Reference2Ideal : Cert.quiescent_Reference2Ideal (hReference2Ideal := Cert.Reference2Ideal.Gen.facts) := fun m g _ =>
  (θ_run _ _ _).mono (fun r h => ⟨fun c => (h c).2, sem_eq_zero_of_no_sems rfl r.2⟩) (Cert.Reference2Ideal.Value.run m g)

/-- The second kernel over the extended reals computes the reference's merge and feed-forward. -/
theorem algebraic2 : Cert.algebraic_Kernel2Ideal_Reference2Ideal (hKernel2Ideal := Cert.Kernel2Ideal.Gen.facts)
    (hReference2Ideal := Cert.Reference2Ideal.Gen.facts) := by
  intro m g m' g' hpre hagree
  refine ⟨_, (θ_run _ _ _).mono (fun r h c => h c) (Cert.Kernel2Ideal.Value.run_blocks m g),
    (θ_run _ _ _).mono (fun r h c => ⟨(h c).1.trans ?_, (h c).2⟩) (Cert.Reference2Ideal.Value.run m' g')⟩
  rw [Cert.Merge.kernel_eq, Cert.Reference2Ideal.Merge.res_eq]
  obtain ⟨e0, e1, e2, e3, e4, e5, e6, e7, e8, e9, e10, e11, e12, e13, e14⟩ := hagree c
  rw [e0, e1, e2, e3, e4, e5, e6, e7, e8, e9, e10, e11, e12, e13, e14]

/-- The third reference's run ends, leaves its arguments and every semaphore counter at zero. -/
theorem frame_Reference3Ideal : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

/-- The third kernel over the extended reals computes the reference's differential attention wherever the arrays but the gain
    are finite. -/
theorem algebraic3 : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  have key : ∀ c : Dev Cert.Kernel3Ideal.nD, (Cert.Kernel3Ideal.Gen.dats m 0 c).arrAt 5 Cert.Kernel3Ideal.cfg0.N
      = Cert.Reference3Ideal.Diff.out (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7))
        (m ((c.tc : Thread Cert.Kernel3Ideal.nD Cert.Kernel3Ideal.τ).loc Cert.Kernel3Ideal.main_arg8)) := fun c => by
    obtain ⟨hq, hk, hv, h1, h2, h3, h4, h5⟩ := Cert.Diff.real_of_pre _ _ _ _ _ _ _ _ _ (hpre c)
    obtain ⟨e1, e2, e3, e4, e5⟩ := Cert.Kernel3Ideal.Diff.windows m c
    rw [Cert.Kernel3Ideal.Diff.final, e1, e2, e3, e4, e5]
    exact Cert.Diff.result_eq _ _ _ _ _ _ _ _ _ hq hk hv (Cert.Diff.lam_real _ _ _ _ _ h1 h2 h3 h4 h5)
  refine ⟨_, (θ_run _ _ _).mono (fun r h c => h c) (Cert.Kernel3Ideal.Value.run_blocks m g),
    (θ_run _ _ _).mono (fun r h c => ⟨(h c).1.trans ?_, (h c).2⟩) (Cert.Reference3Ideal.Value.run m' g')⟩
  rw [Cert.Reference3Ideal.Diff.res_eq]
  obtain ⟨e0, e1, e2, e3, e4, e5, e6, e7, e8⟩ := hagree c
  rw [e0, e1, e2, e3, e4, e5, e6, e7, e8]
  exact (key c).symm

/-- The claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_finite3.Gen.facts,
  fun m g _ => Cert.Kernel.Gen.frame m g, fun m g _ => Cert.KernelIdeal.Gen.frame m g, fun m g _ => Cert.KernelIdeal.Gen.frame m g,
  frame_ReferenceIdeal, fun m g _ => frame_ReferenceIdeal m g trivial,
  fun m g _ => Cert.Kernel2.Gen.frame m g, fun m g _ => Cert.Kernel2Ideal.Gen.frame m g, frame_Reference2Ideal,
  fun m g _ => Cert.Kernel3.Gen.frame m g, fun m g _ => Cert.Kernel3Ideal.Gen.frame m g, fun m g _ => Cert.Kernel3Ideal.Gen.frame m g,
  frame_Reference3Ideal, fun m g _ => frame_Reference3Ideal m g trivial,
  IdealRules.named_const.statement Cert.KernelIdeal.κ "qscale" .f32 0x3E16C740#32 _ rfl, algebraic, trivial, algebraic2,
  IdealRules.named_const.statement Cert.Kernel3Ideal.κ "dscale" .f32 0x3E8293EE#32 _ rfl, algebraic3⟩

end Cert.Proof

end
